-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def preserves_Kernel_KernelIdeal : Prop :=
  IdealRules.named_const.Statement Cert.KernelIdeal.κ "scale_log2e" .f32 0x3E0293EE#32 (((Real.sqrt 128)⁻¹ * (Real.log 2)⁻¹ : ℝ) : EReal)
  ∧ IdealRules.named_const.Statement Cert.KernelIdeal.κ "scale" .f32 0x3DB504F3#32 (((Real.sqrt 128)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v64_0)) (v1 : (c : Dev Cert.KernelIdeal.nD) → Buf (Elt Ideal) ((c.tc : Thread Cert.KernelIdeal.nD Cert.KernelIdeal.τ).loc Cert.KernelIdeal.main_v64_1)) (v2 : (c : Dev Cert.KernelIdeal.nD) → Buf (Elt Ideal) ((c.tc : Thread Cert.KernelIdeal.nD Cert.KernelIdeal.τ).loc Cert.KernelIdeal.main_v64_2)) (v3 : (c : Dev Cert.KernelIdeal.nD) → Buf (Elt Ideal) ((c.tc : Thread Cert.KernelIdeal.nD Cert.KernelIdeal.τ).loc Cert.KernelIdeal.main_v64_3)) (v4 : (c : Dev Cert.KernelIdeal.nD) → Buf (Elt Ideal) ((c.tc : Thread Cert.KernelIdeal.nD Cert.KernelIdeal.τ).loc Cert.KernelIdeal.main_v64_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64_0) = v0 c
          ∧ r.2.mem ((c.tc : Thread Cert.KernelIdeal.nD Cert.KernelIdeal.τ).loc Cert.KernelIdeal.main_v64_1) = v1 c
          ∧ r.2.mem ((c.tc : Thread Cert.KernelIdeal.nD Cert.KernelIdeal.τ).loc Cert.KernelIdeal.main_v64_2) = v2 c
          ∧ r.2.mem ((c.tc : Thread Cert.KernelIdeal.nD Cert.KernelIdeal.τ).loc Cert.KernelIdeal.main_v64_3) = v3 c
          ∧ r.2.mem ((c.tc : Thread Cert.KernelIdeal.nD Cert.KernelIdeal.τ).loc Cert.KernelIdeal.main_v64_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_v98) = v2 c
          ∧ r.2.mem ((c.tc : Thread Cert.ReferenceIdeal.nD Cert.ReferenceIdeal.τ).loc Cert.ReferenceIdeal.main_v100) = v3 c
          ∧ r.2.mem ((c.tc : Thread Cert.ReferenceIdeal.nD Cert.ReferenceIdeal.τ).loc Cert.ReferenceIdeal.main_v102) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S8192x3072 : Shape := ⟨2, ![8192, 3072]⟩
abbrev S8192x8 : Shape := ⟨2, ![8192, 8]⟩
abbrev S8192x1024 : Shape := ⟨2, ![8192, 1024]⟩
abbrev S_ : Shape := ⟨0, ![]⟩

class Facts : Prop where
  bitsLt_bf16_f32 : FTy.bits .bf16 < FTy.bits .f32
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S8192x8 : S_.BroadcastsInDim S8192x8 (![] : Fin 0 → Fin S8192x8.rank)
  reducesTo_S8192x8_S_d0_1 : S8192x8.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S8192x3072 .bf16) (main_arg1 : FVec F S8192x8 .f32) (main_arg2 : FVec F S8192x1024 .bf16) : IVec S_ 1 :=
  let main_v0 : FVec F S8192x3072 .f32 := (extf .f32 · bitsLt_bf16_f32) main_arg0
  let main_v1 : FVec F S8192x3072 .f32 := Host.absf main_v0
  let main_cst : FVec F S_ .f32 := constant S_ .f32 0x7F800000#32
  let main_v2 : FVec F S8192x3072 .f32 := broadcastInDim S8192x3072 ![] bcast_S_S8192x3072 main_cst
  let main_v3 : IVec S8192x3072 1 := cmpf .olt main_v1 main_v2
  let main_c : IVec S_ 1 := constantI S_ 1 1#1
  let main_v4 : IVec S_ 1 := (fun x v => Host.reduce IntOp.andi x v reducesTo_S8192x3072_S_d0_1 h_S_) main_v3 main_c
  let main_v5 : FVec F S8192x8 .f32 := Host.absf main_arg1
  let main_cst_0 : FVec F S_ .f32 := constant S_ .f32 0x7F800000#32
  let main_v6 : FVec F S8192x8 .f32 := broadcastInDim S8192x8 ![] bcast_S_S8192x8 main_cst_0
  let main_v7 : IVec S8192x8 1 := cmpf .olt main_v5 main_v6
  let main_c_1 : IVec S_ 1 := constantI S_ 1 1#1
  let main_v8 : IVec S_ 1 := (fun x v => Host.reduce IntOp.andi x v reducesTo_S8192x8_S_d0_1 h_S_) main_v7 main_c_1
  let main_v9 : IVec S_ 1 := andi main_v4 main_v8
  let main_v10 : FVec F S8192x1024 .f32 := (extf .f32 · bitsLt_bf16_f32) main_arg2
  let main_v11 : FVec F S8192x1024 .f32 := Host.absf main_v10
  let main_cst_2 : FVec F S_ .f32 := constant S_ .f32 0x7F800000#32
  let main_v12 : FVec F S8192x1024 .f32 := broadcastInDim S8192x1024 ![] bcast_S_S8192x1024 main_cst_2
  let main_v13 : IVec S8192x1024 1 := cmpf .olt main_v11 main_v12
  let main_c_3 : IVec S_ 1 := constantI S_ 1 1#1
  let main_v14 : IVec S_ 1 := (fun x v => Host.reduce IntOp.andi x v reducesTo_S8192x1024_S_d0_1 h_S_) main_v13 main_c_3
  let main_v15 : IVec S_ 1 := andi main_v9 main_v14
  main_v15
-- ==== Kernel.lean ====
abbrev S8192x3072 : Shape := ⟨2, ![8192, 3072]⟩
abbrev S8192x8 : Shape := ⟨2, ![8192, 8]⟩
abbrev S8192x1024 : Shape := ⟨2, ![8192, 1024]⟩
abbrev S8192x8x128 : Shape := ⟨3, ![8192, 8, 128]⟩
abbrev S8x8192x8192 : Shape := ⟨3, ![8, 8192, 8192]⟩
abbrev S_ : Shape := ⟨0, ![]⟩
abbrev S8x8192 : Shape := ⟨2, ![8, 8192]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192x1 : Shape := ⟨3, ![8, 8192, 1]⟩
abbrev S8x128x8192 : Shape := ⟨3, ![8, 128, 8192]⟩
abbrev S8x8192x128 : Shape := ⟨3, ![8, 8192, 128]⟩
abbrev S8x16x1x512 : Shape := ⟨4, ![8, 16, 1, 512]⟩
abbrev S8192x128 : Shape := ⟨2, ![8192, 128]⟩
abbrev S512x128 : Shape := ⟨2, ![512, 128]⟩
abbrev S1x512x128 : Shape := ⟨3, ![1, 512, 128]⟩
abbrev S1x16x1x512 : Shape := ⟨4, ![1, 16, 1, 512]⟩
abbrev S1x512x1 : Shape := ⟨3, ![1, 512, 1]⟩
abbrev S1x1x1x512 : Shape := ⟨4, ![1, 1, 1, 512]⟩
abbrev S1x512 : Shape := ⟨2, ![1, 512]⟩
abbrev S512x512 : Shape := ⟨2, ![512, 512]⟩
abbrev S512 : Shape := ⟨1, ![512]⟩
abbrev S512x1 : Shape := ⟨2, ![512, 1]⟩

abbrev nBuf : Space → Nat
  | .hbm => 88
  | .vmem => 28
  | .smem => 0
  | _ => 0

abbrev bufTy : (tb : Table) → Fin (tcTables nBuf tb) → BufTy
  | .hbm, ⟨0, _⟩ => ⟨S8192x3072, .bf16⟩
  | .hbm, ⟨1, _⟩ => ⟨S8192x8, .f32⟩
  | .hbm, ⟨2, _⟩ => ⟨S8192x1024, .bf16⟩
  | .hbm, ⟨3, _⟩ => ⟨S8192x3072, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x8x128, .f32⟩
  | .hbm, ⟨8, _⟩ => ⟨S8192x8x128, .f32⟩
  | .hbm, ⟨9, _⟩ => ⟨S8192x8x128, .f32⟩
  | .hbm, ⟨10, _⟩ => ⟨S8x8192x8192, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S8x8192x8192, .f32⟩
  | .hbm, ⟨16, _⟩ => ⟨S8x8192x8192, .f32⟩
  | .hbm, ⟨17, _⟩ => ⟨S8x8192, .f32⟩
  | .hbm, ⟨18, _⟩ => ⟨S8x1x8192, .f32⟩
  | .hbm, ⟨19, _⟩ => ⟨S8x8192x8192, .f32⟩
  | .hbm, ⟨20, _⟩ => ⟨S8x8192x8192, .f32⟩
  | .hbm, ⟨21, _⟩ => ⟨S8192, .i32⟩
  | .hbm, ⟨22, _⟩ => ⟨S1x8192, .i32⟩
  | .hbm, ⟨23, _⟩ => ⟨S8192, .i32⟩
  | .hbm, ⟨24, _⟩ => ⟨S8192x1, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S_, .f32⟩
  | .hbm, ⟨29, _⟩ => ⟨S_, .f32⟩
  | .hbm, ⟨30, _⟩ => ⟨S8x8192x8192, .i1⟩
  | .hbm, ⟨31, _⟩ => ⟨S8x8192x8192, .f32⟩
  | .hbm, ⟨32, _⟩ => ⟨S8x8192x8192, .f32⟩
  | .hbm, ⟨33, _⟩ => ⟨S_, .f32⟩
  | .hbm, ⟨34, _⟩ => ⟨S8x8192, .f32⟩
  | .hbm, ⟨35, _⟩ => ⟨S_, .f32⟩
  | .hbm, ⟨36, _⟩ => ⟨S8x8192, .f32⟩
  | .hbm, ⟨37, _⟩ => ⟨S8x8192, .f32⟩
  | .hbm, ⟨38, _⟩ => ⟨S8x8192x1, .f32⟩
  | .hbm, ⟨39, _⟩ => ⟨S8x8192x8192, .f32⟩
  | .hbm, ⟨40, _⟩ => ⟨S8x8192x8192, .f32⟩
  | .hbm, ⟨41, _⟩ => ⟨S8x8192x8192, .f32⟩
  | .hbm, ⟨42, _⟩ => ⟨S_, .f32⟩
  | .hbm, ⟨43, _⟩ => ⟨S8x8192, .f32⟩
  | .hbm, ⟨44, _⟩ => ⟨S8x8192x1, .f32⟩
  | .hbm, ⟨45, _⟩ => ⟨S8x8192x8192, .f32⟩
  | .hbm, ⟨46, _⟩ => ⟨S8x8192x8192, .f32⟩
  | .hbm, ⟨47, _⟩ => ⟨S8x128x8192, .f32⟩
  | .hbm, ⟨48, _⟩ => ⟨S8192x8x128, .f32⟩
  | .hbm, ⟨49, _⟩ => ⟨S8192x1024, .f32⟩
  | .hbm, ⟨50, _⟩ => ⟨S8192x8x128, .f32⟩
  | .hbm, ⟨51, _⟩ => ⟨S8192x8x128, .f32⟩
  | .hbm, ⟨52, _⟩ => ⟨S_, .f32⟩
  | .hbm, ⟨53, _⟩ => ⟨S8192x8, .f32⟩
  | .hbm, ⟨54, _⟩ => ⟨S8x8192, .f32⟩
  | .hbm, ⟨55, _⟩ => ⟨S_, .f32⟩
  | .hbm, ⟨56, _⟩ => ⟨S8x8192, .f32⟩
  | .hbm, ⟨57, _⟩ => ⟨S8x8192x1, .f32⟩
  | .hbm, ⟨58, _⟩ => ⟨S8x8192x8192, .f32⟩
  | .hbm, ⟨59, _⟩ => ⟨S8x8192x8192, .f32⟩
  | .hbm, ⟨60, _⟩ => ⟨S8x8192x8192, .f32⟩
  | .hbm, ⟨61, _⟩ => ⟨S_, .f32⟩
  | .hbm, ⟨62, _⟩ => ⟨S8x8192, .f32⟩
  | .hbm, ⟨63, _⟩ => ⟨S8x8192, .f32⟩
  | .hbm, ⟨64, _⟩ => ⟨S8x8192, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S8x8192, .f32⟩
  | .hbm, ⟨70, _⟩ => ⟨S8x8192, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S8x8192, .f32⟩
  | .hbm, ⟨77, _⟩ => ⟨S8x8192, .f32⟩
  | .hbm, ⟨78, _⟩ => ⟨S8x8192, .f32⟩
  | .hbm, ⟨79, _⟩ => ⟨S8x8192x1, .f32⟩
  | .hbm, ⟨80, _⟩ => ⟨S8x8192x128, .f32⟩
  | .hbm, ⟨81, _⟩ => ⟨S8x16x1x512, .f32⟩
  | .hbm, ⟨82, _⟩ => ⟨S8x16x1x512, .f32⟩
  | .hbm, ⟨83, _⟩ => ⟨S8192x1024, .bf16⟩
  | .hbm, ⟨84, _⟩ => ⟨S8192x1024, .bf16⟩
  | .hbm, ⟨85, _⟩ => ⟨S8192x1024, .bf16⟩
  | .hbm, ⟨86, _⟩ => ⟨S8x16x1x512, .f32⟩
  | .hbm, ⟨87, _⟩ => ⟨S8x8192x1, .f32⟩
  | .local _ .vmem, ⟨0, _⟩ => ⟨S8192x128, .bf16⟩
  | .local _ .vmem, ⟨1, _⟩ => ⟨S8192x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S1x512x128, .f32⟩
  | .local _ .vmem, ⟨7, _⟩ => ⟨S1x512x128, .f32⟩
  | .local _ .vmem, ⟨8, _⟩ => ⟨S8192x128, .bf16⟩
  | .local _ .vmem, ⟨9, _⟩ => ⟨S8192x128, .bf16⟩
  | .local _ .vmem, ⟨10, _⟩ => ⟨S1x16x1x512, .f32⟩
  | .local _ .vmem, ⟨11, _⟩ => ⟨S1x16x1x512, .f32⟩
  | .local _ .vmem, ⟨12, _⟩ => ⟨S1x16x1x512, .f32⟩
  | .local _ .vmem, ⟨13, _⟩ => ⟨S1x16x1x512, .f32⟩
  | .local _ .vmem, ⟨14, _⟩ => ⟨S8192x128, .bf16⟩
  | .local _ .vmem, ⟨15, _⟩ => ⟨S8192x128, .bf16⟩
  | .local _ .vmem, ⟨16, _⟩ => ⟨S512x128, .bf16⟩
  | .local _ .vmem, ⟨17, _⟩ => ⟨S512x128, .bf16⟩
  | .local _ .vmem, ⟨18, _⟩ => ⟨S512x128, .bf16⟩
  | .local _ .vmem, ⟨19, _⟩ => ⟨S512x128, .bf16⟩
  | .local _ .vmem, ⟨20, _⟩ => ⟨S1x16x1x512, .f32⟩
  | .local _ .vmem, ⟨21, _⟩ => ⟨S1x16x1x512, .f32⟩
  | .local _ .vmem, ⟨22, _⟩ => ⟨S1x512x1, .f32⟩
  | .local _ .vmem, ⟨23, _⟩ => ⟨S1x512x1, .f32⟩
  | .local _ .vmem, ⟨24, _⟩ => ⟨S8192x128, .f32⟩
  | .local _ .vmem, ⟨25, _⟩ => ⟨S512x128, .f32⟩
  | .local _ .vmem, ⟨26, _⟩ => ⟨S512x128, .f32⟩
  | .local _ .vmem, ⟨27, _⟩ => ⟨S512x128, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_cst_9 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_10 : Ref sig .tc := ⟨.hbm, 71, rfl⟩
abbrev main_v54 : Ref sig .tc := ⟨.hbm, 72, rfl⟩
abbrev main_cst_11 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64_0 : Ref sig .tc := ⟨.hbm, 83, rfl⟩
abbrev main_v64_1 : Ref sig .tc := ⟨.hbm, 84, rfl⟩
abbrev main_v64_2 : Ref sig .tc := ⟨.hbm, 85, rfl⟩
abbrev main_v64_3 : Ref sig .tc := ⟨.hbm, 86, rfl⟩
abbrev main_v64_4 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c512_i32 : BitVec 32 := 512#32
  let v16 : BitVec 32 := Scalar.muli arg1 c512_i32
  v16
def k0_off1 (i : grid0.Coords) : Fin 2 → Nat :=
  let arg1 : BitVec 32 := BitVec.ofNat 32 (i 1).val
  let c512_i32 : BitVec 32 := 512#32
  let v16 : BitVec 32 := Scalar.muli arg1 c512_i32
  let v17 : BitVec 32 := v16
  let v18 : Index := Scalar.indexCast v17
  let c0_10 : Index := 0#32
  ![v18.toNat, 0]
def k0_off2 (i : grid0.Coords) : Fin 4 → Nat :=
  let c0_17 : Index := 0#32
  let arg1 : BitVec 32 := BitVec.ofNat 32 (i 1).val
  let v25 : Index := Scalar.indexCast arg1
  let c0_18 : Index := 0#32
  let c0_19 : Index := 0#32
  ![0, v25.toNat, 0, 0]
@[reducible] def k0_t1_loop (i : grid0.Coords) : Scf.Loop 32 :=
  let c0_i32_57 : BitVec 32 := 0#32
  let c15_i32 : BitVec 32 := 15#32
  let arg1 : BitVec 32 := BitVec.ofNat 32 (i 1).val
  let v92 : BitVec 32 := Scalar.subi c15_i32 arg1
  let c0_i32_51 : BitVec 32 := 0#32
  let v94 : BitVec 1 := Scalar.cmpi .sgt v92 c0_i32_51
  let v95 : BitVec 32 := Scalar.extui v94
  let c0_i32_52 : BitVec 32 := 0#32
  let v96 : BitVec 1 := Scalar.cmpi .slt v92 c0_i32_52
  let v97 : BitVec 32 := Scalar.extui v96
  let v98 : BitVec 32 := Scalar.subi v95 v97
  let c2_i32 : BitVec 32 := 2#32
  let c0_i32_53 : BitVec 32 := 0#32
  let v99 : BitVec 1 := Scalar.cmpi .sgt c2_i32 c0_i32_53
  let v100 : BitVec 32 := Scalar.extui v99
  let c0_i32_54 : BitVec 32 := 0#32
  let v101 : BitVec 1 := Scalar.cmpi .slt c2_i32 c0_i32_54
  let v102 : BitVec 32 := Scalar.extui v101
  let v103 : BitVec 32 := Scalar.subi v100 v102
  let v104 : BitVec 1 := Scalar.cmpi .ne v98 v103
  let v105 : BitVec 32 := Scalar.remsi v92 c2_i32
  let c0_i32_55 : BitVec 32 := 0#32
  let v106 : BitVec 1 := Scalar.cmpi .ne v105 c0_i32_55
  let v107 : BitVec 1 := Scalar.andi v104 v106
  let v93 : BitVec 32 := Scalar.divsi v92 c2_i32
  let c1_i32 : BitVec 32 := 1#32
  let v108 : BitVec 32 := Scalar.subi v93 c1_i32
  let v109 : BitVec 32 := Scalar.select v107 v108 v93
  let v110 : BitVec 32 := Scalar.subi v109 c0_i32_57
  let c1_i32_58 : BitVec 32 := 1#32
  let v112 : BitVec 32 := Scalar.divsi v110 c1_i32_58
  let v113 : BitVec 32 := Scalar.muli v112 c1_i32_58
  let v114 : BitVec 32 := Scalar.addi c0_i32_57 v113
  let c1_i32_59 : BitVec 32 := 1#32
  ⟨c0_i32_57, v114, c1_i32_59⟩
def k0_mult2 (i : grid0.Coords) (k0_t1 : Fin (k0_t1_loop i).trips) : BitVec 32 :=
  let arg1 : BitVec 32 := BitVec.ofNat 32 (i 1).val
  let c1_i32_86 : BitVec 32 := 1#32
  let v145 : BitVec 32 := Scalar.addi arg1 c1_i32_86
  let c2_i32_87 : BitVec 32 := 2#32
  let c0_i32_57 : BitVec 32 := 0#32
  let c1_i32_59 : BitVec 32 := 1#32
  let arg18 : BitVec 32 := Scf.iv c0_i32_57 c1_i32_59 k0_t1
  let v146 : BitVec 32 := Scalar.muli c2_i32_87 arg18
  let v147 : BitVec 32 := Scalar.addi v145 v146
  let c512_i32_88 : BitVec 32 := 512#32
  let v148 : BitVec 32 := Scalar.muli v147 c512_i32_88
  v148
def k0_off3 (i : grid0.Coords) (k0_t1 : Fin (k0_t1_loop i).trips) (c1_i32_86 : BitVec 32) : Fin 2 → Nat :=
  let arg1 : BitVec 32 := BitVec.ofNat 32 (i 1).val
  let v145 : BitVec 32 := Scalar.addi arg1 c1_i32_86
  let c2_i32_87 : BitVec 32 := 2#32
  let c0_i32_57 : BitVec 32 := 0#32
  let c1_i32_59 : BitVec 32 := 1#32
  let arg18 : BitVec 32 := Scf.iv c0_i32_57 c1_i32_59 k0_t1
  let v146 : BitVec 32 := Scalar.muli c2_i32_87 arg18
  let v147 : BitVec 32 := Scalar.addi v145 v146
  let c512_i32_88 : BitVec 32 := 512#32
  let v148 : BitVec 32 := Scalar.muli v147 c512_i32_88
  let v149 : BitVec 32 := v148
  let v150 : Index := Scalar.indexCast v149
  let c0_89 : Index := 0#32
  ![v150.toNat, 0]
def k0_off4 (i : grid0.Coords) (k0_t1 : Fin (k0_t1_loop i).trips) (c1_i32_86 : BitVec 32) : Fin 4 → Nat :=
  let c0_96 : Index := 0#32
  let arg1 : BitVec 32 := BitVec.ofNat 32 (i 1).val
  let v145 : BitVec 32 := Scalar.addi arg1 c1_i32_86
  let c2_i32_87 : BitVec 32 := 2#32
  let c0_i32_57 : BitVec 32 := 0#32
  let c1_i32_59 : BitVec 32 := 1#32
  let arg18 : BitVec 32 := Scf.iv c0_i32_57 c1_i32_59 k0_t1
  let v146 : BitVec 32 := Scalar.muli c2_i32_87 arg18
  let v147 : BitVec 32 := Scalar.addi v145 v146
  let v157 : Index := Scalar.indexCast v147
  let c0_97 : Index := 0#32
  let c0_98 : Index := 0#32
  ![0, v157.toNat, 0, 0]
def k0_mult3 (i : grid0.Coords) (k0_t1 : Fin (k0_t1_loop i).trips) : BitVec 32 :=
  let arg1 : BitVec 32 := BitVec.ofNat 32 (i 1).val
  let c2_i32_129 : BitVec 32 := 2#32
  let v219 : BitVec 32 := Scalar.addi arg1 c2_i32_129
  let c2_i32_130 : BitVec 32 := 2#32
  let c0_i32_57 : BitVec 32 := 0#32
  let c1_i32_59 : BitVec 32 := 1#32
  let arg18 : BitVec 32 := Scf.iv c0_i32_57 c1_i32_59 k0_t1
  let v220 : BitVec 32 := Scalar.muli c2_i32_130 arg18
  let v221 : BitVec 32 := Scalar.addi v219 v220
  let c512_i32_131 : BitVec 32 := 512#32
  let v222 : BitVec 32 := Scalar.muli v221 c512_i32_131
  v222
@[reducible] def k0_t2_loop (i : grid0.Coords) : Scf.Loop 32 :=
  let c0_i32_57 : BitVec 32 := 0#32
  let c15_i32 : BitVec 32 := 15#32
  let arg1 : BitVec 32 := BitVec.ofNat 32 (i 1).val
  let v92 : BitVec 32 := Scalar.subi c15_i32 arg1
  let c0_i32_51 : BitVec 32 := 0#32
  let v94 : BitVec 1 := Scalar.cmpi .sgt v92 c0_i32_51
  let v95 : BitVec 32 := Scalar.extui v94
  let c0_i32_52 : BitVec 32 := 0#32
  let v96 : BitVec 1 := Scalar.cmpi .slt v92 c0_i32_52
  let v97 : BitVec 32 := Scalar.extui v96
  let v98 : BitVec 32 := Scalar.subi v95 v97
  let c2_i32 : BitVec 32 := 2#32
  let c0_i32_53 : BitVec 32 := 0#32
  let v99 : BitVec 1 := Scalar.cmpi .sgt c2_i32 c0_i32_53
  let v100 : BitVec 32 := Scalar.extui v99
  let c0_i32_54 : BitVec 32 := 0#32
  let v101 : BitVec 1 := Scalar.cmpi .slt c2_i32 c0_i32_54
  let v102 : BitVec 32 := Scalar.extui v101
  let v103 : BitVec 32 := Scalar.subi v100 v102
  let v104 : BitVec 1 := Scalar.cmpi .ne v98 v103
  let v105 : BitVec 32 := Scalar.remsi v92 c2_i32
  let c0_i32_55 : BitVec 32 := 0#32
  let v106 : BitVec 1 := Scalar.cmpi .ne v105 c0_i32_55
  let v107 : BitVec 1 := Scalar.andi v104 v106
  let v93 : BitVec 32 := Scalar.divsi v92 c2_i32
  let c1_i32 : BitVec 32 := 1#32
  let v108 : BitVec 32 := Scalar.subi v93 c1_i32
  let v109 : BitVec 32 := Scalar.select v107 v108 v93
  let v110 : BitVec 32 := Scalar.subi v109 c0_i32_57
  let c1_i32_58 : BitVec 32 := 1#32
  let v112 : BitVec 32 := Scalar.divsi v110 c1_i32_58
  let v113 : BitVec 32 := Scalar.muli v112 c1_i32_58
  let v114 : BitVec 32 := Scalar.addi c0_i32_57 v113
  let v111 : BitVec 32 := Scalar.addi c0_i32_57 v110
  let c1_i32_60 : BitVec 32 := 1#32
  ⟨v114, v111, c1_i32_60⟩
def k0_mult4 (i : grid0.Coords) (k0_t2 : Fin (k0_t2_loop i).trips) : BitVec 32 :=
  let arg1 : BitVec 32 := BitVec.ofNat 32 (i 1).val
  let c1_i32_86 : BitVec 32 := 1#32
  let v145 : BitVec 32 := Scalar.addi arg1 c1_i32_86
  let c2_i32_87 : BitVec 32 := 2#32
  let c0_i32_57 : BitVec 32 := 0#32
  let c15_i32 : BitVec 32 := 15#32
  let v92 : BitVec 32 := Scalar.subi c15_i32 arg1
  let c0_i32_51 : BitVec 32 := 0#32
  let v94 : BitVec 1 := Scalar.cmpi .sgt v92 c0_i32_51
  let v95 : BitVec 32 := Scalar.extui v94
  let c0_i32_52 : BitVec 32 := 0#32
  let v96 : BitVec 1 := Scalar.cmpi .slt v92 c0_i32_52
  let v97 : BitVec 32 := Scalar.extui v96
  let v98 : BitVec 32 := Scalar.subi v95 v97
  let c2_i32 : BitVec 32 := 2#32
  let c0_i32_53 : BitVec 32 := 0#32
  let v99 : BitVec 1 := Scalar.cmpi .sgt c2_i32 c0_i32_53
  let v100 : BitVec 32 := Scalar.extui v99
  let c0_i32_54 : BitVec 32 := 0#32
  let v101 : BitVec 1 := Scalar.cmpi .slt c2_i32 c0_i32_54
  let v102 : BitVec 32 := Scalar.extui v101
  let v103 : BitVec 32 := Scalar.subi v100 v102
  let v104 : BitVec 1 := Scalar.cmpi .ne v98 v103
  let v105 : BitVec 32 := Scalar.remsi v92 c2_i32
  let c0_i32_55 : BitVec 32 := 0#32
  let v106 : BitVec 1 := Scalar.cmpi .ne v105 c0_i32_55
  let v107 : BitVec 1 := Scalar.andi v104 v106
  let v93 : BitVec 32 := Scalar.divsi v92 c2_i32
  let c1_i32 : BitVec 32 := 1#32
  let v108 : BitVec 32 := Scalar.subi v93 c1_i32
  let v109 : BitVec 32 := Scalar.select v107 v108 v93
  let v110 : BitVec 32 := Scalar.subi v109 c0_i32_57
  let c1_i32_58 : BitVec 32 := 1#32
  let v112 : BitVec 32 := Scalar.divsi v110 c1_i32_58
  let v113 : BitVec 32 := Scalar.muli v112 c1_i32_58
  let v114 : BitVec 32 := Scalar.addi c0_i32_57 v113
  let c1_i32_60 : BitVec 32 := 1#32
  let arg18 : BitVec 32 := Scf.iv v114 c1_i32_60 k0_t2
  let v146 : BitVec 32 := Scalar.muli c2_i32_87 arg18
  let v147 : BitVec 32 := Scalar.addi v145 v146
  let c512_i32_88 : BitVec 32 := 512#32
  let v148 : BitVec 32 := Scalar.muli v147 c512_i32_88
  v148
def k0_off5 (i : grid0.Coords) (k0_t2 : Fin (k0_t2_loop i).trips) (c1_i32_86 : BitVec 32) : Fin 2 → Nat :=
  let arg1 : BitVec 32 := BitVec.ofNat 32 (i 1).val
  let v145 : BitVec 32 := Scalar.addi arg1 c1_i32_86
  let c2_i32_87 : BitVec 32 := 2#32
  let c0_i32_57 : BitVec 32 := 0#32
  let c15_i32 : BitVec 32 := 15#32
  let v92 : BitVec 32 := Scalar.subi c15_i32 arg1
  let c0_i32_51 : BitVec 32 := 0#32
  let v94 : BitVec 1 := Scalar.cmpi .sgt v92 c0_i32_51
  let v95 : BitVec 32 := Scalar.extui v94
  let c0_i32_52 : BitVec 32 := 0#32
  let v96 : BitVec 1 := Scalar.cmpi .slt v92 c0_i32_52
  let v97 : BitVec 32 := Scalar.extui v96
  let v98 : BitVec 32 := Scalar.subi v95 v97
  let c2_i32 : BitVec 32 := 2#32
  let c0_i32_53 : BitVec 32 := 0#32
  let v99 : BitVec 1 := Scalar.cmpi .sgt c2_i32 c0_i32_53
  let v100 : BitVec 32 := Scalar.extui v99
  let c0_i32_54 : BitVec 32 := 0#32
  let v101 : BitVec 1 := Scalar.cmpi .slt c2_i32 c0_i32_54
  let v102 : BitVec 32 := Scalar.extui v101
  let v103 : BitVec 32 := Scalar.subi v100 v102
  let v104 : BitVec 1 := Scalar.cmpi .ne v98 v103
  let v105 : BitVec 32 := Scalar.remsi v92 c2_i32
  let c0_i32_55 : BitVec 32 := 0#32
  let v106 : BitVec 1 := Scalar.cmpi .ne v105 c0_i32_55
  let v107 : BitVec 1 := Scalar.andi v104 v106
  let v93 : BitVec 32 := Scalar.divsi v92 c2_i32
  let c1_i32 : BitVec 32 := 1#32
  let v108 : BitVec 32 := Scalar.subi v93 c1_i32
  let v109 : BitVec 32 := Scalar.select v107 v108 v93
  let v110 : BitVec 32 := Scalar.subi v109 c0_i32_57
  let c1_i32_58 : BitVec 32 := 1#32
  let v112 : BitVec 32 := Scalar.divsi v110 c1_i32_58
  let v113 : BitVec 32 := Scalar.muli v112 c1_i32_58
  let v114 : BitVec 32 := Scalar.addi c0_i32_57 v113
  let c1_i32_60 : BitVec 32 := 1#32
  let arg18 : BitVec 32 := Scf.iv v114 c1_i32_60 k0_t2
  let v146 : BitVec 32 := Scalar.muli c2_i32_87 arg18
  let v147 : BitVec 32 := Scalar.addi v145 v146
  let c512_i32_88 : BitVec 32 := 512#32
  let v148 : BitVec 32 := Scalar.muli v147 c512_i32_88
  let v149 : BitVec 32 := v148
  let v150 : Index := Scalar.indexCast v149
  let c0_89 : Index := 0#32
  ![v150.toNat, 0]
def k0_off6 (i : grid0.Coords) (k0_t2 : Fin (k0_t2_loop i).trips) (c1_i32_86 : BitVec 32) : Fin 4 → Nat :=
  let c0_96 : Index := 0#32
  let arg1 : BitVec 32 := BitVec.ofNat 32 (i 1).val
  let v145 : BitVec 32 := Scalar.addi arg1 c1_i32_86
  let c2_i32_87 : BitVec 32 := 2#32
  let c0_i32_57 : BitVec 32 := 0#32
  let c15_i32 : BitVec 32 := 15#32
  let v92 : BitVec 32 := Scalar.subi c15_i32 arg1
  let c0_i32_51 : BitVec 32 := 0#32
  let v94 : BitVec 1 := Scalar.cmpi .sgt v92 c0_i32_51
  let v95 : BitVec 32 := Scalar.extui v94
  let c0_i32_52 : BitVec 32 := 0#32
  let v96 : BitVec 1 := Scalar.cmpi .slt v92 c0_i32_52
  let v97 : BitVec 32 := Scalar.extui v96
  let v98 : BitVec 32 := Scalar.subi v95 v97
  let c2_i32 : BitVec 32 := 2#32
  let c0_i32_53 : BitVec 32 := 0#32
  let v99 : BitVec 1 := Scalar.cmpi .sgt c2_i32 c0_i32_53
  let v100 : BitVec 32 := Scalar.extui v99
  let c0_i32_54 : BitVec 32 := 0#32
  let v101 : BitVec 1 := Scalar.cmpi .slt c2_i32 c0_i32_54
  let v102 : BitVec 32 := Scalar.extui v101
  let v103 : BitVec 32 := Scalar.subi v100 v102
  let v104 : BitVec 1 := Scalar.cmpi .ne v98 v103
  let v105 : BitVec 32 := Scalar.remsi v92 c2_i32
  let c0_i32_55 : BitVec 32 := 0#32
  let v106 : BitVec 1 := Scalar.cmpi .ne v105 c0_i32_55
  let v107 : BitVec 1 := Scalar.andi v104 v106
  let v93 : BitVec 32 := Scalar.divsi v92 c2_i32
  let c1_i32 : BitVec 32 := 1#32
  let v108 : BitVec 32 := Scalar.subi v93 c1_i32
  let v109 : BitVec 32 := Scalar.select v107 v108 v93
  let v110 : BitVec 32 := Scalar.subi v109 c0_i32_57
  let c1_i32_58 : BitVec 32 := 1#32
  let v112 : BitVec 32 := Scalar.divsi v110 c1_i32_58
  let v113 : BitVec 32 := Scalar.muli v112 c1_i32_58
  let v114 : BitVec 32 := Scalar.addi c0_i32_57 v113
  let c1_i32_60 : BitVec 32 := 1#32
  let arg18 : BitVec 32 := Scf.iv v114 c1_i32_60 k0_t2
  let v146 : BitVec 32 := Scalar.muli c2_i32_87 arg18
  let v147 : BitVec 32 := Scalar.addi v145 v146
  let v157 : Index := Scalar.indexCast v147
  let c0_97 : Index := 0#32
  let c0_98 : Index := 0#32
  ![0, v157.toNat, 0, 0]
def k0_mult5 (i : grid0.Coords) (k0_t2 : Fin (k0_t2_loop i).trips) : BitVec 32 :=
  let arg1 : BitVec 32 := BitVec.ofNat 32 (i 1).val
  let c2_i32_129 : BitVec 32 := 2#32
  let v219 : BitVec 32 := Scalar.addi arg1 c2_i32_129
  let c2_i32_130 : BitVec 32 := 2#32
  let c0_i32_57 : BitVec 32 := 0#32
  let c15_i32 : BitVec 32 := 15#32
  let v92 : BitVec 32 := Scalar.subi c15_i32 arg1
  let c0_i32_51 : BitVec 32 := 0#32
  let v94 : BitVec 1 := Scalar.cmpi .sgt v92 c0_i32_51
  let v95 : BitVec 32 := Scalar.extui v94
  let c0_i32_52 : BitVec 32 := 0#32
  let v96 : BitVec 1 := Scalar.cmpi .slt v92 c0_i32_52
  let v97 : BitVec 32 := Scalar.extui v96
  let v98 : BitVec 32 := Scalar.subi v95 v97
  let c2_i32 : BitVec 32 := 2#32
  let c0_i32_53 : BitVec 32 := 0#32
  let v99 : BitVec 1 := Scalar.cmpi .sgt c2_i32 c0_i32_53
  let v100 : BitVec 32 := Scalar.extui v99
  let c0_i32_54 : BitVec 32 := 0#32
  let v101 : BitVec 1 := Scalar.cmpi .slt c2_i32 c0_i32_54
  let v102 : BitVec 32 := Scalar.extui v101
  let v103 : BitVec 32 := Scalar.subi v100 v102
  let v104 : BitVec 1 := Scalar.cmpi .ne v98 v103
  let v105 : BitVec 32 := Scalar.remsi v92 c2_i32
  let c0_i32_55 : BitVec 32 := 0#32
  let v106 : BitVec 1 := Scalar.cmpi .ne v105 c0_i32_55
  let v107 : BitVec 1 := Scalar.andi v104 v106
  let v93 : BitVec 32 := Scalar.divsi v92 c2_i32
  let c1_i32 : BitVec 32 := 1#32
  let v108 : BitVec 32 := Scalar.subi v93 c1_i32
  let v109 : BitVec 32 := Scalar.select v107 v108 v93
  let v110 : BitVec 32 := Scalar.subi v109 c0_i32_57
  let c1_i32_58 : BitVec 32 := 1#32
  let v112 : BitVec 32 := Scalar.divsi v110 c1_i32_58
  let v113 : BitVec 32 := Scalar.muli v112 c1_i32_58
  let v114 : BitVec 32 := Scalar.addi c0_i32_57 v113
  let c1_i32_60 : BitVec 32 := 1#32
  let arg18 : BitVec 32 := Scf.iv v114 c1_i32_60 k0_t2
  let v220 : BitVec 32 := Scalar.muli c2_i32_130 arg18
  let v221 : BitVec 32 := Scalar.addi v219 v220
  let c512_i32_131 : BitVec 32 := 512#32
  let v222 : BitVec 32 := Scalar.muli v221 c512_i32_131
  v222
def k0_cond2 (i : grid0.Coords) : BitVec 1 :=
  let c15_i32 : BitVec 32 := 15#32
  let arg1 : BitVec 32 := BitVec.ofNat 32 (i 1).val
  let v92 : BitVec 32 := Scalar.subi c15_i32 arg1
  let c2_i32_61 : BitVec 32 := 2#32
  let c0_i32_62 : BitVec 32 := 0#32
  let v115 : BitVec 1 := Scalar.cmpi .eq c2_i32_61 c0_i32_62
  let c1_i32_63 : BitVec 32 := 1#32
  let v116 : BitVec 32 := Scalar.select v115 c1_i32_63 c2_i32_61
  let v117 : BitVec 32 := Scalar.remsi v92 v116
  let c0_i32_65 : BitVec 32 := 0#32
  let v119 : BitVec 1 := Scalar.cmpi .slt v117 c0_i32_65
  let c0_i32_66 : BitVec 32 := 0#32
  let v120 : BitVec 1 := Scalar.cmpi .slt v116 c0_i32_66
  let v121 : BitVec 1 := Scalar.xori v119 v120
  let c0_i32_64 : BitVec 32 := 0#32
  let v118 : BitVec 1 := Scalar.cmpi .ne v117 c0_i32_64
  let v122 : BitVec 1 := Scalar.andi v121 v118
  let v123 : BitVec 32 := Scalar.addi v117 v116
  let v124 : BitVec 32 := Scalar.select v122 v123 v117
  let c1_i32_67 : BitVec 32 := 1#32
  let v125 : BitVec 1 := Scalar.cmpi .eq v124 c1_i32_67
  let v126 : BitVec 32 := Scalar.extui v125
  let c0_i32_68 : BitVec 32 := 0#32
  let v127 : BitVec 1 := Scalar.cmpi .ne v126 c0_i32_68
  v127

def k0_mult6 : BitVec 32 :=
  let c7680_i32 : BitVec 32 := 7680#32
  c7680_i32
def k0_cond3 (i : grid0.Coords) : BitVec 1 :=
  let arg1 : BitVec 32 := BitVec.ofNat 32 (i 1).val
  let c15_i32_84 : BitVec 32 := 15#32
  let v142 : BitVec 1 := Scalar.cmpi .eq arg1 c15_i32_84
  let v143 : BitVec 32 := Scalar.extui v142
  let c0_i32_85 : BitVec 32 := 0#32
  let v144 : BitVec 1 := Scalar.cmpi .ne v143 c0_i32_85
  v144

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x16x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x16x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "scale" => some (((Real.sqrt 128)⁻¹ : ℝ) : EReal)
  | "scale_log2e" => some (((Real.sqrt 128)⁻¹ * (Real.log 2)⁻¹ : ℝ) : EReal)
  | _ => none
-- ==== ReferenceIdeal.lean ====
abbrev S8192x3072 : Shape := ⟨2, ![8192, 3072]⟩
abbrev S8192x8 : Shape := ⟨2, ![8192, 8]⟩
abbrev S8192x1024 : Shape := ⟨2, ![8192, 1024]⟩
abbrev S8192x8x128 : Shape := ⟨3, ![8192, 8, 128]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x128x8192 : Shape := ⟨3, ![8, 128, 8192]⟩
abbrev S8x8192x128 : Shape := ⟨3, ![8, 8192, 128]⟩
abbrev S8x16x1x512 : Shape := ⟨4, ![8, 16, 1, 512]⟩

abbrev nBuf : Space → Nat
  | .hbm => 132
  | .vmem => 0
  | .smem => 0
  | _ => 0

abbrev hbmTy0_0 (i : Nat) : BufTy := match i % 128 with
  | 0 => ⟨S8192x3072, .bf16⟩
  | 1 => ⟨S8192x8, .f32⟩
  | 2 => ⟨S8192x1024, .bf16⟩
  | 3 => ⟨S8192x3072, .f32⟩
  | 4 => ⟨S8192x1024, .f32⟩
  | 5 => ⟨S8192x1024, .f32⟩
  | 6 => ⟨S8192x1024, .f32⟩
  | 7 => ⟨S8192x8x128, .f32⟩
  | 8 => ⟨S8192x8x128, .f32⟩
  | 9 => ⟨S8192x8x128, .f32⟩
  | 10 => ⟨S8192x8, .f32⟩
  | 11 => ⟨S8x8192x8192, .f32⟩
  | 12 => ⟨S_, .f32⟩
  | 13 => ⟨S_, .f32⟩
  | 14 => ⟨S_, .f32⟩
  | 15 => ⟨S_, .f32⟩
  | 16 => ⟨S8x8192x8192, .f32⟩
  | 17 => ⟨S8x8192x8192, .f32⟩
  | 18 => ⟨S8x8192, .f32⟩
  | 19 => ⟨S8x8192x1, .f32⟩
  | 20 => ⟨S8x8192x8192, .f32⟩
  | 21 => ⟨S8x8192x8192, .f32⟩
  | 22 => ⟨S8x8192, .f32⟩
  | 23 => ⟨S8x1x8192, .f32⟩
  | 24 => ⟨S8x8192x8192, .f32⟩
  | 25 => ⟨S8x8192x8192, .f32⟩
  | 26 => ⟨S8192, .i32⟩
  | 27 => ⟨S1x8192, .i32⟩
  | 28 => ⟨S8192, .i32⟩
  | 29 => ⟨S8192x1, .i32⟩
  | 30 => ⟨S8192x8192, .i32⟩
  | 31 => ⟨S8192x8192, .i32⟩
  | 32 => ⟨S8192x8192, .i1⟩
  | 33 => ⟨S_, .f32⟩
  | 34 => ⟨S_, .f32⟩
  | 35 => ⟨S8x8192x8192, .i1⟩
  | 36 => ⟨S8x8192x8192, .f32⟩
  | 37 => ⟨S8x8192x8192, .f32⟩
  | 38 => ⟨S_, .f32⟩
  | 39 => ⟨S8x8192x8192, .f32⟩
  | 40 => ⟨S_, .f32⟩
  | 41 => ⟨S8x8192, .f32⟩
  | 42 => ⟨S8x8192x1, .f32⟩
  | 43 => ⟨S8x8192x8192, .f32⟩
  | 44 => ⟨S8x8192x8192, .i1⟩
  | 45 => ⟨S8x8192x8192, .f32⟩
  | 46 => ⟨S_, .f32⟩
  | 47 => ⟨S8x8192, .f32⟩
  | 48 => ⟨S_, .f32⟩
  | 49 => ⟨S8x8192, .f32⟩
  | 50 => ⟨S8x8192, .f32⟩
  | 51 => ⟨S_, .f32⟩
  | 52 => ⟨S8x8192, .f32⟩
  | 53 => ⟨S8x8192, .i1⟩
  | 54 => ⟨S_, .f32⟩
  | 55 => ⟨S8x8192, .f32⟩
  | 56 => ⟨S8x8192, .i1⟩
  | 57 => ⟨S_, .f32⟩
  | 58 => ⟨S8x8192, .f32⟩
  | 59 => ⟨S_, .f32⟩
  | 60 => ⟨S8x8192, .f32⟩
  | 61 => ⟨S_, .f32⟩
  | 62 => ⟨S8x8192, .f32⟩
  | 63 => ⟨S8x8192, .f32⟩
  | 64 => ⟨S8x8192, .f32⟩
  | 65 => ⟨S8x8192x1, .f32⟩
  | 66 => ⟨S8x8192x8192, .f32⟩
  | 67 => ⟨S8x8192x8192, .f32⟩
  | 68 => ⟨S8x8192x8192, .f32⟩
  | 69 => ⟨S_, .f32⟩
  | 70 => ⟨S8x8192, .f32⟩
  | 71 => ⟨S8x8192x1, .f32⟩
  | 72 => ⟨S8x8192x8192, .f32⟩
  | 73 => ⟨S8x8192x8192, .f32⟩
  | 74 => ⟨S8x8192x1, .f32⟩
  | 75 => ⟨S_, .f32⟩
  | 76 => ⟨S8x8192x1, .f32⟩
  | 77 => ⟨S8x8192x1, .f32⟩
  | 78 => ⟨S8x128x8192, .f32⟩
  | 79 => ⟨S8192x8x128, .f32⟩
  | 80 => ⟨S8192x1024, .f32⟩
  | 81 => ⟨S8192x1024, .f32⟩
  | 82 => ⟨S8192x8x128, .f32⟩
  | 83 => ⟨S8x128x8192, .f32⟩
  | 84 => ⟨S8x8192x8192, .f32⟩
  | 85 => ⟨S8x128x8192, .f32⟩
  | 86 => ⟨S8192x8x128, .f32⟩
  | 87 => ⟨S8x8192x8192, .f32⟩
  | 88 => ⟨S8x8192x8192, .f32⟩
  | 89 => ⟨S8x8192x8192, .f32⟩
  | 90 => ⟨S_, .f32⟩
  | 91 => ⟨S8x8192, .f32⟩
  | 92 => ⟨S8x8192x1, .f32⟩
  | 93 => ⟨S8x8192x1, .f32⟩
  | 94 => ⟨S8x8192x8192, .f32⟩
  | 95 => ⟨S8x8192x8192, .f32⟩
  | 96 => ⟨S_, .f32⟩
  | 97 => ⟨S8x8192, .f32⟩
  | 98 => ⟨S8x8192x8192, .f32⟩
  | 99 => ⟨S8x8192x8192, .f32⟩
  | 100 => ⟨S8x8192x8192, .f32⟩
  | 101 => ⟨S_, .f32⟩
  | 102 => ⟨S8x8192x8192, .f32⟩
  | 103 => ⟨S8x8192x8192, .f32⟩
  | 104 => ⟨S_, .f32⟩
  | 105 => ⟨S8x8192, .f32⟩
  | 106 => ⟨S8x1x8192, .f32⟩
  | 107 => ⟨S_, .f32⟩
  | 108 => ⟨S8x8192, .f32⟩
  | 109 => ⟨S8192x8, .f32⟩
  | 110 => ⟨S_, .f32⟩
  | 111 => ⟨S8x8192, .f32⟩
  | 112 => ⟨S8x8192x1, .f32⟩
  | 113 => ⟨S_, .f32⟩
  | 114 => ⟨S8x8192, .f32⟩
  | 115 => ⟨S8192x8, .f32⟩
  | 116 => ⟨S8x8192x8192, .f32⟩
  | 117 => ⟨S8x8192x8192, .f32⟩
  | 118 => ⟨S8x8192x128, .f32⟩
  | 119 => ⟨S8192x8x128, .f32⟩
  | 120 => ⟨S8x8192x128, .f32⟩
  | 121 => ⟨S8192x8x128, .f32⟩
  | 122 => ⟨S8192x1024, .f32⟩
  | 123 => ⟨S8192x1024, .bf16⟩
  | 124 => ⟨S8192x1024, .f32⟩
  | 125 => ⟨S8192x1024, .bf16⟩
  | 126 => ⟨S8192x1024, .f32⟩
  | 127 => ⟨S8192x1024, .bf16⟩
  | _ => ⟨S8192x3072, .bf16⟩

abbrev hbmTy0_1 (i : Nat) : BufTy := match i % 128 with
  | 0 => ⟨S8x8192, .f32⟩
  | 1 => ⟨S8x16x1x512, .f32⟩
  | 2 => ⟨S8x8192, .f32⟩
  | 3 => ⟨S8x8192x1, .f32⟩
  | _ => ⟨S8192x3072, .bf16⟩

abbrev hbmTy (i : Nat) : BufTy := match i / 128 with
  | 0 => hbmTy0_0 i
  | 1 => hbmTy0_1 i
  | _ => ⟨S8192x3072, .bf16⟩

abbrev bufTy : (tb : Table) → Fin (tcTables nBuf tb) → BufTy
  | .hbm, ⟨i, _⟩ => hbmTy i
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst_1 : Ref sig .tc := ⟨.hbm, 33, rfl⟩
abbrev main_call0_v0 : Ref sig .tc := ⟨.hbm, 34, rfl⟩
abbrev main_v28_1 : Ref sig .tc := ⟨.hbm, 35, rfl⟩
abbrev main_call0_v2 : Ref sig .tc := ⟨.hbm, 36, rfl⟩
abbrev main_v28_0 : Ref sig .tc := ⟨.hbm, 37, rfl⟩
abbrev main_call0_cst : Ref sig .tc := ⟨.hbm, 38, rfl⟩
abbrev main_v28_2 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_11 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_12 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_13 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_call1_cst : Ref sig .tc := ⟨.hbm, 101, rfl⟩
abbrev main_call1_v0 : Ref sig .tc := ⟨.hbm, 102, rfl⟩
abbrev main_v78 : Ref sig .tc := ⟨.hbm, 103, rfl⟩
abbrev main_cst_14 : Ref sig .tc := ⟨.hbm, 104, rfl⟩
abbrev main_v79 : Ref sig .tc := ⟨.hbm, 105, rfl⟩
abbrev main_v80 : Ref sig .tc := ⟨.hbm, 106, rfl⟩
abbrev main_cst_15 : Ref sig .tc := ⟨.hbm, 107, rfl⟩
abbrev main_v81 : Ref sig .tc := ⟨.hbm, 108, rfl⟩
abbrev main_v82 : Ref sig .tc := ⟨.hbm, 109, rfl⟩
abbrev main_cst_16 : Ref sig .tc := ⟨.hbm, 110, rfl⟩
abbrev main_v83 : Ref sig .tc := ⟨.hbm, 111, rfl⟩
abbrev main_v84 : Ref sig .tc := ⟨.hbm, 112, rfl⟩
abbrev main_cst_17 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩

abbrev nD : Nat := 1
abbrev τ : Topo := Topo.v7x

variable {F : FTy → Type} [FloatOps F]
-- ==== Kernel2.lean ====
abbrev S8192x2048 : Shape := ⟨2, ![8192, 2048]⟩
abbrev S8192x5632 : Shape := ⟨2, ![8192, 5632]⟩
abbrev S8x2048x1408 : Shape := ⟨3, ![8, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S8192x5632, .bf16⟩
  | .hbm, ⟨3, _⟩ => ⟨S8x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1408, .bf16⟩
  | .local _ .vmem, ⟨5, _⟩ => ⟨S2048x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 4], ![false, false, false]⟩

def k0_cond4 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .slt arg1 c4_i32
  let c3_i32 : BitVec 32 := 3#32
  let v1 : BitVec 32 := Scalar.select v0 arg2 c3_i32
  let c3_i32_0 : BitVec 32 := 3#32
  let v2 : BitVec 32 := Scalar.minsi arg1 c3_i32_0
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .slt arg1 c4_i32
  let c0_i32 : BitVec 32 := 0#32
  let v1 : BitVec 32 := Scalar.select v0 c0_i32 arg2
  let c4_i32_0 : BitVec 32 := 4#32
  let v2 : BitVec 32 := Scalar.subi arg1 c4_i32_0
  let c0_i32_1 : BitVec 32 := 0#32
  let v3 : BitVec 32 := Scalar.maxsi v2 c0_i32_1
  let c0_i32_2 : BitVec 32 := 0#32
  ![v1.toNat, v3.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S8192x2048 : Shape := ⟨2, ![8192, 2048]⟩
abbrev S8192x5632 : Shape := ⟨2, ![8192, 5632]⟩
abbrev S_ : Shape := ⟨0, ![]⟩
abbrev S2048x11264 : Shape := ⟨2, ![2048, 11264]⟩
abbrev S8192x11264 : Shape := ⟨2, ![8192, 11264]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S8192x5632, .bf16⟩
  | .hbm, ⟨3, _⟩ => ⟨S_, .f32⟩
  | .hbm, ⟨4, _⟩ => ⟨S2048x11264, .f32⟩
  | .hbm, ⟨5, _⟩ => ⟨S8192x2048, .f32⟩
  | .hbm, ⟨6, _⟩ => ⟨S8192x11264, .f32⟩
  | .hbm, ⟨7, _⟩ => ⟨S8192x5632, .f32⟩
  | .hbm, ⟨8, _⟩ => ⟨S8192x5632, .f32⟩
  | .hbm, ⟨9, _⟩ => ⟨S8192x5632, .f32⟩
  | .hbm, ⟨10, _⟩ => ⟨S8192x5632, .f32⟩
  | .hbm, ⟨11, _⟩ => ⟨S8192x11264, .f32⟩
  | .hbm, ⟨12, _⟩ => ⟨S11264x2048, .f32⟩
  | .hbm, ⟨13, _⟩ => ⟨S2048x11264, .f32⟩
  | .hbm, ⟨14, _⟩ => ⟨S2048x11264, .bf16⟩
  | .hbm, ⟨15, _⟩ => ⟨S2048x8x1408, .bf16⟩
  | .hbm, ⟨16, _⟩ => ⟨S8x2048x1408, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel3.lean ====
abbrev S8192x5632 : Shape := ⟨2, ![8192, 5632]⟩
abbrev S2048x11264 : Shape := ⟨2, ![2048, 11264]⟩
abbrev S8192x2048 : Shape := ⟨2, ![8192, 2048]⟩
abbrev S1024x2816 : Shape := ⟨2, ![1024, 2816]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S2048x11264, .bf16⟩
  | .hbm, ⟨3, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x2816, .bf16⟩
  | .local _ .vmem, ⟨5, _⟩ => ⟨S1024x2816, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond4 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S8192x5632 : Shape := ⟨2, ![8192, 5632]⟩
abbrev S2048x11264 : Shape := ⟨2, ![2048, 11264]⟩
abbrev S_ : Shape := ⟨0, ![]⟩
abbrev S8192x2048 : Shape := ⟨2, ![8192, 2048]⟩
abbrev S8192x11264 : Shape := ⟨2, ![8192, 11264]⟩

abbrev nBuf : Space → Nat
  | .hbm => 13
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S2048x11264, .bf16⟩
  | .hbm, ⟨3, _⟩ => ⟨S_, .f32⟩
  | .hbm, ⟨4, _⟩ => ⟨S8192x2048, .f32⟩
  | .hbm, ⟨5, _⟩ => ⟨S2048x11264, .f32⟩
  | .hbm, ⟨6, _⟩ => ⟨S8192x11264, .f32⟩
  | .hbm, ⟨7, _⟩ => ⟨S8192x5632, .f32⟩
  | .hbm, ⟨8, _⟩ => ⟨S8192x5632, .f32⟩
  | .hbm, ⟨9, _⟩ => ⟨S8192x5632, .f32⟩
  | .hbm, ⟨10, _⟩ => ⟨S8192x5632, .f32⟩
  | .hbm, ⟨11, _⟩ => ⟨S8192x11264, .f32⟩
  | .hbm, ⟨12, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel4.lean ====
abbrev S8192x2048 : Shape := ⟨2, ![8192, 2048]⟩
abbrev S2048x11264 : Shape := ⟨2, ![2048, 11264]⟩
abbrev S8192x11264 : Shape := ⟨2, ![8192, 11264]⟩
abbrev S1024x2048 : Shape := ⟨2, ![1024, 2048]⟩
abbrev S2048x2816 : Shape := ⟨2, ![2048, 2816]⟩
abbrev S1024x2816 : Shape := ⟨2, ![1024, 2816]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x11264, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2816, .bf16⟩
  | .local _ .vmem, ⟨3, _⟩ => ⟨S2048x2816, .bf16⟩
  | .local _ .vmem, ⟨4, _⟩ => ⟨S1024x2816, .bf16⟩
  | .local _ .vmem, ⟨5, _⟩ => ⟨S1024x2816, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2048 : Shape := ⟨2, ![8192, 2048]⟩
abbrev S2048x11264 : Shape := ⟨2, ![2048, 11264]⟩
abbrev S8192x11264 : Shape := ⟨2, ![8192, 11264]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x2048, .f32⟩
  | .hbm, ⟨3, _⟩ => ⟨S2048x11264, .f32⟩
  | .hbm, ⟨4, _⟩ => ⟨S8192x11264, .f32⟩
  | .hbm, ⟨5, _⟩ => ⟨S8192x11264, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S8192x5632 : Shape := ⟨2, ![8192, 5632]⟩
abbrev S5632x2048 : Shape := ⟨2, ![5632, 2048]⟩
abbrev S8192x2048 : Shape := ⟨2, ![8192, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x5632, .f32⟩
  | .hbm, ⟨3, _⟩ => ⟨S5632x2048, .f32⟩
  | .hbm, ⟨4, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S8192x5632 : Shape := ⟨2, ![8192, 5632]⟩
abbrev S8192x2048 : Shape := ⟨2, ![8192, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S_, .f32⟩
  | .hbm, ⟨3, _⟩ => ⟨S5632x2048, .f32⟩
  | .hbm, ⟨4, _⟩ => ⟨S8192x5632, .f32⟩
  | .hbm, ⟨5, _⟩ => ⟨S8192x2048, .f32⟩
  | .hbm, ⟨6, _⟩ => ⟨S8192x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8192x2048 : Shape := ⟨2, ![8192, 2048]⟩
abbrev S5632x2048 : Shape := ⟨2, ![5632, 2048]⟩
abbrev S8192x5632 : Shape := ⟨2, ![8192, 5632]⟩
abbrev S1024x2048 : Shape := ⟨2, ![1024, 2048]⟩
abbrev S2816x2048 : Shape := ⟨2, ![2816, 2048]⟩
abbrev S1024x2816 : Shape := ⟨2, ![1024, 2816]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2816x2048, .bf16⟩
  | .local _ .vmem, ⟨3, _⟩ => ⟨S2816x2048, .bf16⟩
  | .local _ .vmem, ⟨4, _⟩ => ⟨S1024x2816, .bf16⟩
  | .local _ .vmem, ⟨5, _⟩ => ⟨S1024x2816, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2048 : Shape := ⟨2, ![8192, 2048]⟩
abbrev S5632x2048 : Shape := ⟨2, ![5632, 2048]⟩
abbrev S_ : Shape := ⟨0, ![]⟩
abbrev S8192x5632 : Shape := ⟨2, ![8192, 5632]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S_, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | .hbm, ⟨7, _⟩ => ⟨S8192x5632, .f32⟩
  | .hbm, ⟨8, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S8192x2048 : Shape := ⟨2, ![8192, 2048]⟩
abbrev S8192x5760 : Shape := ⟨2, ![8192, 5760]⟩
abbrev S2048x5760 : Shape := ⟨2, ![2048, 5760]⟩
abbrev S2048x1024 : Shape := ⟨2, ![2048, 1024]⟩
abbrev S2048x1920 : Shape := ⟨2, ![2048, 1920]⟩
abbrev S1024x1920 : Shape := ⟨2, ![1024, 1920]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x5760, .bf16⟩
  | .hbm, ⟨2, _⟩ => ⟨S2048x5760, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1920, .bf16⟩
  | .local _ .vmem, ⟨3, _⟩ => ⟨S2048x1920, .bf16⟩
  | .local _ .vmem, ⟨4, _⟩ => ⟨S1024x1920, .bf16⟩
  | .local _ .vmem, ⟨5, _⟩ => ⟨S1024x1920, .bf16⟩
  | .local _ .vmem, ⟨6, _⟩ => ⟨S1024x1920, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1920 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x2048 : Shape := ⟨2, ![8192, 2048]⟩
abbrev S8192x5760 : Shape := ⟨2, ![8192, 5760]⟩
abbrev S_ : Shape := ⟨0, ![]⟩
abbrev S2048x5760 : Shape := ⟨2, ![2048, 5760]⟩
abbrev S5760x2048 : Shape := ⟨2, ![5760, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5760, .bf16⟩
  | .hbm, ⟨2, _⟩ => ⟨S_, .f32⟩
  | .hbm, ⟨3, _⟩ => ⟨S2048x5760, .f32⟩
  | .hbm, ⟨4, _⟩ => ⟨S8192x2048, .f32⟩
  | .hbm, ⟨5, _⟩ => ⟨S8192x5760, .f32⟩
  | .hbm, ⟨6, _⟩ => ⟨S8192x5760, .f32⟩
  | .hbm, ⟨7, _⟩ => ⟨S5760x2048, .f32⟩
  | .hbm, ⟨8, _⟩ => ⟨S2048x5760, .f32⟩
  | .hbm, ⟨9, _⟩ => ⟨S2048x5760, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S8192x5760 : Shape := ⟨2, ![8192, 5760]⟩
abbrev S2048x5760 : Shape := ⟨2, ![2048, 5760]⟩
abbrev S8192x2048 : Shape := ⟨2, ![8192, 2048]⟩
abbrev S1024x1920 : Shape := ⟨2, ![1024, 1920]⟩
abbrev S2048x1920 : Shape := ⟨2, ![2048, 1920]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x5760, .bf16⟩
  | .hbm, ⟨1, _⟩ => ⟨S2048x5760, .bf16⟩
  | .hbm, ⟨2, _⟩ => ⟨S8192x2048, .f32⟩
  | .local _ .vmem, ⟨0, _⟩ => ⟨S1024x1920, .bf16⟩
  | .local _ .vmem, ⟨1, _⟩ => ⟨S1024x1920, .bf16⟩
  | .local _ .vmem, ⟨2, _⟩ => ⟨S2048x1920, .bf16⟩
  | .local _ .vmem, ⟨3, _⟩ => ⟨S2048x1920, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S8192x5760, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1920 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x5760 : Shape := ⟨2, ![8192, 5760]⟩
abbrev S2048x5760 : Shape := ⟨2, ![2048, 5760]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x5760, .bf16⟩
  | .hbm, ⟨1, _⟩ => ⟨S2048x5760, .bf16⟩
  | .hbm, ⟨2, _⟩ => ⟨S_, .f32⟩
  | .hbm, ⟨3, _⟩ => ⟨S8192x2048, .f32⟩
  | .hbm, ⟨4, _⟩ => ⟨S2048x5760, .f32⟩
  | .hbm, ⟨5, _⟩ => ⟨S8192x5760, .f32⟩
  | .hbm, ⟨6, _⟩ => ⟨S8192x5760, .f32⟩
  | .hbm, ⟨7, _⟩ => ⟨S8192x2048, .f32⟩
  | _, _ => ⟨S8192x5760, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.LoopK.lean ====
module

public import proofs.«01_k».proof.Proof.Gen.Kernel.Loops
public import proofs.«01_k».proof.Proof.Offsets
public import Idealize.ShloMosaic.Lib.LoopRemainder

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Before every trip: the buffers a trip reads at their contents, those it writes at some contents. -/
@[sl_loop] def loopK_t1 (c : Dev nD) (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x512x128 .f32) (harg5 : arg5.IsWhole) (arg6 : Memref sig .tc .vmem S8192x128 .bf16) (harg6 : arg6.IsWhole) (arg7 : Memref sig .tc .vmem S1x16x1x512 .f32) (harg7 : arg7.IsWhole) (arg8 : Memref sig .tc .vmem S1x16x1x512 .f32) (harg8 : arg8.IsWhole) (arg9 : Memref sig .tc .vmem S8192x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x16x1x512 .f32) (harg12 : arg12.IsWhole) (arg13 : Memref sig .tc .vmem S1x512x1 .f32) (harg13 : arg13.IsWhole) (arg14 : Memref sig .tc .vmem S8192x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg1 : BitVec 32) (v15 : Vec F S512x128 .bf16) (v92 : BitVec 32) (v93 : BitVec 32) (v104 : BitVec 1) (v106 : BitVec 1)
    (f2 : Buf (Elt F) (arg2.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v15 v92 v93 v104 v106 where
  inv := fun _ _ => iprop((arg2.view.loc (c : Thread nD τ) ↦[arg2.view.set]{fullShare} f2)
      ∗ (arg4.view.loc (c : Thread nD τ) ↦[arg4.view.set]{fullShare} f4)
      ∗ (arg5.view.loc (c : Thread nD τ) ↦[arg5.view.set]{fullShare} f5)
      ∗ (arg6.view.loc (c : Thread nD τ) ↦[arg6.view.set]{fullShare} f6)
      ∗ (arg7.view.loc (c : Thread nD τ) ↦[arg7.view.set]{fullShare} f7)
      ∗ (arg8.view.loc (c : Thread nD τ) ↦[arg8.view.set]{fullShare} f8)
      ∗ (∃ f, (arg12.view.loc (c : Thread nD τ) ↦[arg12.view.set]{fullShare} f))
      ∗ (∃ f, (arg14.view.loc (c : Thread nD τ) ↦[arg14.view.set]{fullShare} f))
      ∗ (∃ f, (arg15.view.loc (c : Thread nD τ) ↦[arg15.view.set]{fullShare} f))
      ∗ (∃ f, (arg16.view.loc (c : Thread nD τ) ↦[arg16.view.set]{fullShare} f))
      ∗ (∃ f, (arg17.view.loc (c : Thread nD τ) ↦[arg17.view.set]{fullShare} f)))
  step := fun k acc => by
    unfold k0_t1_body
    iintro ⟨H2, H4, H5, H6, H7, H8, ⟨%g12, H12⟩, ⟨%g14, H14⟩, ⟨%g15, H15⟩, ⟨%g16, H16⟩, ⟨%g17, H17⟩⟩
    sl_exec
    sl_step
    isplitl [H2]; · iexact H2
    isplitl [H4]; · iexact H4
    isplitl [H5]; · iexact H5
    isplitl [H6]; · iexact H6
    isplitl [H7]; · iexact H7
    isplitl [H8]; · iexact H8
    isplitl [H12]; · iexists _; iexact H12
    isplitl [H14]; · iexists _; iexact H14
    isplitl [H15]; · iexists _; iexact H15
    isplitl [H16]; · iexists _; iexact H16
    iexists _; iexact H17

end Cert.Kernel.Gen

end
-- ==== Proof.BodyK.lean ====
module

public import proofs.«01_k».proof.Proof.Gen.Kernel.Frame
public import proofs.«01_k».proof.Proof.LoopK
public import Idealize.ShloMosaic.Lib.Pipeline.FrameBody

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev first (i : grid0.Coords) : Prop := (Scalar.cmpi .ne (Scalar.extui (Scalar.cmpi .eq (BitVec.ofNat 32 (i 1).val) 0#32)) 0#32) = 1#1

theorem cases_of : ∀ i : grid0.Coords,
    (first i ∧ k0_cond2 i = 1#1 ∧ ¬k0_cond3 i = 1#1) ∨ (¬first i ∧ k0_cond2 i = 1#1 ∧ ¬k0_cond3 i = 1#1)
      ∨ (¬first i ∧ ¬k0_cond2 i = 1#1 ∧ ¬k0_cond3 i = 1#1) ∨ (¬first i ∧ ¬k0_cond2 i = 1#1 ∧ k0_cond3 i = 1#1) := by
  decide +kernel

set_option maxHeartbeats 8000000 in
/-- The body on any staging buffers: it ends, and leaves its inputs as they were. -/
theorem body_any (c : Dev nD) (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x512x128 .f32) (harg5 : arg5.IsWhole) (arg6 : Memref sig .tc .vmem S8192x128 .bf16) (harg6 : arg6.IsWhole) (arg7 : Memref sig .tc .vmem S1x16x1x512 .f32) (harg7 : arg7.IsWhole) (arg8 : Memref sig .tc .vmem S1x16x1x512 .f32) (harg8 : arg8.IsWhole) (arg9 : Memref sig .tc .vmem S8192x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x16x1x512 .f32) (harg12 : arg12.IsWhole) (arg13 : Memref sig .tc .vmem S1x512x1 .f32) (harg13 : arg13.IsWhole) (arg14 : Memref sig .tc .vmem S8192x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole)
    (x2 : Vec F S8192x128 .bf16) (x3 : Vec F S512x128 .bf16) (x4 : Vec F S512x128 .bf16) (x5 : Vec F S1x512x128 .f32) (x6 : Vec F S8192x128 .bf16) (x7 : Vec F S1x16x1x512 .f32) (x8 : Vec F S1x16x1x512 .f32) (E : Set ℕ) (hE : E = Set.univ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  subst hE
  simp only [cc0_attn_bwd_eq_skeleton]; unfold cc0_attn_bwd_skel
  unfold owns
  rcases cases_of i with ⟨hc1, hc2, hc3⟩ | ⟨hc1, hc2, hc3⟩ | ⟨hc1, hc2, hc3⟩ | ⟨hc1, hc2, hc3⟩
  all_goals
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | sl_exact hc1 | sl_exact hc2 | sl_exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    iexists _, _; isplitr; swap; · iexact H17
    ipureintro; rfl

end Cert.Kernel.Gen

end
-- ==== Proof.FrameK.lean ====
module

public import proofs.«01_k».proof.Proof.Gen.Kernel.Frame
public import proofs.«01_k».proof.Proof.BodyK
public import Idealize.ShloMosaic.Lib.Pipeline.FrameBody

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch buffers and the generator register, at anything. -/
theorem anything_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

/-- The windows of the results: nothing is said here of what they hold. -/
def unsaid : Fin 12 → Bool := fun w => decide (7 ≤ w.val)

/-- The proof data: the arrays as the region finds them; an input's buffer is left at its block; of a result's nothing
    is said; the scratch buffers at anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem found_0 (c : Dev nD) (t : Fin cfg0.N) (d) : (dats m 0 c).before 0 t d = iblk m c 0 t :=
  before0_0_of m (dats m 0 c) (A_eq m c 0) (after_0 m c) t d
theorem live_0 : ∀ t : Fin cfg0.N, cfg0.idle 0 (grid0.coords t) = false := fun _ => rfl
theorem leaves_0 (c : Dev nD) (t : Fin cfg0.N) :
    (dats m 0 c).leavesExact 0 t = owns (c : Thread nD τ) (st0_0 t) fullShare (iblk m c 0 t) := by
  unfold Dat.leavesExact; rw [live_0 t, after_0]
theorem after_1 (c : Dev nD) (t : Fin cfg0.N) : (dats m 0 c).after 1 t = iblk m c 1 t := by dsimp only [dats]
theorem found_1 (c : Dev nD) (t : Fin cfg0.N) (d) : (dats m 0 c).before 1 t d = iblk m c 1 t :=
  before0_1_of m (dats m 0 c) (A_eq m c 1) (after_1 m c) t d
theorem live_1 : ∀ t : Fin cfg0.N, cfg0.idle 1 (grid0.coords t) = false := fun _ => rfl
theorem leaves_1 (c : Dev nD) (t : Fin cfg0.N) :
    (dats m 0 c).leavesExact 1 t = owns (c : Thread nD τ) (st0_1 t) fullShare (iblk m c 1 t) := by
  unfold Dat.leavesExact; rw [live_1 t, after_1]
theorem after_2 (c : Dev nD) (t : Fin cfg0.N) : (dats m 0 c).after 2 t = iblk m c 2 t := by dsimp only [dats]
theorem found_2 (c : Dev nD) (t : Fin cfg0.N) (d) : (dats m 0 c).before 2 t d = iblk m c 2 t :=
  before0_2_of m (dats m 0 c) (A_eq m c 2) (after_2 m c) t d
theorem live_2 : ∀ t : Fin cfg0.N, cfg0.idle 2 (grid0.coords t) = false := fun _ => rfl
theorem leaves_2 (c : Dev nD) (t : Fin cfg0.N) :
    (dats m 0 c).leavesExact 2 t = owns (c : Thread nD τ) (st0_2 t) fullShare (iblk m c 2 t) := by
  unfold Dat.leavesExact; rw [live_2 t, after_2]
theorem after_3 (c : Dev nD) (t : Fin cfg0.N) : (dats m 0 c).after 3 t = iblk m c 3 t := by dsimp only [dats]
theorem found_3 (c : Dev nD) (t : Fin cfg0.N) (d) : (dats m 0 c).before 3 t d = iblk m c 3 t :=
  before0_3_of m (dats m 0 c) (A_eq m c 3) (after_3 m c) t d
theorem live_3 : ∀ t : Fin cfg0.N, cfg0.idle 3 (grid0.coords t) = false := fun _ => rfl
theorem leaves_3 (c : Dev nD) (t : Fin cfg0.N) :
    (dats m 0 c).leavesExact 3 t = owns (c : Thread nD τ) (st0_3 t) fullShare (iblk m c 3 t) := by
  unfold Dat.leavesExact; rw [live_3 t, after_3]
theorem after_4 (c : Dev nD) (t : Fin cfg0.N) : (dats m 0 c).after 4 t = iblk m c 4 t := by dsimp only [dats]
theorem found_4 (c : Dev nD) (t : Fin cfg0.N) (d) : (dats m 0 c).before 4 t d = iblk m c 4 t :=
  before0_4_of m (dats m 0 c) (A_eq m c 4) (after_4 m c) t d
theorem live_4 : ∀ t : Fin cfg0.N, cfg0.idle 4 (grid0.coords t) = false := fun _ => rfl
theorem leaves_4 (c : Dev nD) (t : Fin cfg0.N) :
    (dats m 0 c).leavesExact 4 t = owns (c : Thread nD τ) (st0_4 t) fullShare (iblk m c 4 t) := by
  unfold Dat.leavesExact; rw [live_4 t, after_4]
theorem after_5 (c : Dev nD) (t : Fin cfg0.N) : (dats m 0 c).after 5 t = iblk m c 5 t := by dsimp only [dats]
theorem found_5 (c : Dev nD) (t : Fin cfg0.N) (d) : (dats m 0 c).before 5 t d = iblk m c 5 t :=
  before0_5_of m (dats m 0 c) (A_eq m c 5) (after_5 m c) t d
theorem live_5 : ∀ t : Fin cfg0.N, cfg0.idle 5 (grid0.coords t) = false := fun _ => rfl
theorem leaves_5 (c : Dev nD) (t : Fin cfg0.N) :
    (dats m 0 c).leavesExact 5 t = owns (c : Thread nD τ) (st0_5 t) fullShare (iblk m c 5 t) := by
  unfold Dat.leavesExact; rw [live_5 t, after_5]
theorem after_6 (c : Dev nD) (t : Fin cfg0.N) : (dats m 0 c).after 6 t = iblk m c 6 t := by dsimp only [dats]
theorem found_6 (c : Dev nD) (t : Fin cfg0.N) (d) : (dats m 0 c).before 6 t d = iblk m c 6 t :=
  before0_6_of m (dats m 0 c) (A_eq m c 6) (after_6 m c) t d
theorem live_6 : ∀ t : Fin cfg0.N, cfg0.idle 6 (grid0.coords t) = false := fun _ => rfl
theorem leaves_6 (c : Dev nD) (t : Fin cfg0.N) :
    (dats m 0 c).leavesExact 6 t = owns (c : Thread nD τ) (st0_6 t) fullShare (iblk m c 6 t) := by
  unfold Dat.leavesExact; rw [live_6 t, after_6]

def atStart (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare d)
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d))

def atEnd (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (st0_7 t) fullShare d)
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d))

theorem point_run (c : Dev nD) (t : Fin cfg0.N) :
    atStart m c t ⊢ wp frame (wpE (defs₀ (F := F)) Variants.none c none) Set.univ (bodyAt0 t) (fun _ => atEnd m c t) := by
  unfold atStart atEnd bodyAt0
  simp only [found_0, found_1, found_2, found_3, found_4, found_5, found_6, leaves_0, leaves_1, leaves_2, leaves_3, leaves_4, leaves_5, leaves_6]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, anything_eq]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, H7, H8, H9, H10, H11⟩
  iapply (body_any c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) Set.univ rfl _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S0]; · iexact S0
  isplitl [S1]; · iexact S1
  isplitl [S2]; · iexact S2
  isplitl [S3]; · iexact S3
  iintro ⟨H0, H1, H2, H3, H4, H5, H6, H7, H8, H9, H10, H11, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ unsaid := fun t => by
  rw [bigSep_W0, bigSep_W0, defs₀_row]
  exact triple_restated (point_run m c t) rfl .rfl fun _ => .rfl

-- the launch theorem's implicit arguments are found by unifying its conclusion with this one, which takes unfolding
-- plain definitions in the type of an unknown
set_option backward.isDefEq.respectTransparency.types false in
/-- The launch: the run ends, the inputs' arrays as they were and every counter at zero. -/
theorem run_all : θ_run defs (onTc (τ := τ) (main (F := F))) (s₀ m ρ) (fun r => (Pipeline.RDat.FramePost (cfgs 0) (fun c => (dats m 0 c).toRForget unsaid) (V m)) r ∧ r.2.sem = fun _ => 0) :=
  Pipeline.θ_run_frame_track_forget_shared (Q' := _) cfgs (dats m) (0 : Fin 1) launch₀0 defs₀ Variants.none unsaid m ρ main
    (hbody := fun c => (body_obligation m c).loose) (hq := fun _ _ _ => rfl)
    (howed := fun _ _ => rfl) (V := V m) (hmain := hmain m Variants.none) (hA := A_eq m)
    (hin := fun _ => Idealize.SL.BI.Entails.refl _) (hout := fun _ => Idealize.SL.BI.Entails.refl _)

set_option maxHeartbeats 8000000 in
/-- The argument arrays end as they began, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(Pipeline.RDat.FramePost.arr_in h.1 c 2 rfl).trans ((A_eq m c 2).trans (V_main_arg0 m c)),
      ((h.1 c).2 main_arg1 (Pipeline.mem_restRefs_of main_arg1 (by decide) (by decide))).trans (V_main_arg1 m c),
      (Pipeline.RDat.FramePost.arr_in h.1 c 4 rfl).trans ((A_eq m c 4).trans (V_main_arg2 m c))⟩, h.2⟩) (run_all m ρ)

end Cert.Kernel.Gen

end
-- ==== Proof.OffsetsI.lean ====
module

public import proofs.«01_k».proof.Proof.Gen.KernelIdeal
public import Idealize.ShloMosaic.Lib.Exec

@[expose] public section

noncomputable section

namespace Cert.KernelIdeal.Gen

open Idealize.ShloMosaic Idealize.ShloMosaic.TcCoe Idealize.ShloMosaic.Tactic

theorem t1_trips : ∀ i : grid0.Coords, (k0_t1_loop i).trips = (15 - (i 1).val) / 2 := by decide +kernel

theorem off3_one : ∀ (i : grid0.Coords) (k : Fin (k0_t1_loop i).trips),
    k0_off3 i k 1#32 = ![512 * ((i 1).val + 1 + 2 * k.val), 0] := by decide +kernel

theorem off3_two : ∀ (i : grid0.Coords) (k : Fin (k0_t1_loop i).trips),
    k0_off3 i k 2#32 = ![512 * ((i 1).val + 2 + 2 * k.val), 0] := by decide +kernel

theorem off4_one : ∀ (i : grid0.Coords) (k : Fin (k0_t1_loop i).trips),
    k0_off4 i k 1#32 = ![0, (i 1).val + 1 + 2 * k.val, 0, 0] := by decide +kernel

theorem off4_two : ∀ (i : grid0.Coords) (k : Fin (k0_t1_loop i).trips),
    k0_off4 i k 2#32 = ![0, (i 1).val + 2 + 2 * k.val, 0, 0] := by decide +kernel

instance (i : grid0.Coords) (k : Fin (k0_t1_loop i).trips) : ClosedOff (k0_off3 i k 1#32) := ⟨_, off3_one i k⟩
instance (i : grid0.Coords) (k : Fin (k0_t1_loop i).trips) : ClosedOff (k0_off3 i k 2#32) := ⟨_, off3_two i k⟩
instance (i : grid0.Coords) (k : Fin (k0_t1_loop i).trips) : ClosedOff (k0_off4 i k 1#32) := ⟨_, off4_one i k⟩
instance (i : grid0.Coords) (k : Fin (k0_t1_loop i).trips) : ClosedOff (k0_off4 i k 2#32) := ⟨_, off4_two i k⟩

end Cert.KernelIdeal.Gen

end
-- ==== Proof.StepI.lean ====
module

public import proofs.«01_k».proof.Proof.Gen.KernelIdeal.Skeleton
public import proofs.«01_k».proof.Proof.OffsetsI
public import Idealize.ShloMosaic.Lib.VecWindow
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic

variable {F : FTy → Type} [FloatOps F] [Named F]

/-- What a point reads: the queries and their cotangents whole, the point's block of keys and values, its row of decay
    terms, and the two statistics of every query. -/
structure In (F : FTy → Type) where
  q : Vec F S8192x128 .bf16
  k : Vec F S512x128 .bf16
  v : Vec F S512x128 .bf16
  nf : Vec F S1x512x128 .f32
  dO : Vec F S8192x128 .bf16
  lse : Vec F S1x16x1x512 .f32
  dl : Vec F S1x16x1x512 .f32

/-- What a point accumulates: the gradients of the queries, of the row terms, of its keys and values, and of the column
    terms by lanes. -/
structure St (F : FTy → Type) where
  dq : Vec F S8192x128 .f32
  drow : Vec F S1x16x1x512 .f32
  dk : Vec F S512x128 .f32
  dv : Vec F S512x128 .f32
  dnf : Vec F S512x128 .f32

theorem tile_inb (n : Fin 16) : ∀ a, (![512 * n.val, 0] : Fin 2 → ℕ) a + S512x128.size a ≤ S8192x128.size a := by
  revert n; decide

theorem row_inb (n : Fin 16) : ∀ a, (![0, n.val, 0, 0] : Fin 4 → ℕ) a + S1x1x1x512.size a ≤ S1x16x1x512.size a := by
  revert n; decide

/-- Block `n` of 512 rows. -/
def tile {e : EltTy} (x : Vec F S8192x128 e) (n : Fin 16) : Vec F S512x128 e :=
  VecWindow.window x ![512 * n.val, 0] S512x128.size (tile_inb n)

/-- Row `n` of the statistics. -/
def row {e : EltTy} (x : Vec F S1x16x1x512 e) (n : Fin 16) : Vec F S1x1x1x512 e :=
  VecWindow.window x ![0, n.val, 0, 0] S1x1x1x512.size (row_inb n)

def putTile (x : Vec F S8192x128 .f32) (n : Fin 16) (w : Vec F S512x128 .f32) : Vec F S8192x128 .f32 :=
  VecWindow.put x ![512 * n.val, 0] S512x128.size w

def putRow (x : Vec F S1x16x1x512 .f32) (n : Fin 16) (w : Vec F S1x1x1x512 .f32) : Vec F S1x16x1x512 .f32 :=
  VecWindow.put x ![0, n.val, 0, 0] S1x1x1x512.size w

/-- The gradient of the scores between the point's keys and block `n` of the queries. -/
def ds (I : In F) (n : Fin 16) : FVec F S512x512 .f32 :=
  k0_pay4 I.k (tile I.q n) (tile I.dO n) I.v I.nf (row I.lse n) (row I.dl n)

def dsb (I : In F) (n : Fin 16) : FVec F S512x512 .bf16 :=
  k0_pay5 I.k (tile I.q n) (tile I.dO n) I.v I.nf (row I.lse n) (row I.dl n)

/-- A block of queries after the point's keys. -/
def block (I : In F) (n : Fin 16) (s : St F) : St F where
  dq := putTile s.dq n (k0_pay9 I.k (dsb I n) (tile s.dq n))
  drow := putRow s.drow n (k0_pay10 (ds I n) (row s.drow n))
  dk := k0_pay8 (tile I.q n) (dsb I n) s.dk
  dv := k0_pay6 I.k (tile I.q n) (tile I.dO n) I.nf (row I.lse n) s.dv
  dnf := k0_pay11 (ds I n) s.dnf

/-- The same for the block on the diagonal, where later keys are masked. -/
def dsd (I : In F) (n : Fin 16) : FVec F S512x512 .f32 :=
  k0_pay53 I.k (tile I.q n) (tile I.dO n) I.v (k0_pay50 I.nf) (k0_pay51 (row I.lse n)) (row I.dl n)

def diag (I : In F) (n : Fin 16) (s : St F) : St F where
  dq := putTile s.dq n (k0_pay57 I.k (tile I.q n) (tile I.dO n) I.v (k0_pay50 I.nf) (k0_pay51 (row I.lse n)) (row I.dl n) (tile s.dq n))
  drow := putRow s.drow n (k0_pay59 (dsd I n) (row s.drow n))
  dk := k0_pay56 I.k (tile I.q n) (tile I.dO n) I.v (k0_pay50 I.nf) (k0_pay51 (row I.lse n)) (row I.dl n) s.dk
  dv := k0_pay55 I.k (tile I.q n) (tile I.dO n) (k0_pay50 I.nf) (k0_pay51 (row I.lse n)) s.dv
  dnf := k0_pay60 (dsd I n) s.dnf

/-- A number as the number of a block. -/
def blk (n : ℕ) : Fin 16 := ⟨n % 16, Nat.mod_lt _ (by decide)⟩

theorem blk_val (n : ℕ) (h : n < 16) : (blk n).val = n := Nat.mod_eq_of_lt h

/-- After `n` further blocks of queries behind block `j`. -/
def after (I : In F) (j : ℕ) (s : St F) : ℕ → St F
  | 0 => s
  | n + 1 => block I (blk (j + 1 + n)) (after I j s n)

/-- The accumulators as a point finds them: its own keys' and values' are cleared. -/
def cleared (dq : Vec F S8192x128 .f32) (drow : Vec F S1x16x1x512 .f32) : St F where
  dq := dq
  drow := drow
  dk := k0_pay47
  dv := k0_pay48
  dnf := k0_pay49

/-- What the point of block `j` of keys leaves in the accumulators. -/
def point (I : In F) (j : Fin 16) (dq : Vec F S8192x128 .f32) (drow : Vec F S1x16x1x512 .f32) : St F :=
  after I j.val (diag I j (cleared dq drow)) (15 - j.val)

theorem pay7_eq (x : FVec F S512x128 .f32) : k0_pay7 x = x := shapeCast_self _ _
theorem pay12_eq (x : FVec F S512x128 .f32) : k0_pay12 x = x := shapeCast_self _ _
theorem pay17_eq (x : FVec F S512x128 .f32) : k0_pay17 x = x := shapeCast_self _ _
theorem pay58_eq (x : FVec F S512x128 .f32) : k0_pay58 x = x := shapeCast_self _ _
theorem pay61_eq (x : FVec F S512x128 .f32) : k0_pay61 x = x := shapeCast_self _ _

/-- Contents that start at `G` and are the vectors `X` from then on. -/
def held {sig : RefSig} {κ : Kind} {sp : Space} {s : Shape} {e : EltTy} {Val : EltTy → Type} {m : Memref sig κ sp s e} (h : m.IsWhole)
    (G : m.view.ty.Contents Val) (X : ℕ → s.Idx → Val e) : ℕ → m.view.ty.Contents Val
  | 0 => G
  | n + 1 => h.unread (X (n + 1))

theorem read_held {sig : RefSig} {κ : Kind} {sp : Space} {s : Shape} {e : EltTy} {Val : EltTy → Type} {m : Memref sig κ sp s e} (h : m.IsWhole)
    (G : m.view.ty.Contents Val) (X : ℕ → s.Idx → Val e) (h0 : m.view.read Val G = X 0) (n : ℕ) :
    m.view.read Val (held h G X n) = X n := by
  cases n with
  | zero => exact h0
  | succ n => exact h.read_unread _

end Cert.KernelIdeal.Gen

end
-- ==== Proof.LoopV.lean ====
module

public import proofs.«01_k».proof.Proof.Gen.KernelIdeal.Loops
public import proofs.«01_k».proof.Proof.StepI
public import Idealize.ShloMosaic.Lib.LoopRemainder

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

theorem after_two (I : In F) (j : ℕ) (s : St F) (n : ℕ) :
    after I j s (2 * (n + 1)) = block I (blk (j + 2 + 2 * n)) (block I (blk (j + 1 + 2 * n)) (after I j s (2 * n))) := by
  rw [show 2 * (n + 1) = 2 * n + 1 + 1 by omega, show j + 2 + 2 * n = j + 1 + (2 * n + 1) by omega]
  rfl

theorem row_putRow_ne (x : Vec F S1x16x1x512 .f32) {n n' : Fin 16} (h : n.val < n'.val) (w : Vec F S1x1x1x512 .f32) :
    row (putRow x n w) n' = row x n' :=
  VecWindow.window_put_of_disjoint x _ _ _ _ _ w (1 : Fin 4) (.inr (by show n.val + 1 ≤ n'.val; omega))

theorem tile_putTile_ne (x : Vec F S8192x128 .f32) {n n' : Fin 16} (h : n.val < n'.val) (w : Vec F S512x128 .f32) :
    tile (putTile x n w) n' = tile x n' :=
  VecWindow.window_put_of_disjoint x _ _ _ _ _ w (0 : Fin 2) (.inr (by show 512 * n.val + 512 ≤ 512 * n'.val; omega))

set_option maxHeartbeats 8000000 in
/-- Before trip `k`, `2 * k` further blocks of queries are in the accumulators. -/
@[sl_loop] def loopV_t1 (c : Dev nD) (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x512x128 .f32) (harg5 : arg5.IsWhole) (arg6 : Memref sig .tc .vmem S8192x128 .bf16) (harg6 : arg6.IsWhole) (arg7 : Memref sig .tc .vmem S1x16x1x512 .f32) (harg7 : arg7.IsWhole) (arg8 : Memref sig .tc .vmem S1x16x1x512 .f32) (harg8 : arg8.IsWhole) (arg9 : Memref sig .tc .vmem S8192x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x16x1x512 .f32) (harg12 : arg12.IsWhole) (arg13 : Memref sig .tc .vmem S1x512x1 .f32) (harg13 : arg13.IsWhole) (arg14 : Memref sig .tc .vmem S8192x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg1 : BitVec 32) (v15 : Vec F S512x128 .bf16) (v92 : BitVec 32) (v93 : BitVec 32) (v104 : BitVec 1) (v106 : BitVec 1)
    (f2 : Buf (Elt F) (arg2.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ)))
    (G12 : Buf (Elt F) (arg12.view.loc (c : Thread nD τ))) (G14 : Buf (Elt F) (arg14.view.loc (c : Thread nD τ))) (G15 : Buf (Elt F) (arg15.view.loc (c : Thread nD τ))) (G16 : Buf (Elt F) (arg16.view.loc (c : Thread nD τ))) (G17 : Buf (Elt F) (arg17.view.loc (c : Thread nD τ))) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v15 v92 v93 v104 v106 where
  inv := fun k _ => iprop((arg2.view.loc (c : Thread nD τ) ↦[arg2.view.set]{fullShare} f2)
      ∗ (arg4.view.loc (c : Thread nD τ) ↦[arg4.view.set]{fullShare} f4)
      ∗ (arg5.view.loc (c : Thread nD τ) ↦[arg5.view.set]{fullShare} f5)
      ∗ (arg6.view.loc (c : Thread nD τ) ↦[arg6.view.set]{fullShare} f6)
      ∗ (arg7.view.loc (c : Thread nD τ) ↦[arg7.view.set]{fullShare} f7)
      ∗ (arg8.view.loc (c : Thread nD τ) ↦[arg8.view.set]{fullShare} f8)
      ∗ (∃ f, (arg12.view.loc (c : Thread nD τ) ↦[arg12.view.set]{fullShare} f) ∗ ⌜f = held harg12 G12 (fun n => (after ⟨arg2.view.read (Elt F) f2, v15, arg4.view.read (Elt F) f4, arg5.view.read (Elt F) f5, arg6.view.read (Elt F) f6, arg7.view.read (Elt F) f7, arg8.view.read (Elt F) f8⟩ (i 1).val ⟨arg14.view.read (Elt F) G14, arg12.view.read (Elt F) G12, arg15.view.read (Elt F) G15, arg16.view.read (Elt F) G16, arg17.view.read (Elt F) G17⟩ (2 * n)).drow) k⌝)
      ∗ (∃ f, (arg14.view.loc (c : Thread nD τ) ↦[arg14.view.set]{fullShare} f) ∗ ⌜f = held harg14 G14 (fun n => (after ⟨arg2.view.read (Elt F) f2, v15, arg4.view.read (Elt F) f4, arg5.view.read (Elt F) f5, arg6.view.read (Elt F) f6, arg7.view.read (Elt F) f7, arg8.view.read (Elt F) f8⟩ (i 1).val ⟨arg14.view.read (Elt F) G14, arg12.view.read (Elt F) G12, arg15.view.read (Elt F) G15, arg16.view.read (Elt F) G16, arg17.view.read (Elt F) G17⟩ (2 * n)).dq) k⌝)
      ∗ (∃ f, (arg15.view.loc (c : Thread nD τ) ↦[arg15.view.set]{fullShare} f) ∗ ⌜f = held harg15 G15 (fun n => (after ⟨arg2.view.read (Elt F) f2, v15, arg4.view.read (Elt F) f4, arg5.view.read (Elt F) f5, arg6.view.read (Elt F) f6, arg7.view.read (Elt F) f7, arg8.view.read (Elt F) f8⟩ (i 1).val ⟨arg14.view.read (Elt F) G14, arg12.view.read (Elt F) G12, arg15.view.read (Elt F) G15, arg16.view.read (Elt F) G16, arg17.view.read (Elt F) G17⟩ (2 * n)).dk) k⌝)
      ∗ (∃ f, (arg16.view.loc (c : Thread nD τ) ↦[arg16.view.set]{fullShare} f) ∗ ⌜f = held harg16 G16 (fun n => (after ⟨arg2.view.read (Elt F) f2, v15, arg4.view.read (Elt F) f4, arg5.view.read (Elt F) f5, arg6.view.read (Elt F) f6, arg7.view.read (Elt F) f7, arg8.view.read (Elt F) f8⟩ (i 1).val ⟨arg14.view.read (Elt F) G14, arg12.view.read (Elt F) G12, arg15.view.read (Elt F) G15, arg16.view.read (Elt F) G16, arg17.view.read (Elt F) G17⟩ (2 * n)).dv) k⌝)
      ∗ (∃ f, (arg17.view.loc (c : Thread nD τ) ↦[arg17.view.set]{fullShare} f) ∗ ⌜f = held harg17 G17 (fun n => (after ⟨arg2.view.read (Elt F) f2, v15, arg4.view.read (Elt F) f4, arg5.view.read (Elt F) f5, arg6.view.read (Elt F) f6, arg7.view.read (Elt F) f7, arg8.view.read (Elt F) f8⟩ (i 1).val ⟨arg14.view.read (Elt F) G14, arg12.view.read (Elt F) G12, arg15.view.read (Elt F) G15, arg16.view.read (Elt F) G16, arg17.view.read (Elt F) G17⟩ (2 * n)).dnf) k⌝))
  step := fun k acc => by
    unfold k0_t1_body
    iintro ⟨H2, H4, H5, H6, H7, H8, ⟨%g12, H12, %h12⟩, ⟨%g14, H14, %h14⟩, ⟨%g15, H15, %h15⟩, ⟨%g16, H16, %h16⟩, ⟨%g17, H17, %h17⟩⟩
    sl_exec
    sl_step
    generalize hI : (⟨arg2.view.read (Elt F) f2, v15, arg4.view.read (Elt F) f4, arg5.view.read (Elt F) f5, arg6.view.read (Elt F) f6, arg7.view.read (Elt F) f7, arg8.view.read (Elt F) f8⟩ : In F) = I at *
    generalize hS : (⟨arg14.view.read (Elt F) G14, arg12.view.read (Elt F) G12, arg15.view.read (Elt F) G15, arg16.view.read (Elt F) G16, arg17.view.read (Elt F) G17⟩ : St F) = S at *
    obtain ⟨s, hs⟩ : ∃ s, after I (i 1).val S (2 * k.val) = s := ⟨_, rfl⟩
    have hk : k.val < (k0_t1_loop i).trips := k.isLt
    rw [t1_trips] at hk
    obtain ⟨n1, hn1⟩ : ∃ n, blk ((i 1).val + 1 + 2 * k.val) = n := ⟨_, rfl⟩
    obtain ⟨n2, hn2⟩ : ∃ n, blk ((i 1).val + 2 + 2 * k.val) = n := ⟨_, rfl⟩
    have w1 : n1.val = (i 1).val + 1 + 2 * k.val := by rw [← hn1]; exact blk_val _ (by omega)
    have w2 : n2.val = (i 1).val + 2 + 2 * k.val := by rw [← hn2]; exact blk_val _ (by omega)
    have n12 : n1.val < n2.val := by omega
    have q1 : k0_off3 i k 1#32 = ![512 * n1.val, 0] := by rw [w1]; exact off3_one i k
    have q2 : k0_off3 i k 2#32 = ![512 * n2.val, 0] := by rw [w2]; exact off3_two i k
    have r1 : k0_off4 i k 1#32 = ![0, n1.val, 0, 0] := by rw [w1]; exact off4_one i k
    have r2 : k0_off4 i k 2#32 = ![0, n2.val, 0, 0] := by rw [w2]; exact off4_two i k
    replace h12 : arg12.view.read (Elt F) g12 = s.drow := by
      rw [h12, ← hs]; exact read_held harg12 G12 _ (by rw [← hS]; rfl) k.val
    replace h14 : arg14.view.read (Elt F) g14 = s.dq := by
      rw [h14, ← hs]; exact read_held harg14 G14 _ (by rw [← hS]; rfl) k.val
    replace h15 : arg15.view.read (Elt F) g15 = s.dk := by
      rw [h15, ← hs]; exact read_held harg15 G15 _ (by rw [← hS]; rfl) k.val
    replace h16 : arg16.view.read (Elt F) g16 = s.dv := by
      rw [h16, ← hs]; exact read_held harg16 G16 _ (by rw [← hS]; rfl) k.val
    replace h17 : arg17.view.read (Elt F) g17 = s.dnf := by
      rw [h17, ← hs]; exact read_held harg17 G17 _ (by rw [← hS]; rfl) k.val
    have a2_1 : arg2.view.readAt (Elt F) (Rect.unit (s := S8192x128) (k0_off3 i k 1#32) S512x128.size (k0_off3_inb i k 0)).toLoadRect f2 = tile I.q n1 := by
      rw [show I.q = arg2.view.read (Elt F) f2 from by rw [← hI]]
      exact View.readAt_unit _ _ _ q1 (tile_inb n1)
    have a6_1 : arg6.view.readAt (Elt F) (Rect.unit (s := S8192x128) (k0_off3 i k 1#32) S512x128.size (k0_off3_inb i k 0)).toLoadRect f6 = tile I.dO n1 := by
      rw [show I.dO = arg6.view.read (Elt F) f6 from by rw [← hI]]
      exact View.readAt_unit _ _ _ q1 (tile_inb n1)
    have a14_1 : arg14.view.readAt (Elt F) (Rect.unit (s := S8192x128) (k0_off3 i k 1#32) S512x128.size (k0_off3_inb i k 0)).toLoadRect g14 = tile s.dq n1 := by
      rw [show s.dq = arg14.view.read (Elt F) g14 from h14.symm]
      exact View.readAt_unit _ _ _ q1 (tile_inb n1)
    have a7_1 : arg7.view.readAt (Elt F) (Rect.unit (s := S1x16x1x512) (k0_off4 i k 1#32) S1x1x1x512.size (k0_off4_inb i k 0)).toLoadRect f7 = row I.lse n1 := by
      rw [show I.lse = arg7.view.read (Elt F) f7 from by rw [← hI]]
      exact View.readAt_unit _ _ _ r1 (row_inb n1)
    have a8_1 : arg8.view.readAt (Elt F) (Rect.unit (s := S1x16x1x512) (k0_off4 i k 1#32) S1x1x1x512.size (k0_off4_inb i k 0)).toLoadRect f8 = row I.dl n1 := by
      rw [show I.dl = arg8.view.read (Elt F) f8 from by rw [← hI]]
      exact View.readAt_unit _ _ _ r1 (row_inb n1)
    have a12_1 : arg12.view.readAt (Elt F) (Rect.unit (s := S1x16x1x512) (k0_off4 i k 1#32) S1x1x1x512.size (k0_off4_inb i k 0)).toLoadRect g12 = row s.drow n1 := by
      rw [show s.drow = arg12.view.read (Elt F) g12 from h12.symm]
      exact View.readAt_unit _ _ _ r1 (row_inb n1)
    have a2_2 : arg2.view.readAt (Elt F) (Rect.unit (s := S8192x128) (k0_off3 i k 2#32) S512x128.size (k0_off3_inb i k 1)).toLoadRect f2 = tile I.q n2 := by
      rw [show I.q = arg2.view.read (Elt F) f2 from by rw [← hI]]
      exact View.readAt_unit _ _ _ q2 (tile_inb n2)
    have a6_2 : arg6.view.readAt (Elt F) (Rect.unit (s := S8192x128) (k0_off3 i k 2#32) S512x128.size (k0_off3_inb i k 1)).toLoadRect f6 = tile I.dO n2 := by
      rw [show I.dO = arg6.view.read (Elt F) f6 from by rw [← hI]]
      exact View.readAt_unit _ _ _ q2 (tile_inb n2)
    have a14_2 : arg14.view.readAt (Elt F) (Rect.unit (s := S8192x128) (k0_off3 i k 2#32) S512x128.size (k0_off3_inb i k 1)).toLoadRect g14 = tile s.dq n2 := by
      rw [show s.dq = arg14.view.read (Elt F) g14 from h14.symm]
      exact View.readAt_unit _ _ _ q2 (tile_inb n2)
    have a7_2 : arg7.view.readAt (Elt F) (Rect.unit (s := S1x16x1x512) (k0_off4 i k 2#32) S1x1x1x512.size (k0_off4_inb i k 1)).toLoadRect f7 = row I.lse n2 := by
      rw [show I.lse = arg7.view.read (Elt F) f7 from by rw [← hI]]
      exact View.readAt_unit _ _ _ r2 (row_inb n2)
    have a8_2 : arg8.view.readAt (Elt F) (Rect.unit (s := S1x16x1x512) (k0_off4 i k 2#32) S1x1x1x512.size (k0_off4_inb i k 1)).toLoadRect f8 = row I.dl n2 := by
      rw [show I.dl = arg8.view.read (Elt F) f8 from by rw [← hI]]
      exact View.readAt_unit _ _ _ r2 (row_inb n2)
    have a12_2 : arg12.view.readAt (Elt F) (Rect.unit (s := S1x16x1x512) (k0_off4 i k 2#32) S1x1x1x512.size (k0_off4_inb i k 1)).toLoadRect g12 = row s.drow n2 := by
      rw [show s.drow = arg12.view.read (Elt F) g12 from h12.symm]
      exact View.readAt_unit _ _ _ r2 (row_inb n2)
    have a3 : v15 = I.k := by rw [← hI]
    have a4 : arg4.view.readAt (Elt F) (Rect.unit (s := S512x128) ![0, 0] S512x128.size inb_S512x128_S512x128_0_0).toLoadRect f4 = I.v := by
      rw [← hI]; exact View.readAt_full _ _ _
    have a5 : arg5.view.readAt (Elt F) (Rect.unit (s := S1x512x128) ![0, 0, 0] S1x512x128.size inb_S1x512x128_S1x512x128_0_0_0).toLoadRect f5 = I.nf := by
      rw [← hI]; exact View.readAt_full _ _ _
    have a15 : arg15.view.readAt (Elt F) (Rect.unit (s := S512x128) ![0, 0] S512x128.size inb_S512x128_S512x128_0_0).toLoadRect g15 = s.dk := by
      rw [← h15]; exact View.readAt_full _ _ _
    have a16 : arg16.view.readAt (Elt F) (Rect.unit (s := S512x128) ![0, 0] S512x128.size inb_S512x128_S512x128_0_0).toLoadRect g16 = s.dv := by
      rw [← h16]; exact View.readAt_full _ _ _
    have a17 : arg17.view.readAt (Elt F) (Rect.unit (s := S512x128) ![0, 0] S512x128.size inb_S512x128_S512x128_0_0).toLoadRect g17 = s.dnf := by
      rw [← h17]; exact View.readAt_full _ _ _
    have e206 : loopV_t1.sl.v206 c i arg2 arg4 arg5 arg6 arg7 arg8 arg12 v15 f2 f4 f5 f6 f7 f8 k g12 = k0_pay10 (ds I n1) (row s.drow n1) := by
      unfold ds; rw [← a2_1, ← a6_1, ← a7_1, ← a8_1, ← a3, ← a4, ← a5, ← a12_1]; rfl
    have e280 : loopV_t1.sl.v280 c i arg2 arg4 arg5 arg6 arg7 arg8 arg12 v15 f2 f4 f5 f6 f7 f8 k g12 = k0_pay10 (ds I n2) (row s.drow n2) := by
      unfold ds; rw [← a2_2, ← a6_2, ← a7_2, ← a8_2, ← a3, ← a4, ← a5, ← a12_2]; rfl
    have e196 : loopV_t1.sl.v196 c i arg2 arg4 arg5 arg6 arg7 arg8 arg14 v15 f2 f4 f5 f6 f7 f8 k g14 = k0_pay9 I.k (dsb I n1) (tile s.dq n1) := by
      unfold dsb; rw [← a2_1, ← a6_1, ← a7_1, ← a8_1, ← a3, ← a4, ← a5, ← a14_1]; rfl
    have e270 : loopV_t1.sl.v270 c i arg2 arg4 arg5 arg6 arg7 arg8 arg14 v15 f2 f4 f5 f6 f7 f8 k g14 = k0_pay9 I.k (dsb I n2) (tile s.dq n2) := by
      unfold dsb; rw [← a2_2, ← a6_2, ← a7_2, ← a8_2, ← a3, ← a4, ← a5, ← a14_2]; rfl
    have e262 : loopV_t1.sl.v262 c i arg2 arg4 arg5 arg6 arg7 arg8 arg15 v15 f2 f4 f5 f6 f7 f8 k g15 = k0_pay8 (tile I.q n2) (dsb I n2) (arg15.view.readCov [⟨(Rect.unit (s := S512x128) ![0, 0] S512x128.size inb_S512x128_S512x128_0_0), k0_pay8 (tile I.q n1) (dsb I n1) s.dk⟩] (Rect.unit (s := S512x128) ![0, 0] S512x128.size inb_S512x128_S512x128_0_0).toLoadRect) := by
      unfold dsb; rw [← a2_1, ← a2_2, ← a6_1, ← a6_2, ← a7_1, ← a7_2, ← a8_1, ← a8_2, ← a3, ← a4, ← a5, ← a15]; rfl
    rw [View.readCov_full] at e262
    have e256 : loopV_t1.sl.v256 c i arg2 arg5 arg6 arg7 arg16 v15 f2 f5 f6 f7 k g16 = k0_pay7 (k0_pay6 I.k (tile I.q n2) (tile I.dO n2) I.nf (row I.lse n2) (arg16.view.readCov [⟨(Rect.unit (s := S512x128) ![0, 0] S512x128.size inb_S512x128_S512x128_0_0), k0_pay7 (k0_pay6 I.k (tile I.q n1) (tile I.dO n1) I.nf (row I.lse n1) s.dv)⟩] (Rect.unit (s := S512x128) ![0, 0] S512x128.size inb_S512x128_S512x128_0_0).toLoadRect)) := by
      rw [← a2_1, ← a2_2, ← a6_1, ← a6_2, ← a7_1, ← a7_2, ← a3, ← a5, ← a16]; rfl
    rw [View.readCov_full, pay7_eq, pay7_eq] at e256
    have e289 : loopV_t1.sl.v289 c i arg2 arg4 arg5 arg6 arg7 arg8 arg17 v15 f2 f4 f5 f6 f7 f8 k g17 = k0_pay11 (ds I n2) (arg17.view.readCov [⟨(Rect.unit (s := S512x128) ![0, 0] S512x128.size inb_S512x128_S512x128_0_0), k0_pay12 (k0_pay11 (ds I n1) s.dnf)⟩] (Rect.unit (s := S512x128) ![0, 0] S512x128.size inb_S512x128_S512x128_0_0).toLoadRect) := by
      unfold ds; rw [← a2_1, ← a2_2, ← a6_1, ← a6_2, ← a7_1, ← a7_2, ← a8_1, ← a8_2, ← a3, ← a4, ← a5, ← a17]; rfl
    rw [View.readCov_full, pay12_eq] at e289

    isplitl [H2]; · iexact H2
    isplitl [H4]; · iexact H4
    isplitl [H5]; · iexact H5
    isplitl [H6]; · iexact H6
    isplitl [H7]; · iexact H7
    isplitl [H8]; · iexact H8
    isplitl [H12]
    · iexists _
      isplitl [H12]; · iexact H12
      ipureintro
      refine harg12.eq_unread ?_
      refine Eq.trans ?_ (congrArg St.drow (after_two I (i 1).val S k.val)).symm
      rw [hs, hn1, hn2]
      refine (View.read_writes_cons_put _ _ _ _ _ r2).trans ?_
      rw [View.read_writes_cons_put _ _ _ _ _ r1, e206, e280, View.writes_nil, h12]
      show _ = putRow (putRow s.drow n1 _) n2 (k0_pay10 (ds I n2) (row (putRow s.drow n1 _) n2))
      rw [row_putRow_ne _ n12]
      rfl
    isplitl [H14]
    · iexists _
      isplitl [H14]; · iexact H14
      ipureintro
      refine harg14.eq_unread ?_
      refine Eq.trans ?_ (congrArg St.dq (after_two I (i 1).val S k.val)).symm
      rw [hs, hn1, hn2]
      refine (View.read_writes_cons_put _ _ _ _ _ q2).trans ?_
      rw [View.read_writes_cons_put _ _ _ _ _ q1, e196, e270, View.writes_nil, h14]
      show _ = putTile (putTile s.dq n1 _) n2 (k0_pay9 I.k (dsb I n2) (tile (putTile s.dq n1 _) n2))
      rw [tile_putTile_ne _ n12]
      rfl
    isplitl [H15]
    · iexists _
      isplitl [H15]; · iexact H15
      ipureintro
      refine harg15.eq_unread ?_
      refine Eq.trans ?_ (congrArg St.dk (after_two I (i 1).val S k.val)).symm
      rw [hs, hn1, hn2]
      refine (View.read_writes_full _ _ _ _ _).trans ?_
      skip
      exact e262
    isplitl [H16]
    · iexists _
      isplitl [H16]; · iexact H16
      ipureintro
      refine harg16.eq_unread ?_
      refine Eq.trans ?_ (congrArg St.dv (after_two I (i 1).val S k.val)).symm
      rw [hs, hn1, hn2]
      refine (View.read_writes_full _ _ _ _ _).trans ?_
      skip
      exact e256
    · iexists _
      isplitl [H17]; · iexact H17
      ipureintro
      refine harg17.eq_unread ?_
      refine Eq.trans ?_ (congrArg St.dnf (after_two I (i 1).val S k.val)).symm
      rw [hs, hn1, hn2]
      refine (View.read_writes_full _ _ _ _ _).trans ?_
      rw [pay61_eq]
      exact e289

end Cert.KernelIdeal.Gen

end
-- ==== Proof.ReadV.lean ====
module

public import proofs.«01_k».proof.Proof.StepI
public import proofs.«01_k».proof.Proof.OffsetsI

@[expose] public section

noncomputable section

namespace Cert.KernelIdeal.Gen

open Idealize.ShloMosaic Idealize.ShloMosaic.TcCoe

variable {F : FTy → Type} [FloatOps F] [Named F]
variable {sig : RefSig} {κ : Kind} {sp : Space}

/-! What loads and stores of one block are: `tile`, `row`, `putTile`, `putRow`. -/

theorem read_tile {e : EltTy} (v : View sig κ sp S8192x128 e) (i : grid0.Coords) (inb) (f : v.ty.Contents (Elt F)) :
    v.readAt (Elt F) (Rect.unit (s := S8192x128) (k0_off1 i) ![512, 128] inb).toLoadRect f = tile (v.read (Elt F) f) (i 1) :=
  View.readAt_unit v f inb (k0_off1_eq i) (tile_inb (i 1))

theorem read_last_tile {e : EltTy} (v : View sig κ sp S8192x128 e) (inb) (f : v.ty.Contents (Elt F)) :
    v.readAt (Elt F) (Rect.unit (s := S8192x128) ![7680, 0] ![512, 128] inb).toLoadRect f = tile (v.read (Elt F) f) 15 :=
  View.readAt_unit v f inb rfl (tile_inb 15)

theorem read_row {e : EltTy} (v : View sig κ sp S1x16x1x512 e) (i : grid0.Coords) (inb) (f : v.ty.Contents (Elt F)) :
    v.readAt (Elt F) (Rect.unit (s := S1x16x1x512) (k0_off2 i) ![1, 1, 1, 512] inb).toLoadRect f = row (v.read (Elt F) f) (i 1) :=
  View.readAt_unit v f inb (k0_off2_eq i) (row_inb (i 1))

theorem read_last_row {e : EltTy} (v : View sig κ sp S1x16x1x512 e) (inb) (f : v.ty.Contents (Elt F)) :
    v.readAt (Elt F) (Rect.unit (s := S1x16x1x512) ![0, 15, 0, 0] ![1, 1, 1, 512] inb).toLoadRect f = row (v.read (Elt F) f) 15 :=
  View.readAt_unit v f inb rfl (row_inb 15)

theorem write_tile (v : View sig κ sp S8192x128 .f32) (i : grid0.Coords) (inb) (f : v.ty.Contents (Elt F)) (w : Vec F S512x128 .f32) :
    v.read (Elt F) ((v.slice (Rect.unit (s := S8192x128) (k0_off1 i) ![512, 128] inb)).write (Elt F) f w Finset.univ) = putTile (v.read (Elt F) f) (i 1) w :=
  View.read_writes_cons_put v f inb w [] (k0_off1_eq i)

theorem write_last_tile (v : View sig κ sp S8192x128 .f32) (inb) (f : v.ty.Contents (Elt F)) (w : Vec F S512x128 .f32) :
    v.read (Elt F) ((v.slice (Rect.unit (s := S8192x128) ![7680, 0] ![512, 128] inb)).write (Elt F) f w Finset.univ) = putTile (v.read (Elt F) f) 15 w :=
  View.read_writes_cons_put v f inb w [] rfl

theorem write_row (v : View sig κ sp S1x16x1x512 .f32) (i : grid0.Coords) (inb) (f : v.ty.Contents (Elt F)) (w : Vec F S1x1x1x512 .f32) :
    v.read (Elt F) ((v.slice (Rect.unit (s := S1x16x1x512) (k0_off2 i) ![1, 1, 1, 512] inb)).write (Elt F) f w Finset.univ) = putRow (v.read (Elt F) f) (i 1) w :=
  View.read_writes_cons_put v f inb w [] (k0_off2_eq i)

theorem write_last_row (v : View sig κ sp S1x16x1x512 .f32) (inb) (f : v.ty.Contents (Elt F)) (w : Vec F S1x1x1x512 .f32) :
    v.read (Elt F) ((v.slice (Rect.unit (s := S1x16x1x512) ![0, 15, 0, 0] ![1, 1, 1, 512] inb)).write (Elt F) f w Finset.univ) = putRow (v.read (Elt F) f) 15 w :=
  View.read_writes_cons_put v f inb w [] rfl

theorem read_all_b {e : EltTy} (v : View sig κ sp S512x128 e) (inb) (f : v.ty.Contents (Elt F)) :
    v.readAt (Elt F) (Rect.unit (s := S512x128) ![0, 0] ![512, 128] inb).toLoadRect f = v.read (Elt F) f :=
  View.readAt_full v f inb

theorem write_all_b {e : EltTy} (v : View sig κ sp S512x128 e) (inb) (f : v.ty.Contents (Elt F)) (w : Vec F S512x128 e) :
    v.read (Elt F) ((v.slice (Rect.unit (s := S512x128) ![0, 0] ![512, 128] inb)).write (Elt F) f w Finset.univ) = w :=
  View.read_writes_full v f inb w []

theorem read_all_q {e : EltTy} (v : View sig κ sp S8192x128 e) (inb) (f : v.ty.Contents (Elt F)) :
    v.readAt (Elt F) (Rect.unit (s := S8192x128) ![0, 0] ![8192, 128] inb).toLoadRect f = v.read (Elt F) f :=
  View.readAt_full v f inb

theorem write_all_q {e : EltTy} (v : View sig κ sp S8192x128 e) (inb) (f : v.ty.Contents (Elt F)) (w : Vec F S8192x128 e) :
    v.read (Elt F) ((v.slice (Rect.unit (s := S8192x128) ![0, 0] ![8192, 128] inb)).write (Elt F) f w Finset.univ) = w :=
  View.read_writes_full v f inb w []

theorem read_all_n {e : EltTy} (v : View sig κ sp S1x512x128 e) (inb) (f : v.ty.Contents (Elt F)) :
    v.readAt (Elt F) (Rect.unit (s := S1x512x128) ![0, 0, 0] ![1, 512, 128] inb).toLoadRect f = v.read (Elt F) f :=
  View.readAt_full v f inb

theorem write_all_n {e : EltTy} (v : View sig κ sp S1x512x128 e) (inb) (f : v.ty.Contents (Elt F)) (w : Vec F S1x512x128 e) :
    v.read (Elt F) ((v.slice (Rect.unit (s := S1x512x128) ![0, 0, 0] ![1, 512, 128] inb)).write (Elt F) f w Finset.univ) = w :=
  View.read_writes_full v f inb w []

theorem read_all_r {e : EltTy} (v : View sig κ sp S1x16x1x512 e) (inb) (f : v.ty.Contents (Elt F)) :
    v.readAt (Elt F) (Rect.unit (s := S1x16x1x512) ![0, 0, 0, 0] ![1, 16, 1, 512] inb).toLoadRect f = v.read (Elt F) f :=
  View.readAt_full v f inb

theorem write_all_r {e : EltTy} (v : View sig κ sp S1x16x1x512 e) (inb) (f : v.ty.Contents (Elt F)) (w : Vec F S1x16x1x512 e) :
    v.read (Elt F) ((v.slice (Rect.unit (s := S1x16x1x512) ![0, 0, 0, 0] ![1, 16, 1, 512] inb)).write (Elt F) f w Finset.univ) = w :=
  View.read_writes_full v f inb w []

theorem read_all_c {e : EltTy} (v : View sig κ sp S1x512x1 e) (inb) (f : v.ty.Contents (Elt F)) :
    v.readAt (Elt F) (Rect.unit (s := S1x512x1) ![0, 0, 0] ![1, 512, 1] inb).toLoadRect f = v.read (Elt F) f :=
  View.readAt_full v f inb

theorem write_all_c {e : EltTy} (v : View sig κ sp S1x512x1 e) (inb) (f : v.ty.Contents (Elt F)) (w : Vec F S1x512x1 e) :
    v.read (Elt F) ((v.slice (Rect.unit (s := S1x512x1) ![0, 0, 0] ![1, 512, 1] inb)).write (Elt F) f w Finset.univ) = w :=
  View.read_writes_full v f inb w []

theorem cast57 (a b d e : Vec F S512x128 .bf16) (f : FVec F S512x128 .f32) (g : FVec F S1x512 .f32) (h : Vec F S1x1x1x512 .f32) (k : Vec F S512x128 .f32) (p) :
    shapeCast S512x128 (k0_pay57 a b d e f g h k) p = k0_pay57 a b d e f g h k := shapeCast_self _ _

theorem pay44_eq (a b d : Vec F S512x128 .bf16) (e : Vec F S1x512x128 .f32) (f : Vec F S1x1x1x512 .f32) (g : Vec F S512x128 .f32) :
    k0_pay44 a b d e f g = k0_pay6 a b d e f g := shapeCast_self _ _

theorem pay66_eq (a : FVec F S512x512 .f32) (b : Vec F S512x128 .f32) : k0_pay66 a b = k0_pay11 a b := shapeCast_self _ _

/-- The head's first block of keys, where the gradient of the queries is cleared. -/
abbrev first (i : grid0.Coords) : Prop := (Scalar.cmpi .ne (Scalar.extui (Scalar.cmpi .eq (BitVec.ofNat 32 (i 1).val) 0#32)) 0#32) = 1#1

theorem first_iff : ∀ i : grid0.Coords, first i ↔ (i 1).val = 0 := by decide +kernel

theorem last_iff : ∀ i : grid0.Coords, k0_cond3 i = 1#1 ↔ (i 1).val = 15 := by decide +kernel

theorem trips_odd : ∀ i : grid0.Coords, k0_cond2 i = 1#1 → 15 - (i 1).val = 2 * (k0_t1_loop i).trips + 1 := by decide +kernel

theorem trips_even : ∀ i : grid0.Coords, ¬k0_cond2 i = 1#1 → 15 - (i 1).val = 2 * (k0_t1_loop i).trips + 0 := by decide +kernel

theorem cases_of : ∀ i : grid0.Coords,
    (first i ∧ k0_cond2 i = 1#1 ∧ ¬k0_cond3 i = 1#1) ∨ (¬first i ∧ k0_cond2 i = 1#1 ∧ ¬k0_cond3 i = 1#1)
      ∨ (¬first i ∧ ¬k0_cond2 i = 1#1 ∧ ¬k0_cond3 i = 1#1) ∨ (¬first i ∧ ¬k0_cond2 i = 1#1 ∧ k0_cond3 i = 1#1) := by
  decide +kernel

theorem after_zero (I : In F) (j : ℕ) (s : St F) : after I j s 0 = s := rfl

/-- The point behind which the number of blocks is even: the loop does them all. -/
theorem point_even (I : In F) (j : Fin 16) (n : ℕ) (h : 15 - j.val = 2 * n) (dq drow) :
    point I j dq drow = after I j.val (diag I j (cleared dq drow)) (2 * n) := by
  unfold point; rw [h]

/-- The point behind which the number of blocks is odd: the last block of queries comes after the loop. -/
theorem point_odd (I : In F) (j : Fin 16) (n : ℕ) (h : 15 - j.val = 2 * n + 1) (dq drow) :
    point I j dq drow = block I 15 (after I j.val (diag I j (cleared dq drow)) (2 * n)) := by
  have e : blk (j.val + 1 + 2 * n) = 15 := Fin.ext (by rw [blk_val _ (by omega)]; show _ = 15; omega)
  unfold point; rw [h]; show block I (blk (j.val + 1 + 2 * n)) _ = _; rw [e]

end Cert.KernelIdeal.Gen

end
-- ==== Proof.BodyVA.lean ====
module

public import proofs.«01_k».proof.Proof.Gen.KernelIdeal.Frame
public import proofs.«01_k».proof.Proof.LoopV
public import proofs.«01_k».proof.Proof.ReadV
public import Idealize.ShloMosaic.Lib.Pipeline.FrameBody

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The body at such a point leaves in the accumulators what `point` says, and the outputs of its block from them. -/
theorem body_A (c : Dev nD) (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x512x128 .f32) (harg5 : arg5.IsWhole) (arg6 : Memref sig .tc .vmem S8192x128 .bf16) (harg6 : arg6.IsWhole) (arg7 : Memref sig .tc .vmem S1x16x1x512 .f32) (harg7 : arg7.IsWhole) (arg8 : Memref sig .tc .vmem S1x16x1x512 .f32) (harg8 : arg8.IsWhole) (arg9 : Memref sig .tc .vmem S8192x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x16x1x512 .f32) (harg12 : arg12.IsWhole) (arg13 : Memref sig .tc .vmem S1x512x1 .f32) (harg13 : arg13.IsWhole) (arg14 : Memref sig .tc .vmem S8192x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole)
    (x2 : Vec F S8192x128 .bf16) (x3 : Vec F S512x128 .bf16) (x4 : Vec F S512x128 .bf16) (x5 : Vec F S1x512x128 .f32) (x6 : Vec F S8192x128 .bf16) (x7 : Vec F S1x16x1x512 .f32) (x8 : Vec F S1x16x1x512 .f32) (x9 : Vec F S8192x128 .bf16) (x14 : Vec F S8192x128 .f32) (x12 : Vec F S1x16x1x512 .f32) (hc1 : first i) (hc2 : k0_cond2 i = 1#1) (hc3 : ¬k0_cond3 i = 1#1) (E : Set ℕ) (hE : E = Set.univ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ owns (c : Thread nD τ) arg12 fullShare x12 ∗ (∃ d, owns (c : Thread nD τ) arg13 fullShare d) ∗ owns (c : Thread nD τ) arg14 fullShare x14 ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (k0_pay67 (point (F := F) ⟨x2, x3, x4, x5, x6, x7, x8⟩ (i 1) k0_pay45 k0_pay46).dk) ∗ owns (c : Thread nD τ) arg11 fullShare (k0_pay68 (point (F := F) ⟨x2, x3, x4, x5, x6, x7, x8⟩ (i 1) k0_pay45 k0_pay46).dv) ∗ owns (c : Thread nD τ) arg12 fullShare (point (F := F) ⟨x2, x3, x4, x5, x6, x7, x8⟩ (i 1) k0_pay45 k0_pay46).drow ∗ owns (c : Thread nD τ) arg13 fullShare (k0_pay1 (point (F := F) ⟨x2, x3, x4, x5, x6, x7, x8⟩ (i 1) k0_pay45 k0_pay46).dnf) ∗ owns (c : Thread nD τ) arg14 fullShare (point (F := F) ⟨x2, x3, x4, x5, x6, x7, x8⟩ (i 1) k0_pay45 k0_pay46).dq ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  subst hE
  simp only [cc0_attn_bwd_eq_skeleton]; unfold cc0_attn_bwd_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%d13, %f13, -, H13⟩, ⟨%f14, %hf14, H14⟩, ⟨%d15, %f15, -, H15⟩, ⟨%d16, %f16, -, H16⟩, ⟨%d17, %f17, -, H17⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg12.eq_unread hf12; obtain rfl := harg14.eq_unread hf14
  sl_exec (disch := first | sl_exact hc1 | sl_exact hc2 | sl_exact hc3)
  sl_step
  have e : 15 - (i 1).val = 2 * (k0_t1_loop i).trips + 1 := by
    exact trips_odd i hc2
  obtain ⟨T, hT⟩ : ∃ T, T = (k0_t1_loop i).trips := ⟨_, rfl⟩
  rw [← hT] at e
  rw [point_odd (F := F) _ (i 1) _ e]
  iapply Hk
  isplitl [H2]
  · iexists _; isplitr; swap; iexact H2; ipureintro; exact hf2
  isplitl [H3]
  · iexists _; isplitr; swap; iexact H3; ipureintro; exact hf3
  isplitl [H4]
  · iexists _; isplitr; swap; iexact H4; ipureintro; exact hf4
  isplitl [H5]
  · iexists _; isplitr; swap; iexact H5; ipureintro; exact hf5
  isplitl [H6]
  · iexists _; isplitr; swap; iexact H6; ipureintro; exact hf6
  isplitl [H7]
  · iexists _; isplitr; swap; iexact H7; ipureintro; exact hf7
  isplitl [H8]
  · iexists _; isplitr; swap; iexact H8; ipureintro; exact hf8
  isplitl [H9]
  · iexists _; isplitr; swap; iexact H9; ipureintro; exact hf9
  isplitl [H10]
  · iexists _; isplitr; swap; iexact H10; ipureintro
    delta body_A.sl.H12_1 body_A.sl.H14_1 body_A.sl.H15_1 body_A.sl.H15_2 body_A.sl.H16_1 body_A.sl.H16_1_1 body_A.sl.H16_2 body_A.sl.H17_1 body_A.sl.H17_2 body_A.sl.cst_43 body_A.sl.cst_86 body_A.sl.r body_A.sl.r_1 body_A.sl.r_2 body_A.sl.r_3 body_A.sl.r_4 body_A.sl.r_5 body_A.sl.r_6 body_A.sl.r_7 body_A.sl.r_8 body_A.sl.r_9 body_A.sl.v body_A.sl.v0 body_A.sl.v1 body_A.sl.v104 body_A.sl.v105 body_A.sl.v106 body_A.sl.v107 body_A.sl.v108 body_A.sl.v109 body_A.sl.v110 body_A.sl.v112 body_A.sl.v113 body_A.sl.v114 body_A.sl.v128 body_A.sl.v13 body_A.sl.v133 body_A.sl.v145 body_A.sl.v147 body_A.sl.v148 body_A.sl.v149 body_A.sl.v16 body_A.sl.v170 body_A.sl.v177 body_A.sl.v18 body_A.sl.v184 body_A.sl.v191 body_A.sl.v2 body_A.sl.v206 body_A.sl.v24 body_A.sl.v27 body_A.sl.v3 body_A.sl.v49 body_A.sl.v5 body_A.sl.v56 body_A.sl.v6 body_A.sl.v68 body_A.sl.v69 body_A.sl.v72 body_A.sl.v73 body_A.sl.v74 body_A.sl.v75 body_A.sl.v79 body_A.sl.v80 body_A.sl.v81 body_A.sl.v82 body_A.sl.v83 body_A.sl.v84 body_A.sl.v85 body_A.sl.v86 body_A.sl.v87 body_A.sl.v88 body_A.sl.v9 body_A.sl.v90 body_A.sl.v91 body_A.sl.v92 body_A.sl.v93 body_A.sl.v94 body_A.sl.v95 body_A.sl.v96 body_A.sl.v97 body_A.sl.v98
    rw [show Scf.trips (k0_t1_loop i).lb (k0_t1_loop i).ub (k0_t1_loop i).st = T from hT.symm]
    simp only [View.writes_cons, View.writes_nil, View.readCov, read_tile, read_last_tile, read_row, read_last_row, write_tile,
        write_last_tile, write_row, write_last_row, read_all_b, write_all_b, read_all_q, write_all_q, read_all_n, write_all_n, read_all_r, write_all_r, read_all_c, write_all_c, hf2, hf3, hf4, hf5, hf6, hf7, hf8, hf9, hf12, hf14, read_held, after_zero, cast57, pay44_eq, pay66_eq, Nat.mul_zero]
    rw [read_held]
    · rfl
    · simp only [write_tile, write_row, write_all_b, write_all_q, write_all_r, hf12, hf14]; rfl
  isplitl [H11]
  · iexists _; isplitr; swap; iexact H11; ipureintro
    delta body_A.sl.H12_1 body_A.sl.H14_1 body_A.sl.H15_1 body_A.sl.H15_2 body_A.sl.H16_1 body_A.sl.H16_1_1 body_A.sl.H16_2 body_A.sl.H17_1 body_A.sl.H17_2 body_A.sl.cst_43 body_A.sl.cst_86 body_A.sl.r body_A.sl.r_1 body_A.sl.r_2 body_A.sl.r_3 body_A.sl.r_4 body_A.sl.r_5 body_A.sl.r_6 body_A.sl.r_7 body_A.sl.r_8 body_A.sl.r_9 body_A.sl.v body_A.sl.v0 body_A.sl.v1 body_A.sl.v104 body_A.sl.v105 body_A.sl.v106 body_A.sl.v107 body_A.sl.v108 body_A.sl.v109 body_A.sl.v110 body_A.sl.v112 body_A.sl.v113 body_A.sl.v114 body_A.sl.v128 body_A.sl.v13 body_A.sl.v133 body_A.sl.v145 body_A.sl.v147 body_A.sl.v148 body_A.sl.v149 body_A.sl.v16 body_A.sl.v170 body_A.sl.v177 body_A.sl.v18 body_A.sl.v184 body_A.sl.v191 body_A.sl.v2 body_A.sl.v206 body_A.sl.v24 body_A.sl.v27 body_A.sl.v3 body_A.sl.v49 body_A.sl.v5 body_A.sl.v56 body_A.sl.v6 body_A.sl.v68 body_A.sl.v69 body_A.sl.v72 body_A.sl.v73 body_A.sl.v74 body_A.sl.v75 body_A.sl.v79 body_A.sl.v80 body_A.sl.v81 body_A.sl.v82 body_A.sl.v83 body_A.sl.v84 body_A.sl.v85 body_A.sl.v86 body_A.sl.v87 body_A.sl.v88 body_A.sl.v9 body_A.sl.v90 body_A.sl.v91 body_A.sl.v92 body_A.sl.v93 body_A.sl.v94 body_A.sl.v95 body_A.sl.v96 body_A.sl.v97 body_A.sl.v98
    rw [show Scf.trips (k0_t1_loop i).lb (k0_t1_loop i).ub (k0_t1_loop i).st = T from hT.symm]
    simp only [View.writes_cons, View.writes_nil, View.readCov, read_tile, read_last_tile, read_row, read_last_row, write_tile,
        write_last_tile, write_row, write_last_row, read_all_b, write_all_b, read_all_q, write_all_q, read_all_n, write_all_n, read_all_r, write_all_r, read_all_c, write_all_c, hf2, hf3, hf4, hf5, hf6, hf7, hf8, hf9, hf12, hf14, read_held, after_zero, cast57, pay44_eq, pay66_eq, Nat.mul_zero]
    rw [read_held]
    · rfl
    · simp only [write_tile, write_row, write_all_b, write_all_q, write_all_r, hf12, hf14]; rfl
  isplitl [H12]
  · iexists _; isplitr; swap; iexact H12; ipureintro
    delta body_A.sl.H12_1 body_A.sl.H14_1 body_A.sl.H15_1 body_A.sl.H15_2 body_A.sl.H16_1 body_A.sl.H16_1_1 body_A.sl.H16_2 body_A.sl.H17_1 body_A.sl.H17_2 body_A.sl.cst_43 body_A.sl.cst_86 body_A.sl.r body_A.sl.r_1 body_A.sl.r_2 body_A.sl.r_3 body_A.sl.r_4 body_A.sl.r_5 body_A.sl.r_6 body_A.sl.r_7 body_A.sl.r_8 body_A.sl.r_9 body_A.sl.v body_A.sl.v0 body_A.sl.v1 body_A.sl.v104 body_A.sl.v105 body_A.sl.v106 body_A.sl.v107 body_A.sl.v108 body_A.sl.v109 body_A.sl.v110 body_A.sl.v112 body_A.sl.v113 body_A.sl.v114 body_A.sl.v128 body_A.sl.v13 body_A.sl.v133 body_A.sl.v145 body_A.sl.v147 body_A.sl.v148 body_A.sl.v149 body_A.sl.v16 body_A.sl.v170 body_A.sl.v177 body_A.sl.v18 body_A.sl.v184 body_A.sl.v191 body_A.sl.v2 body_A.sl.v206 body_A.sl.v24 body_A.sl.v27 body_A.sl.v3 body_A.sl.v49 body_A.sl.v5 body_A.sl.v56 body_A.sl.v6 body_A.sl.v68 body_A.sl.v69 body_A.sl.v72 body_A.sl.v73 body_A.sl.v74 body_A.sl.v75 body_A.sl.v79 body_A.sl.v80 body_A.sl.v81 body_A.sl.v82 body_A.sl.v83 body_A.sl.v84 body_A.sl.v85 body_A.sl.v86 body_A.sl.v87 body_A.sl.v88 body_A.sl.v9 body_A.sl.v90 body_A.sl.v91 body_A.sl.v92 body_A.sl.v93 body_A.sl.v94 body_A.sl.v95 body_A.sl.v96 body_A.sl.v97 body_A.sl.v98
    rw [show Scf.trips (k0_t1_loop i).lb (k0_t1_loop i).ub (k0_t1_loop i).st = T from hT.symm]
    simp only [View.writes_cons, View.writes_nil, View.readCov, read_tile, read_last_tile, read_row, read_last_row, write_tile,
        write_last_tile, write_row, write_last_row, read_all_b, write_all_b, read_all_q, write_all_q, read_all_n, write_all_n, read_all_r, write_all_r, read_all_c, write_all_c, hf2, hf3, hf4, hf5, hf6, hf7, hf8, hf9, hf12, hf14, read_held, after_zero, cast57, pay44_eq, pay66_eq, Nat.mul_zero]
    rw [read_held]
    · rfl
    · simp only [write_tile, write_row, write_all_b, write_all_q, write_all_r, hf12, hf14]; rfl
  isplitl [H13]
  · iexists _; isplitr; swap; iexact H13; ipureintro
    delta body_A.sl.H12_1 body_A.sl.H14_1 body_A.sl.H15_1 body_A.sl.H15_2 body_A.sl.H16_1 body_A.sl.H16_1_1 body_A.sl.H16_2 body_A.sl.H17_1 body_A.sl.H17_2 body_A.sl.cst_43 body_A.sl.cst_86 body_A.sl.r body_A.sl.r_1 body_A.sl.r_2 body_A.sl.r_3 body_A.sl.r_4 body_A.sl.r_5 body_A.sl.r_6 body_A.sl.r_7 body_A.sl.r_8 body_A.sl.r_9 body_A.sl.v body_A.sl.v0 body_A.sl.v1 body_A.sl.v104 body_A.sl.v105 body_A.sl.v106 body_A.sl.v107 body_A.sl.v108 body_A.sl.v109 body_A.sl.v110 body_A.sl.v112 body_A.sl.v113 body_A.sl.v114 body_A.sl.v128 body_A.sl.v13 body_A.sl.v133 body_A.sl.v145 body_A.sl.v147 body_A.sl.v148 body_A.sl.v149 body_A.sl.v16 body_A.sl.v170 body_A.sl.v177 body_A.sl.v18 body_A.sl.v184 body_A.sl.v191 body_A.sl.v2 body_A.sl.v206 body_A.sl.v24 body_A.sl.v27 body_A.sl.v3 body_A.sl.v49 body_A.sl.v5 body_A.sl.v56 body_A.sl.v6 body_A.sl.v68 body_A.sl.v69 body_A.sl.v72 body_A.sl.v73 body_A.sl.v74 body_A.sl.v75 body_A.sl.v79 body_A.sl.v80 body_A.sl.v81 body_A.sl.v82 body_A.sl.v83 body_A.sl.v84 body_A.sl.v85 body_A.sl.v86 body_A.sl.v87 body_A.sl.v88 body_A.sl.v9 body_A.sl.v90 body_A.sl.v91 body_A.sl.v92 body_A.sl.v93 body_A.sl.v94 body_A.sl.v95 body_A.sl.v96 body_A.sl.v97 body_A.sl.v98
    rw [show Scf.trips (k0_t1_loop i).lb (k0_t1_loop i).ub (k0_t1_loop i).st = T from hT.symm]
    simp only [View.writes_cons, View.writes_nil, View.readCov, read_tile, read_last_tile, read_row, read_last_row, write_tile,
        write_last_tile, write_row, write_last_row, read_all_b, write_all_b, read_all_q, write_all_q, read_all_n, write_all_n, read_all_r, write_all_r, read_all_c, write_all_c, hf2, hf3, hf4, hf5, hf6, hf7, hf8, hf9, hf12, hf14, read_held, after_zero, cast57, pay44_eq, pay66_eq, Nat.mul_zero]
    rw [read_held]
    · rfl
    · simp only [write_tile, write_row, write_all_b, write_all_q, write_all_r, hf12, hf14]; rfl
  isplitl [H14]
  · iexists _; isplitr; swap; iexact H14; ipureintro
    delta body_A.sl.H12_1 body_A.sl.H14_1 body_A.sl.H15_1 body_A.sl.H15_2 body_A.sl.H16_1 body_A.sl.H16_1_1 body_A.sl.H16_2 body_A.sl.H17_1 body_A.sl.H17_2 body_A.sl.cst_43 body_A.sl.cst_86 body_A.sl.r body_A.sl.r_1 body_A.sl.r_2 body_A.sl.r_3 body_A.sl.r_4 body_A.sl.r_5 body_A.sl.r_6 body_A.sl.r_7 body_A.sl.r_8 body_A.sl.r_9 body_A.sl.v body_A.sl.v0 body_A.sl.v1 body_A.sl.v104 body_A.sl.v105 body_A.sl.v106 body_A.sl.v107 body_A.sl.v108 body_A.sl.v109 body_A.sl.v110 body_A.sl.v112 body_A.sl.v113 body_A.sl.v114 body_A.sl.v128 body_A.sl.v13 body_A.sl.v133 body_A.sl.v145 body_A.sl.v147 body_A.sl.v148 body_A.sl.v149 body_A.sl.v16 body_A.sl.v170 body_A.sl.v177 body_A.sl.v18 body_A.sl.v184 body_A.sl.v191 body_A.sl.v2 body_A.sl.v206 body_A.sl.v24 body_A.sl.v27 body_A.sl.v3 body_A.sl.v49 body_A.sl.v5 body_A.sl.v56 body_A.sl.v6 body_A.sl.v68 body_A.sl.v69 body_A.sl.v72 body_A.sl.v73 body_A.sl.v74 body_A.sl.v75 body_A.sl.v79 body_A.sl.v80 body_A.sl.v81 body_A.sl.v82 body_A.sl.v83 body_A.sl.v84 body_A.sl.v85 body_A.sl.v86 body_A.sl.v87 body_A.sl.v88 body_A.sl.v9 body_A.sl.v90 body_A.sl.v91 body_A.sl.v92 body_A.sl.v93 body_A.sl.v94 body_A.sl.v95 body_A.sl.v96 body_A.sl.v97 body_A.sl.v98
    rw [show Scf.trips (k0_t1_loop i).lb (k0_t1_loop i).ub (k0_t1_loop i).st = T from hT.symm]
    simp only [View.writes_cons, View.writes_nil, View.readCov, read_tile, read_last_tile, read_row, read_last_row, write_tile,
        write_last_tile, write_row, write_last_row, read_all_b, write_all_b, read_all_q, write_all_q, read_all_n, write_all_n, read_all_r, write_all_r, read_all_c, write_all_c, hf2, hf3, hf4, hf5, hf6, hf7, hf8, hf9, hf12, hf14, read_held, after_zero, cast57, pay44_eq, pay66_eq, Nat.mul_zero]
    rw [read_held]
    · rfl
    · simp only [write_tile, write_row, write_all_b, write_all_q, write_all_r, hf12, hf14]; rfl
  isplitl [H15]
  · iexists _; iexists _; isplitr; swap; iexact H15; ipureintro; rfl
  isplitl [H16]
  · iexists _; iexists _; isplitr; swap; iexact H16; ipureintro; rfl
  iexists _; iexists _; isplitr; swap; iexact H17; ipureintro; rfl

end Cert.KernelIdeal.Gen

end
-- ==== Proof.BodyVB.lean ====
module

public import proofs.«01_k».proof.Proof.Gen.KernelIdeal.Frame
public import proofs.«01_k».proof.Proof.LoopV
public import proofs.«01_k».proof.Proof.ReadV
public import Idealize.ShloMosaic.Lib.Pipeline.FrameBody

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The body at such a point leaves in the accumulators what `point` says, and the outputs of its block from them. -/
theorem body_B (c : Dev nD) (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x512x128 .f32) (harg5 : arg5.IsWhole) (arg6 : Memref sig .tc .vmem S8192x128 .bf16) (harg6 : arg6.IsWhole) (arg7 : Memref sig .tc .vmem S1x16x1x512 .f32) (harg7 : arg7.IsWhole) (arg8 : Memref sig .tc .vmem S1x16x1x512 .f32) (harg8 : arg8.IsWhole) (arg9 : Memref sig .tc .vmem S8192x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x16x1x512 .f32) (harg12 : arg12.IsWhole) (arg13 : Memref sig .tc .vmem S1x512x1 .f32) (harg13 : arg13.IsWhole) (arg14 : Memref sig .tc .vmem S8192x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole)
    (x2 : Vec F S8192x128 .bf16) (x3 : Vec F S512x128 .bf16) (x4 : Vec F S512x128 .bf16) (x5 : Vec F S1x512x128 .f32) (x6 : Vec F S8192x128 .bf16) (x7 : Vec F S1x16x1x512 .f32) (x8 : Vec F S1x16x1x512 .f32) (x9 : Vec F S8192x128 .bf16) (x14 : Vec F S8192x128 .f32) (x12 : Vec F S1x16x1x512 .f32) (hc1 : ¬first i) (hc2 : k0_cond2 i = 1#1) (hc3 : ¬k0_cond3 i = 1#1) (E : Set ℕ) (hE : E = Set.univ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ owns (c : Thread nD τ) arg12 fullShare x12 ∗ (∃ d, owns (c : Thread nD τ) arg13 fullShare d) ∗ owns (c : Thread nD τ) arg14 fullShare x14 ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (k0_pay67 (point (F := F) ⟨x2, x3, x4, x5, x6, x7, x8⟩ (i 1) x14 x12).dk) ∗ owns (c : Thread nD τ) arg11 fullShare (k0_pay68 (point (F := F) ⟨x2, x3, x4, x5, x6, x7, x8⟩ (i 1) x14 x12).dv) ∗ owns (c : Thread nD τ) arg12 fullShare (point (F := F) ⟨x2, x3, x4, x5, x6, x7, x8⟩ (i 1) x14 x12).drow ∗ owns (c : Thread nD τ) arg13 fullShare (k0_pay1 (point (F := F) ⟨x2, x3, x4, x5, x6, x7, x8⟩ (i 1) x14 x12).dnf) ∗ owns (c : Thread nD τ) arg14 fullShare (point (F := F) ⟨x2, x3, x4, x5, x6, x7, x8⟩ (i 1) x14 x12).dq ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  subst hE
  simp only [cc0_attn_bwd_eq_skeleton]; unfold cc0_attn_bwd_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%d13, %f13, -, H13⟩, ⟨%f14, %hf14, H14⟩, ⟨%d15, %f15, -, H15⟩, ⟨%d16, %f16, -, H16⟩, ⟨%d17, %f17, -, H17⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg12.eq_unread hf12; obtain rfl := harg14.eq_unread hf14
  sl_exec (disch := first | sl_exact hc1 | sl_exact hc2 | sl_exact hc3)
  sl_step
  have e : 15 - (i 1).val = 2 * (k0_t1_loop i).trips + 1 := by
    exact trips_odd i hc2
  obtain ⟨T, hT⟩ : ∃ T, T = (k0_t1_loop i).trips := ⟨_, rfl⟩
  rw [← hT] at e
  rw [point_odd (F := F) _ (i 1) _ e]
  iapply Hk
  isplitl [H2]
  · iexists _; isplitr; swap; iexact H2; ipureintro; exact hf2
  isplitl [H3]
  · iexists _; isplitr; swap; iexact H3; ipureintro; exact hf3
  isplitl [H4]
  · iexists _; isplitr; swap; iexact H4; ipureintro; exact hf4
  isplitl [H5]
  · iexists _; isplitr; swap; iexact H5; ipureintro; exact hf5
  isplitl [H6]
  · iexists _; isplitr; swap; iexact H6; ipureintro; exact hf6
  isplitl [H7]
  · iexists _; isplitr; swap; iexact H7; ipureintro; exact hf7
  isplitl [H8]
  · iexists _; isplitr; swap; iexact H8; ipureintro; exact hf8
  isplitl [H9]
  · iexists _; isplitr; swap; iexact H9; ipureintro; exact hf9
  isplitl [H10]
  · iexists _; isplitr; swap; iexact H10; ipureintro
    delta body_B.sl.H15_1 body_B.sl.H15_2 body_B.sl.H16_1 body_B.sl.H16_1_1 body_B.sl.H16_2 body_B.sl.H17_1 body_B.sl.H17_2 body_B.sl.cst body_B.sl.cst_43 body_B.sl.r body_B.sl.r_1 body_B.sl.r_2 body_B.sl.r_3 body_B.sl.r_4 body_B.sl.r_5 body_B.sl.r_6 body_B.sl.r_7 body_B.sl.r_8 body_B.sl.r_9 body_B.sl.v body_B.sl.v0 body_B.sl.v1 body_B.sl.v104 body_B.sl.v105 body_B.sl.v106 body_B.sl.v107 body_B.sl.v108 body_B.sl.v109 body_B.sl.v110 body_B.sl.v112 body_B.sl.v113 body_B.sl.v114 body_B.sl.v128 body_B.sl.v13 body_B.sl.v133 body_B.sl.v16 body_B.sl.v170 body_B.sl.v177 body_B.sl.v18 body_B.sl.v184 body_B.sl.v191 body_B.sl.v2 body_B.sl.v206 body_B.sl.v24 body_B.sl.v27 body_B.sl.v3 body_B.sl.v49 body_B.sl.v5 body_B.sl.v56 body_B.sl.v6 body_B.sl.v68 body_B.sl.v69 body_B.sl.v72 body_B.sl.v73 body_B.sl.v74 body_B.sl.v75 body_B.sl.v79 body_B.sl.v80 body_B.sl.v81 body_B.sl.v82 body_B.sl.v83 body_B.sl.v84 body_B.sl.v85 body_B.sl.v86 body_B.sl.v87 body_B.sl.v88 body_B.sl.v9 body_B.sl.v90 body_B.sl.v91 body_B.sl.v92 body_B.sl.v93 body_B.sl.v94 body_B.sl.v95 body_B.sl.v96 body_B.sl.v97 body_B.sl.v98
    rw [show Scf.trips (k0_t1_loop i).lb (k0_t1_loop i).ub (k0_t1_loop i).st = T from hT.symm]
    simp only [View.writes_cons, View.writes_nil, View.readCov, read_tile, read_last_tile, read_row, read_last_row, write_tile,
        write_last_tile, write_row, write_last_row, read_all_b, write_all_b, read_all_q, write_all_q, read_all_n, write_all_n, read_all_r, write_all_r, read_all_c, write_all_c, hf2, hf3, hf4, hf5, hf6, hf7, hf8, hf9, hf12, hf14, read_held, after_zero, cast57, pay44_eq, pay66_eq, Nat.mul_zero]
    rw [read_held]
    · rfl
    · simp only [write_tile, write_row, write_all_b, write_all_q, write_all_r, hf12, hf14]; rfl
  isplitl [H11]
  · iexists _; isplitr; swap; iexact H11; ipureintro
    delta body_B.sl.H15_1 body_B.sl.H15_2 body_B.sl.H16_1 body_B.sl.H16_1_1 body_B.sl.H16_2 body_B.sl.H17_1 body_B.sl.H17_2 body_B.sl.cst body_B.sl.cst_43 body_B.sl.r body_B.sl.r_1 body_B.sl.r_2 body_B.sl.r_3 body_B.sl.r_4 body_B.sl.r_5 body_B.sl.r_6 body_B.sl.r_7 body_B.sl.r_8 body_B.sl.r_9 body_B.sl.v body_B.sl.v0 body_B.sl.v1 body_B.sl.v104 body_B.sl.v105 body_B.sl.v106 body_B.sl.v107 body_B.sl.v108 body_B.sl.v109 body_B.sl.v110 body_B.sl.v112 body_B.sl.v113 body_B.sl.v114 body_B.sl.v128 body_B.sl.v13 body_B.sl.v133 body_B.sl.v16 body_B.sl.v170 body_B.sl.v177 body_B.sl.v18 body_B.sl.v184 body_B.sl.v191 body_B.sl.v2 body_B.sl.v206 body_B.sl.v24 body_B.sl.v27 body_B.sl.v3 body_B.sl.v49 body_B.sl.v5 body_B.sl.v56 body_B.sl.v6 body_B.sl.v68 body_B.sl.v69 body_B.sl.v72 body_B.sl.v73 body_B.sl.v74 body_B.sl.v75 body_B.sl.v79 body_B.sl.v80 body_B.sl.v81 body_B.sl.v82 body_B.sl.v83 body_B.sl.v84 body_B.sl.v85 body_B.sl.v86 body_B.sl.v87 body_B.sl.v88 body_B.sl.v9 body_B.sl.v90 body_B.sl.v91 body_B.sl.v92 body_B.sl.v93 body_B.sl.v94 body_B.sl.v95 body_B.sl.v96 body_B.sl.v97 body_B.sl.v98
    rw [show Scf.trips (k0_t1_loop i).lb (k0_t1_loop i).ub (k0_t1_loop i).st = T from hT.symm]
    simp only [View.writes_cons, View.writes_nil, View.readCov, read_tile, read_last_tile, read_row, read_last_row, write_tile,
        write_last_tile, write_row, write_last_row, read_all_b, write_all_b, read_all_q, write_all_q, read_all_n, write_all_n, read_all_r, write_all_r, read_all_c, write_all_c, hf2, hf3, hf4, hf5, hf6, hf7, hf8, hf9, hf12, hf14, read_held, after_zero, cast57, pay44_eq, pay66_eq, Nat.mul_zero]
    rw [read_held]
    · rfl
    · simp only [write_tile, write_row, write_all_b, write_all_q, write_all_r, hf12, hf14]; rfl
  isplitl [H12]
  · iexists _; isplitr; swap; iexact H12; ipureintro
    delta body_B.sl.H15_1 body_B.sl.H15_2 body_B.sl.H16_1 body_B.sl.H16_1_1 body_B.sl.H16_2 body_B.sl.H17_1 body_B.sl.H17_2 body_B.sl.cst body_B.sl.cst_43 body_B.sl.r body_B.sl.r_1 body_B.sl.r_2 body_B.sl.r_3 body_B.sl.r_4 body_B.sl.r_5 body_B.sl.r_6 body_B.sl.r_7 body_B.sl.r_8 body_B.sl.r_9 body_B.sl.v body_B.sl.v0 body_B.sl.v1 body_B.sl.v104 body_B.sl.v105 body_B.sl.v106 body_B.sl.v107 body_B.sl.v108 body_B.sl.v109 body_B.sl.v110 body_B.sl.v112 body_B.sl.v113 body_B.sl.v114 body_B.sl.v128 body_B.sl.v13 body_B.sl.v133 body_B.sl.v16 body_B.sl.v170 body_B.sl.v177 body_B.sl.v18 body_B.sl.v184 body_B.sl.v191 body_B.sl.v2 body_B.sl.v206 body_B.sl.v24 body_B.sl.v27 body_B.sl.v3 body_B.sl.v49 body_B.sl.v5 body_B.sl.v56 body_B.sl.v6 body_B.sl.v68 body_B.sl.v69 body_B.sl.v72 body_B.sl.v73 body_B.sl.v74 body_B.sl.v75 body_B.sl.v79 body_B.sl.v80 body_B.sl.v81 body_B.sl.v82 body_B.sl.v83 body_B.sl.v84 body_B.sl.v85 body_B.sl.v86 body_B.sl.v87 body_B.sl.v88 body_B.sl.v9 body_B.sl.v90 body_B.sl.v91 body_B.sl.v92 body_B.sl.v93 body_B.sl.v94 body_B.sl.v95 body_B.sl.v96 body_B.sl.v97 body_B.sl.v98
    rw [show Scf.trips (k0_t1_loop i).lb (k0_t1_loop i).ub (k0_t1_loop i).st = T from hT.symm]
    simp only [View.writes_cons, View.writes_nil, View.readCov, read_tile, read_last_tile, read_row, read_last_row, write_tile,
        write_last_tile, write_row, write_last_row, read_all_b, write_all_b, read_all_q, write_all_q, read_all_n, write_all_n, read_all_r, write_all_r, read_all_c, write_all_c, hf2, hf3, hf4, hf5, hf6, hf7, hf8, hf9, hf12, hf14, read_held, after_zero, cast57, pay44_eq, pay66_eq, Nat.mul_zero]
    rw [read_held]
    · rfl
    · simp only [write_tile, write_row, write_all_b, write_all_q, write_all_r, hf12, hf14]; rfl
  isplitl [H13]
  · iexists _; isplitr; swap; iexact H13; ipureintro
    delta body_B.sl.H15_1 body_B.sl.H15_2 body_B.sl.H16_1 body_B.sl.H16_1_1 body_B.sl.H16_2 body_B.sl.H17_1 body_B.sl.H17_2 body_B.sl.cst body_B.sl.cst_43 body_B.sl.r body_B.sl.r_1 body_B.sl.r_2 body_B.sl.r_3 body_B.sl.r_4 body_B.sl.r_5 body_B.sl.r_6 body_B.sl.r_7 body_B.sl.r_8 body_B.sl.r_9 body_B.sl.v body_B.sl.v0 body_B.sl.v1 body_B.sl.v104 body_B.sl.v105 body_B.sl.v106 body_B.sl.v107 body_B.sl.v108 body_B.sl.v109 body_B.sl.v110 body_B.sl.v112 body_B.sl.v113 body_B.sl.v114 body_B.sl.v128 body_B.sl.v13 body_B.sl.v133 body_B.sl.v16 body_B.sl.v170 body_B.sl.v177 body_B.sl.v18 body_B.sl.v184 body_B.sl.v191 body_B.sl.v2 body_B.sl.v206 body_B.sl.v24 body_B.sl.v27 body_B.sl.v3 body_B.sl.v49 body_B.sl.v5 body_B.sl.v56 body_B.sl.v6 body_B.sl.v68 body_B.sl.v69 body_B.sl.v72 body_B.sl.v73 body_B.sl.v74 body_B.sl.v75 body_B.sl.v79 body_B.sl.v80 body_B.sl.v81 body_B.sl.v82 body_B.sl.v83 body_B.sl.v84 body_B.sl.v85 body_B.sl.v86 body_B.sl.v87 body_B.sl.v88 body_B.sl.v9 body_B.sl.v90 body_B.sl.v91 body_B.sl.v92 body_B.sl.v93 body_B.sl.v94 body_B.sl.v95 body_B.sl.v96 body_B.sl.v97 body_B.sl.v98
    rw [show Scf.trips (k0_t1_loop i).lb (k0_t1_loop i).ub (k0_t1_loop i).st = T from hT.symm]
    simp only [View.writes_cons, View.writes_nil, View.readCov, read_tile, read_last_tile, read_row, read_last_row, write_tile,
        write_last_tile, write_row, write_last_row, read_all_b, write_all_b, read_all_q, write_all_q, read_all_n, write_all_n, read_all_r, write_all_r, read_all_c, write_all_c, hf2, hf3, hf4, hf5, hf6, hf7, hf8, hf9, hf12, hf14, read_held, after_zero, cast57, pay44_eq, pay66_eq, Nat.mul_zero]
    rw [read_held]
    · rfl
    · simp only [write_tile, write_row, write_all_b, write_all_q, write_all_r, hf12, hf14]; rfl
  isplitl [H14]
  · iexists _; isplitr; swap; iexact H14; ipureintro
    delta body_B.sl.H15_1 body_B.sl.H15_2 body_B.sl.H16_1 body_B.sl.H16_1_1 body_B.sl.H16_2 body_B.sl.H17_1 body_B.sl.H17_2 body_B.sl.cst body_B.sl.cst_43 body_B.sl.r body_B.sl.r_1 body_B.sl.r_2 body_B.sl.r_3 body_B.sl.r_4 body_B.sl.r_5 body_B.sl.r_6 body_B.sl.r_7 body_B.sl.r_8 body_B.sl.r_9 body_B.sl.v body_B.sl.v0 body_B.sl.v1 body_B.sl.v104 body_B.sl.v105 body_B.sl.v106 body_B.sl.v107 body_B.sl.v108 body_B.sl.v109 body_B.sl.v110 body_B.sl.v112 body_B.sl.v113 body_B.sl.v114 body_B.sl.v128 body_B.sl.v13 body_B.sl.v133 body_B.sl.v16 body_B.sl.v170 body_B.sl.v177 body_B.sl.v18 body_B.sl.v184 body_B.sl.v191 body_B.sl.v2 body_B.sl.v206 body_B.sl.v24 body_B.sl.v27 body_B.sl.v3 body_B.sl.v49 body_B.sl.v5 body_B.sl.v56 body_B.sl.v6 body_B.sl.v68 body_B.sl.v69 body_B.sl.v72 body_B.sl.v73 body_B.sl.v74 body_B.sl.v75 body_B.sl.v79 body_B.sl.v80 body_B.sl.v81 body_B.sl.v82 body_B.sl.v83 body_B.sl.v84 body_B.sl.v85 body_B.sl.v86 body_B.sl.v87 body_B.sl.v88 body_B.sl.v9 body_B.sl.v90 body_B.sl.v91 body_B.sl.v92 body_B.sl.v93 body_B.sl.v94 body_B.sl.v95 body_B.sl.v96 body_B.sl.v97 body_B.sl.v98
    rw [show Scf.trips (k0_t1_loop i).lb (k0_t1_loop i).ub (k0_t1_loop i).st = T from hT.symm]
    simp only [View.writes_cons, View.writes_nil, View.readCov, read_tile, read_last_tile, read_row, read_last_row, write_tile,
        write_last_tile, write_row, write_last_row, read_all_b, write_all_b, read_all_q, write_all_q, read_all_n, write_all_n, read_all_r, write_all_r, read_all_c, write_all_c, hf2, hf3, hf4, hf5, hf6, hf7, hf8, hf9, hf12, hf14, read_held, after_zero, cast57, pay44_eq, pay66_eq, Nat.mul_zero]
    rw [read_held]
    · rfl
    · simp only [write_tile, write_row, write_all_b, write_all_q, write_all_r, hf12, hf14]; rfl
  isplitl [H15]
  · iexists _; iexists _; isplitr; swap; iexact H15; ipureintro; rfl
  isplitl [H16]
  · iexists _; iexists _; isplitr; swap; iexact H16; ipureintro; rfl
  iexists _; iexists _; isplitr; swap; iexact H17; ipureintro; rfl

end Cert.KernelIdeal.Gen

end
-- ==== Proof.BodyVC.lean ====
module

public import proofs.«01_k».proof.Proof.Gen.KernelIdeal.Frame
public import proofs.«01_k».proof.Proof.LoopV
public import proofs.«01_k».proof.Proof.ReadV
public import Idealize.ShloMosaic.Lib.Pipeline.FrameBody

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The body at such a point leaves in the accumulators what `point` says, and the outputs of its block from them. -/
theorem body_C (c : Dev nD) (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x512x128 .f32) (harg5 : arg5.IsWhole) (arg6 : Memref sig .tc .vmem S8192x128 .bf16) (harg6 : arg6.IsWhole) (arg7 : Memref sig .tc .vmem S1x16x1x512 .f32) (harg7 : arg7.IsWhole) (arg8 : Memref sig .tc .vmem S1x16x1x512 .f32) (harg8 : arg8.IsWhole) (arg9 : Memref sig .tc .vmem S8192x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x16x1x512 .f32) (harg12 : arg12.IsWhole) (arg13 : Memref sig .tc .vmem S1x512x1 .f32) (harg13 : arg13.IsWhole) (arg14 : Memref sig .tc .vmem S8192x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole)
    (x2 : Vec F S8192x128 .bf16) (x3 : Vec F S512x128 .bf16) (x4 : Vec F S512x128 .bf16) (x5 : Vec F S1x512x128 .f32) (x6 : Vec F S8192x128 .bf16) (x7 : Vec F S1x16x1x512 .f32) (x8 : Vec F S1x16x1x512 .f32) (x9 : Vec F S8192x128 .bf16) (x14 : Vec F S8192x128 .f32) (x12 : Vec F S1x16x1x512 .f32) (hc1 : ¬first i) (hc2 : ¬k0_cond2 i = 1#1) (hc3 : ¬k0_cond3 i = 1#1) (E : Set ℕ) (hE : E = Set.univ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ owns (c : Thread nD τ) arg12 fullShare x12 ∗ (∃ d, owns (c : Thread nD τ) arg13 fullShare d) ∗ owns (c : Thread nD τ) arg14 fullShare x14 ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (k0_pay67 (point (F := F) ⟨x2, x3, x4, x5, x6, x7, x8⟩ (i 1) x14 x12).dk) ∗ owns (c : Thread nD τ) arg11 fullShare (k0_pay68 (point (F := F) ⟨x2, x3, x4, x5, x6, x7, x8⟩ (i 1) x14 x12).dv) ∗ owns (c : Thread nD τ) arg12 fullShare (point (F := F) ⟨x2, x3, x4, x5, x6, x7, x8⟩ (i 1) x14 x12).drow ∗ owns (c : Thread nD τ) arg13 fullShare (k0_pay1 (point (F := F) ⟨x2, x3, x4, x5, x6, x7, x8⟩ (i 1) x14 x12).dnf) ∗ owns (c : Thread nD τ) arg14 fullShare (point (F := F) ⟨x2, x3, x4, x5, x6, x7, x8⟩ (i 1) x14 x12).dq ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  subst hE
  simp only [cc0_attn_bwd_eq_skeleton]; unfold cc0_attn_bwd_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%d13, %f13, -, H13⟩, ⟨%f14, %hf14, H14⟩, ⟨%d15, %f15, -, H15⟩, ⟨%d16, %f16, -, H16⟩, ⟨%d17, %f17, -, H17⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg12.eq_unread hf12; obtain rfl := harg14.eq_unread hf14
  sl_exec (disch := first | sl_exact hc1 | sl_exact hc2 | sl_exact hc3)
  sl_step
  have e : 15 - (i 1).val = 2 * (k0_t1_loop i).trips + 0 := by
    exact trips_even i hc2
  obtain ⟨T, hT⟩ : ∃ T, T = (k0_t1_loop i).trips := ⟨_, rfl⟩
  rw [← hT] at e
  rw [point_even (F := F) _ (i 1) _ e]
  iapply Hk
  isplitl [H2]
  · iexists _; isplitr; swap; iexact H2; ipureintro; exact hf2
  isplitl [H3]
  · iexists _; isplitr; swap; iexact H3; ipureintro; exact hf3
  isplitl [H4]
  · iexists _; isplitr; swap; iexact H4; ipureintro; exact hf4
  isplitl [H5]
  · iexists _; isplitr; swap; iexact H5; ipureintro; exact hf5
  isplitl [H6]
  · iexists _; isplitr; swap; iexact H6; ipureintro; exact hf6
  isplitl [H7]
  · iexists _; isplitr; swap; iexact H7; ipureintro; exact hf7
  isplitl [H8]
  · iexists _; isplitr; swap; iexact H8; ipureintro; exact hf8
  isplitl [H9]
  · iexists _; isplitr; swap; iexact H9; ipureintro; exact hf9
  isplitl [H10]
  · iexists _; isplitr; swap; iexact H10; ipureintro
    delta body_C.sl.H15_2 body_C.sl.H16_1 body_C.sl.H16_2 body_C.sl.H17_2 body_C.sl.cst body_C.sl.cst_43 body_C.sl.r body_C.sl.r_1 body_C.sl.r_2 body_C.sl.r_3 body_C.sl.r_4 body_C.sl.r_5 body_C.sl.r_6 body_C.sl.v body_C.sl.v0 body_C.sl.v1 body_C.sl.v104 body_C.sl.v105 body_C.sl.v106 body_C.sl.v107 body_C.sl.v108 body_C.sl.v109 body_C.sl.v110 body_C.sl.v112 body_C.sl.v113 body_C.sl.v114 body_C.sl.v128 body_C.sl.v13 body_C.sl.v133 body_C.sl.v16 body_C.sl.v18 body_C.sl.v2 body_C.sl.v24 body_C.sl.v27 body_C.sl.v3 body_C.sl.v49 body_C.sl.v5 body_C.sl.v56 body_C.sl.v6 body_C.sl.v68 body_C.sl.v69 body_C.sl.v72 body_C.sl.v73 body_C.sl.v74 body_C.sl.v75 body_C.sl.v79 body_C.sl.v80 body_C.sl.v81 body_C.sl.v82 body_C.sl.v83 body_C.sl.v84 body_C.sl.v85 body_C.sl.v86 body_C.sl.v87 body_C.sl.v88 body_C.sl.v9 body_C.sl.v90 body_C.sl.v91 body_C.sl.v92 body_C.sl.v93 body_C.sl.v94 body_C.sl.v95 body_C.sl.v96 body_C.sl.v97 body_C.sl.v98
    rw [show Scf.trips (k0_t1_loop i).lb (k0_t1_loop i).ub (k0_t1_loop i).st = T from hT.symm]
    simp only [View.writes_cons, View.writes_nil, View.readCov, read_tile, read_last_tile, read_row, read_last_row, write_tile,
        write_last_tile, write_row, write_last_row, read_all_b, write_all_b, read_all_q, write_all_q, read_all_n, write_all_n, read_all_r, write_all_r, read_all_c, write_all_c, hf2, hf3, hf4, hf5, hf6, hf7, hf8, hf9, hf12, hf14, read_held, after_zero, cast57, pay44_eq, pay66_eq, Nat.mul_zero]
    rw [read_held]
    · rfl
    · simp only [write_tile, write_row, write_all_b, write_all_q, write_all_r, hf12, hf14]; rfl
  isplitl [H11]
  · iexists _; isplitr; swap; iexact H11; ipureintro
    delta body_C.sl.H15_2 body_C.sl.H16_1 body_C.sl.H16_2 body_C.sl.H17_2 body_C.sl.cst body_C.sl.cst_43 body_C.sl.r body_C.sl.r_1 body_C.sl.r_2 body_C.sl.r_3 body_C.sl.r_4 body_C.sl.r_5 body_C.sl.r_6 body_C.sl.v body_C.sl.v0 body_C.sl.v1 body_C.sl.v104 body_C.sl.v105 body_C.sl.v106 body_C.sl.v107 body_C.sl.v108 body_C.sl.v109 body_C.sl.v110 body_C.sl.v112 body_C.sl.v113 body_C.sl.v114 body_C.sl.v128 body_C.sl.v13 body_C.sl.v133 body_C.sl.v16 body_C.sl.v18 body_C.sl.v2 body_C.sl.v24 body_C.sl.v27 body_C.sl.v3 body_C.sl.v49 body_C.sl.v5 body_C.sl.v56 body_C.sl.v6 body_C.sl.v68 body_C.sl.v69 body_C.sl.v72 body_C.sl.v73 body_C.sl.v74 body_C.sl.v75 body_C.sl.v79 body_C.sl.v80 body_C.sl.v81 body_C.sl.v82 body_C.sl.v83 body_C.sl.v84 body_C.sl.v85 body_C.sl.v86 body_C.sl.v87 body_C.sl.v88 body_C.sl.v9 body_C.sl.v90 body_C.sl.v91 body_C.sl.v92 body_C.sl.v93 body_C.sl.v94 body_C.sl.v95 body_C.sl.v96 body_C.sl.v97 body_C.sl.v98
    rw [show Scf.trips (k0_t1_loop i).lb (k0_t1_loop i).ub (k0_t1_loop i).st = T from hT.symm]
    simp only [View.writes_cons, View.writes_nil, View.readCov, read_tile, read_last_tile, read_row, read_last_row, write_tile,
        write_last_tile, write_row, write_last_row, read_all_b, write_all_b, read_all_q, write_all_q, read_all_n, write_all_n, read_all_r, write_all_r, read_all_c, write_all_c, hf2, hf3, hf4, hf5, hf6, hf7, hf8, hf9, hf12, hf14, read_held, after_zero, cast57, pay44_eq, pay66_eq, Nat.mul_zero]
    rw [read_held]
    · rfl
    · simp only [write_tile, write_row, write_all_b, write_all_q, write_all_r, hf12, hf14]; rfl
  isplitl [H12]
  · iexists _; isplitr; swap; iexact H12; ipureintro
    delta body_C.sl.H15_2 body_C.sl.H16_1 body_C.sl.H16_2 body_C.sl.H17_2 body_C.sl.cst body_C.sl.cst_43 body_C.sl.r body_C.sl.r_1 body_C.sl.r_2 body_C.sl.r_3 body_C.sl.r_4 body_C.sl.r_5 body_C.sl.r_6 body_C.sl.v body_C.sl.v0 body_C.sl.v1 body_C.sl.v104 body_C.sl.v105 body_C.sl.v106 body_C.sl.v107 body_C.sl.v108 body_C.sl.v109 body_C.sl.v110 body_C.sl.v112 body_C.sl.v113 body_C.sl.v114 body_C.sl.v128 body_C.sl.v13 body_C.sl.v133 body_C.sl.v16 body_C.sl.v18 body_C.sl.v2 body_C.sl.v24 body_C.sl.v27 body_C.sl.v3 body_C.sl.v49 body_C.sl.v5 body_C.sl.v56 body_C.sl.v6 body_C.sl.v68 body_C.sl.v69 body_C.sl.v72 body_C.sl.v73 body_C.sl.v74 body_C.sl.v75 body_C.sl.v79 body_C.sl.v80 body_C.sl.v81 body_C.sl.v82 body_C.sl.v83 body_C.sl.v84 body_C.sl.v85 body_C.sl.v86 body_C.sl.v87 body_C.sl.v88 body_C.sl.v9 body_C.sl.v90 body_C.sl.v91 body_C.sl.v92 body_C.sl.v93 body_C.sl.v94 body_C.sl.v95 body_C.sl.v96 body_C.sl.v97 body_C.sl.v98
    rw [show Scf.trips (k0_t1_loop i).lb (k0_t1_loop i).ub (k0_t1_loop i).st = T from hT.symm]
    simp only [View.writes_cons, View.writes_nil, View.readCov, read_tile, read_last_tile, read_row, read_last_row, write_tile,
        write_last_tile, write_row, write_last_row, read_all_b, write_all_b, read_all_q, write_all_q, read_all_n, write_all_n, read_all_r, write_all_r, read_all_c, write_all_c, hf2, hf3, hf4, hf5, hf6, hf7, hf8, hf9, hf12, hf14, read_held, after_zero, cast57, pay44_eq, pay66_eq, Nat.mul_zero]
    rw [read_held]
    · rfl
    · simp only [write_tile, write_row, write_all_b, write_all_q, write_all_r, hf12, hf14]; rfl
  isplitl [H13]
  · iexists _; isplitr; swap; iexact H13; ipureintro
    delta body_C.sl.H15_2 body_C.sl.H16_1 body_C.sl.H16_2 body_C.sl.H17_2 body_C.sl.cst body_C.sl.cst_43 body_C.sl.r body_C.sl.r_1 body_C.sl.r_2 body_C.sl.r_3 body_C.sl.r_4 body_C.sl.r_5 body_C.sl.r_6 body_C.sl.v body_C.sl.v0 body_C.sl.v1 body_C.sl.v104 body_C.sl.v105 body_C.sl.v106 body_C.sl.v107 body_C.sl.v108 body_C.sl.v109 body_C.sl.v110 body_C.sl.v112 body_C.sl.v113 body_C.sl.v114 body_C.sl.v128 body_C.sl.v13 body_C.sl.v133 body_C.sl.v16 body_C.sl.v18 body_C.sl.v2 body_C.sl.v24 body_C.sl.v27 body_C.sl.v3 body_C.sl.v49 body_C.sl.v5 body_C.sl.v56 body_C.sl.v6 body_C.sl.v68 body_C.sl.v69 body_C.sl.v72 body_C.sl.v73 body_C.sl.v74 body_C.sl.v75 body_C.sl.v79 body_C.sl.v80 body_C.sl.v81 body_C.sl.v82 body_C.sl.v83 body_C.sl.v84 body_C.sl.v85 body_C.sl.v86 body_C.sl.v87 body_C.sl.v88 body_C.sl.v9 body_C.sl.v90 body_C.sl.v91 body_C.sl.v92 body_C.sl.v93 body_C.sl.v94 body_C.sl.v95 body_C.sl.v96 body_C.sl.v97 body_C.sl.v98
    rw [show Scf.trips (k0_t1_loop i).lb (k0_t1_loop i).ub (k0_t1_loop i).st = T from hT.symm]
    simp only [View.writes_cons, View.writes_nil, View.readCov, read_tile, read_last_tile, read_row, read_last_row, write_tile,
        write_last_tile, write_row, write_last_row, read_all_b, write_all_b, read_all_q, write_all_q, read_all_n, write_all_n, read_all_r, write_all_r, read_all_c, write_all_c, hf2, hf3, hf4, hf5, hf6, hf7, hf8, hf9, hf12, hf14, read_held, after_zero, cast57, pay44_eq, pay66_eq, Nat.mul_zero]
    rw [read_held]
    · rfl
    · simp only [write_tile, write_row, write_all_b, write_all_q, write_all_r, hf12, hf14]; rfl
  isplitl [H14]
  · iexists _; isplitr; swap; iexact H14; ipureintro
    delta body_C.sl.H15_2 body_C.sl.H16_1 body_C.sl.H16_2 body_C.sl.H17_2 body_C.sl.cst body_C.sl.cst_43 body_C.sl.r body_C.sl.r_1 body_C.sl.r_2 body_C.sl.r_3 body_C.sl.r_4 body_C.sl.r_5 body_C.sl.r_6 body_C.sl.v body_C.sl.v0 body_C.sl.v1 body_C.sl.v104 body_C.sl.v105 body_C.sl.v106 body_C.sl.v107 body_C.sl.v108 body_C.sl.v109 body_C.sl.v110 body_C.sl.v112 body_C.sl.v113 body_C.sl.v114 body_C.sl.v128 body_C.sl.v13 body_C.sl.v133 body_C.sl.v16 body_C.sl.v18 body_C.sl.v2 body_C.sl.v24 body_C.sl.v27 body_C.sl.v3 body_C.sl.v49 body_C.sl.v5 body_C.sl.v56 body_C.sl.v6 body_C.sl.v68 body_C.sl.v69 body_C.sl.v72 body_C.sl.v73 body_C.sl.v74 body_C.sl.v75 body_C.sl.v79 body_C.sl.v80 body_C.sl.v81 body_C.sl.v82 body_C.sl.v83 body_C.sl.v84 body_C.sl.v85 body_C.sl.v86 body_C.sl.v87 body_C.sl.v88 body_C.sl.v9 body_C.sl.v90 body_C.sl.v91 body_C.sl.v92 body_C.sl.v93 body_C.sl.v94 body_C.sl.v95 body_C.sl.v96 body_C.sl.v97 body_C.sl.v98
    rw [show Scf.trips (k0_t1_loop i).lb (k0_t1_loop i).ub (k0_t1_loop i).st = T from hT.symm]
    simp only [View.writes_cons, View.writes_nil, View.readCov, read_tile, read_last_tile, read_row, read_last_row, write_tile,
        write_last_tile, write_row, write_last_row, read_all_b, write_all_b, read_all_q, write_all_q, read_all_n, write_all_n, read_all_r, write_all_r, read_all_c, write_all_c, hf2, hf3, hf4, hf5, hf6, hf7, hf8, hf9, hf12, hf14, read_held, after_zero, cast57, pay44_eq, pay66_eq, Nat.mul_zero]
    rw [read_held]
    · rfl
    · simp only [write_tile, write_row, write_all_b, write_all_q, write_all_r, hf12, hf14]; rfl
  isplitl [H15]
  · iexists _; iexists _; isplitr; swap; iexact H15; ipureintro; rfl
  isplitl [H16]
  · iexists _; iexists _; isplitr; swap; iexact H16; ipureintro; rfl
  iexists _; iexists _; isplitr; swap; iexact H17; ipureintro; rfl

end Cert.KernelIdeal.Gen

end
-- ==== Proof.BodyVD.lean ====
module

public import proofs.«01_k».proof.Proof.Gen.KernelIdeal.Frame
public import proofs.«01_k».proof.Proof.LoopV
public import proofs.«01_k».proof.Proof.ReadV
public import Idealize.ShloMosaic.Lib.Pipeline.FrameBody

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The body at such a point leaves in the accumulators what `point` says, and the outputs of its block from them. -/
theorem body_D (c : Dev nD) (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x512x128 .f32) (harg5 : arg5.IsWhole) (arg6 : Memref sig .tc .vmem S8192x128 .bf16) (harg6 : arg6.IsWhole) (arg7 : Memref sig .tc .vmem S1x16x1x512 .f32) (harg7 : arg7.IsWhole) (arg8 : Memref sig .tc .vmem S1x16x1x512 .f32) (harg8 : arg8.IsWhole) (arg9 : Memref sig .tc .vmem S8192x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x16x1x512 .f32) (harg12 : arg12.IsWhole) (arg13 : Memref sig .tc .vmem S1x512x1 .f32) (harg13 : arg13.IsWhole) (arg14 : Memref sig .tc .vmem S8192x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole)
    (x2 : Vec F S8192x128 .bf16) (x3 : Vec F S512x128 .bf16) (x4 : Vec F S512x128 .bf16) (x5 : Vec F S1x512x128 .f32) (x6 : Vec F S8192x128 .bf16) (x7 : Vec F S1x16x1x512 .f32) (x8 : Vec F S1x16x1x512 .f32) (x9 : Vec F S8192x128 .bf16) (x14 : Vec F S8192x128 .f32) (x12 : Vec F S1x16x1x512 .f32) (hc1 : ¬first i) (hc2 : ¬k0_cond2 i = 1#1) (hc3 : k0_cond3 i = 1#1) (E : Set ℕ) (hE : E = Set.univ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ owns (c : Thread nD τ) arg12 fullShare x12 ∗ (∃ d, owns (c : Thread nD τ) arg13 fullShare d) ∗ owns (c : Thread nD τ) arg14 fullShare x14 ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (k0_pay2 (point (F := F) ⟨x2, x3, x4, x5, x6, x7, x8⟩ (i 1) x14 x12).dq) ∗ owns (c : Thread nD τ) arg10 fullShare (k0_pay67 (point (F := F) ⟨x2, x3, x4, x5, x6, x7, x8⟩ (i 1) x14 x12).dk) ∗ owns (c : Thread nD τ) arg11 fullShare (k0_pay68 (point (F := F) ⟨x2, x3, x4, x5, x6, x7, x8⟩ (i 1) x14 x12).dv) ∗ owns (c : Thread nD τ) arg12 fullShare (point (F := F) ⟨x2, x3, x4, x5, x6, x7, x8⟩ (i 1) x14 x12).drow ∗ owns (c : Thread nD τ) arg13 fullShare (k0_pay1 (point (F := F) ⟨x2, x3, x4, x5, x6, x7, x8⟩ (i 1) x14 x12).dnf) ∗ owns (c : Thread nD τ) arg14 fullShare (point (F := F) ⟨x2, x3, x4, x5, x6, x7, x8⟩ (i 1) x14 x12).dq ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  subst hE
  simp only [cc0_attn_bwd_eq_skeleton]; unfold cc0_attn_bwd_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%d13, %f13, -, H13⟩, ⟨%f14, %hf14, H14⟩, ⟨%d15, %f15, -, H15⟩, ⟨%d16, %f16, -, H16⟩, ⟨%d17, %f17, -, H17⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg12.eq_unread hf12; obtain rfl := harg14.eq_unread hf14
  sl_exec (disch := first | sl_exact hc1 | sl_exact hc2 | sl_exact hc3)
  sl_step
  have e : 15 - (i 1).val = 2 * (k0_t1_loop i).trips + 0 := by
    exact trips_even i hc2
  obtain ⟨T, hT⟩ : ∃ T, T = (k0_t1_loop i).trips := ⟨_, rfl⟩
  rw [← hT] at e
  rw [point_even (F := F) _ (i 1) _ e]
  iapply Hk
  isplitl [H2]
  · iexists _; isplitr; swap; iexact H2; ipureintro; exact hf2
  isplitl [H3]
  · iexists _; isplitr; swap; iexact H3; ipureintro; exact hf3
  isplitl [H4]
  · iexists _; isplitr; swap; iexact H4; ipureintro; exact hf4
  isplitl [H5]
  · iexists _; isplitr; swap; iexact H5; ipureintro; exact hf5
  isplitl [H6]
  · iexists _; isplitr; swap; iexact H6; ipureintro; exact hf6
  isplitl [H7]
  · iexists _; isplitr; swap; iexact H7; ipureintro; exact hf7
  isplitl [H8]
  · iexists _; isplitr; swap; iexact H8; ipureintro; exact hf8
  isplitl [H9]
  · iexists _; isplitr; swap; iexact H9; ipureintro
    delta body_D.sl.H15_2 body_D.sl.H16_1 body_D.sl.H16_2 body_D.sl.H17_2 body_D.sl.cst body_D.sl.cst_43 body_D.sl.r body_D.sl.r_1 body_D.sl.r_2 body_D.sl.r_3 body_D.sl.r_4 body_D.sl.r_5 body_D.sl.r_6 body_D.sl.v body_D.sl.v0 body_D.sl.v1 body_D.sl.v104 body_D.sl.v105 body_D.sl.v106 body_D.sl.v107 body_D.sl.v108 body_D.sl.v109 body_D.sl.v110 body_D.sl.v112 body_D.sl.v113 body_D.sl.v114 body_D.sl.v128 body_D.sl.v13 body_D.sl.v133 body_D.sl.v145 body_D.sl.v16 body_D.sl.v18 body_D.sl.v2 body_D.sl.v24 body_D.sl.v27 body_D.sl.v3 body_D.sl.v49 body_D.sl.v5 body_D.sl.v56 body_D.sl.v6 body_D.sl.v68 body_D.sl.v69 body_D.sl.v72 body_D.sl.v73 body_D.sl.v74 body_D.sl.v75 body_D.sl.v79 body_D.sl.v80 body_D.sl.v81 body_D.sl.v82 body_D.sl.v83 body_D.sl.v84 body_D.sl.v85 body_D.sl.v86 body_D.sl.v87 body_D.sl.v88 body_D.sl.v9 body_D.sl.v90 body_D.sl.v91 body_D.sl.v92 body_D.sl.v93 body_D.sl.v94 body_D.sl.v95 body_D.sl.v96 body_D.sl.v97 body_D.sl.v98
    rw [show Scf.trips (k0_t1_loop i).lb (k0_t1_loop i).ub (k0_t1_loop i).st = T from hT.symm]
    simp only [View.writes_cons, View.writes_nil, View.readCov, read_tile, read_last_tile, read_row, read_last_row, write_tile,
        write_last_tile, write_row, write_last_row, read_all_b, write_all_b, read_all_q, write_all_q, read_all_n, write_all_n, read_all_r, write_all_r, read_all_c, write_all_c, hf2, hf3, hf4, hf5, hf6, hf7, hf8, hf9, hf12, hf14, read_held, after_zero, cast57, pay44_eq, pay66_eq, Nat.mul_zero]
    rw [read_held]
    · rfl
    · simp only [write_tile, write_row, write_all_b, write_all_q, write_all_r, hf12, hf14]; rfl
  isplitl [H10]
  · iexists _; isplitr; swap; iexact H10; ipureintro
    delta body_D.sl.H15_2 body_D.sl.H16_1 body_D.sl.H16_2 body_D.sl.H17_2 body_D.sl.cst body_D.sl.cst_43 body_D.sl.r body_D.sl.r_1 body_D.sl.r_2 body_D.sl.r_3 body_D.sl.r_4 body_D.sl.r_5 body_D.sl.r_6 body_D.sl.v body_D.sl.v0 body_D.sl.v1 body_D.sl.v104 body_D.sl.v105 body_D.sl.v106 body_D.sl.v107 body_D.sl.v108 body_D.sl.v109 body_D.sl.v110 body_D.sl.v112 body_D.sl.v113 body_D.sl.v114 body_D.sl.v128 body_D.sl.v13 body_D.sl.v133 body_D.sl.v145 body_D.sl.v16 body_D.sl.v18 body_D.sl.v2 body_D.sl.v24 body_D.sl.v27 body_D.sl.v3 body_D.sl.v49 body_D.sl.v5 body_D.sl.v56 body_D.sl.v6 body_D.sl.v68 body_D.sl.v69 body_D.sl.v72 body_D.sl.v73 body_D.sl.v74 body_D.sl.v75 body_D.sl.v79 body_D.sl.v80 body_D.sl.v81 body_D.sl.v82 body_D.sl.v83 body_D.sl.v84 body_D.sl.v85 body_D.sl.v86 body_D.sl.v87 body_D.sl.v88 body_D.sl.v9 body_D.sl.v90 body_D.sl.v91 body_D.sl.v92 body_D.sl.v93 body_D.sl.v94 body_D.sl.v95 body_D.sl.v96 body_D.sl.v97 body_D.sl.v98
    rw [show Scf.trips (k0_t1_loop i).lb (k0_t1_loop i).ub (k0_t1_loop i).st = T from hT.symm]
    simp only [View.writes_cons, View.writes_nil, View.readCov, read_tile, read_last_tile, read_row, read_last_row, write_tile,
        write_last_tile, write_row, write_last_row, read_all_b, write_all_b, read_all_q, write_all_q, read_all_n, write_all_n, read_all_r, write_all_r, read_all_c, write_all_c, hf2, hf3, hf4, hf5, hf6, hf7, hf8, hf9, hf12, hf14, read_held, after_zero, cast57, pay44_eq, pay66_eq, Nat.mul_zero]
    rw [read_held]
    · rfl
    · simp only [write_tile, write_row, write_all_b, write_all_q, write_all_r, hf12, hf14]; rfl
  isplitl [H11]
  · iexists _; isplitr; swap; iexact H11; ipureintro
    delta body_D.sl.H15_2 body_D.sl.H16_1 body_D.sl.H16_2 body_D.sl.H17_2 body_D.sl.cst body_D.sl.cst_43 body_D.sl.r body_D.sl.r_1 body_D.sl.r_2 body_D.sl.r_3 body_D.sl.r_4 body_D.sl.r_5 body_D.sl.r_6 body_D.sl.v body_D.sl.v0 body_D.sl.v1 body_D.sl.v104 body_D.sl.v105 body_D.sl.v106 body_D.sl.v107 body_D.sl.v108 body_D.sl.v109 body_D.sl.v110 body_D.sl.v112 body_D.sl.v113 body_D.sl.v114 body_D.sl.v128 body_D.sl.v13 body_D.sl.v133 body_D.sl.v145 body_D.sl.v16 body_D.sl.v18 body_D.sl.v2 body_D.sl.v24 body_D.sl.v27 body_D.sl.v3 body_D.sl.v49 body_D.sl.v5 body_D.sl.v56 body_D.sl.v6 body_D.sl.v68 body_D.sl.v69 body_D.sl.v72 body_D.sl.v73 body_D.sl.v74 body_D.sl.v75 body_D.sl.v79 body_D.sl.v80 body_D.sl.v81 body_D.sl.v82 body_D.sl.v83 body_D.sl.v84 body_D.sl.v85 body_D.sl.v86 body_D.sl.v87 body_D.sl.v88 body_D.sl.v9 body_D.sl.v90 body_D.sl.v91 body_D.sl.v92 body_D.sl.v93 body_D.sl.v94 body_D.sl.v95 body_D.sl.v96 body_D.sl.v97 body_D.sl.v98
    rw [show Scf.trips (k0_t1_loop i).lb (k0_t1_loop i).ub (k0_t1_loop i).st = T from hT.symm]
    simp only [View.writes_cons, View.writes_nil, View.readCov, read_tile, read_last_tile, read_row, read_last_row, write_tile,
        write_last_tile, write_row, write_last_row, read_all_b, write_all_b, read_all_q, write_all_q, read_all_n, write_all_n, read_all_r, write_all_r, read_all_c, write_all_c, hf2, hf3, hf4, hf5, hf6, hf7, hf8, hf9, hf12, hf14, read_held, after_zero, cast57, pay44_eq, pay66_eq, Nat.mul_zero]
    rw [read_held]
    · rfl
    · simp only [write_tile, write_row, write_all_b, write_all_q, write_all_r, hf12, hf14]; rfl
  isplitl [H12]
  · iexists _; isplitr; swap; iexact H12; ipureintro
    delta body_D.sl.H15_2 body_D.sl.H16_1 body_D.sl.H16_2 body_D.sl.H17_2 body_D.sl.cst body_D.sl.cst_43 body_D.sl.r body_D.sl.r_1 body_D.sl.r_2 body_D.sl.r_3 body_D.sl.r_4 body_D.sl.r_5 body_D.sl.r_6 body_D.sl.v body_D.sl.v0 body_D.sl.v1 body_D.sl.v104 body_D.sl.v105 body_D.sl.v106 body_D.sl.v107 body_D.sl.v108 body_D.sl.v109 body_D.sl.v110 body_D.sl.v112 body_D.sl.v113 body_D.sl.v114 body_D.sl.v128 body_D.sl.v13 body_D.sl.v133 body_D.sl.v145 body_D.sl.v16 body_D.sl.v18 body_D.sl.v2 body_D.sl.v24 body_D.sl.v27 body_D.sl.v3 body_D.sl.v49 body_D.sl.v5 body_D.sl.v56 body_D.sl.v6 body_D.sl.v68 body_D.sl.v69 body_D.sl.v72 body_D.sl.v73 body_D.sl.v74 body_D.sl.v75 body_D.sl.v79 body_D.sl.v80 body_D.sl.v81 body_D.sl.v82 body_D.sl.v83 body_D.sl.v84 body_D.sl.v85 body_D.sl.v86 body_D.sl.v87 body_D.sl.v88 body_D.sl.v9 body_D.sl.v90 body_D.sl.v91 body_D.sl.v92 body_D.sl.v93 body_D.sl.v94 body_D.sl.v95 body_D.sl.v96 body_D.sl.v97 body_D.sl.v98
    rw [show Scf.trips (k0_t1_loop i).lb (k0_t1_loop i).ub (k0_t1_loop i).st = T from hT.symm]
    simp only [View.writes_cons, View.writes_nil, View.readCov, read_tile, read_last_tile, read_row, read_last_row, write_tile,
        write_last_tile, write_row, write_last_row, read_all_b, write_all_b, read_all_q, write_all_q, read_all_n, write_all_n, read_all_r, write_all_r, read_all_c, write_all_c, hf2, hf3, hf4, hf5, hf6, hf7, hf8, hf9, hf12, hf14, read_held, after_zero, cast57, pay44_eq, pay66_eq, Nat.mul_zero]
    rw [read_held]
    · rfl
    · simp only [write_tile, write_row, write_all_b, write_all_q, write_all_r, hf12, hf14]; rfl
  isplitl [H13]
  · iexists _; isplitr; swap; iexact H13; ipureintro
    delta body_D.sl.H15_2 body_D.sl.H16_1 body_D.sl.H16_2 body_D.sl.H17_2 body_D.sl.cst body_D.sl.cst_43 body_D.sl.r body_D.sl.r_1 body_D.sl.r_2 body_D.sl.r_3 body_D.sl.r_4 body_D.sl.r_5 body_D.sl.r_6 body_D.sl.v body_D.sl.v0 body_D.sl.v1 body_D.sl.v104 body_D.sl.v105 body_D.sl.v106 body_D.sl.v107 body_D.sl.v108 body_D.sl.v109 body_D.sl.v110 body_D.sl.v112 body_D.sl.v113 body_D.sl.v114 body_D.sl.v128 body_D.sl.v13 body_D.sl.v133 body_D.sl.v145 body_D.sl.v16 body_D.sl.v18 body_D.sl.v2 body_D.sl.v24 body_D.sl.v27 body_D.sl.v3 body_D.sl.v49 body_D.sl.v5 body_D.sl.v56 body_D.sl.v6 body_D.sl.v68 body_D.sl.v69 body_D.sl.v72 body_D.sl.v73 body_D.sl.v74 body_D.sl.v75 body_D.sl.v79 body_D.sl.v80 body_D.sl.v81 body_D.sl.v82 body_D.sl.v83 body_D.sl.v84 body_D.sl.v85 body_D.sl.v86 body_D.sl.v87 body_D.sl.v88 body_D.sl.v9 body_D.sl.v90 body_D.sl.v91 body_D.sl.v92 body_D.sl.v93 body_D.sl.v94 body_D.sl.v95 body_D.sl.v96 body_D.sl.v97 body_D.sl.v98
    rw [show Scf.trips (k0_t1_loop i).lb (k0_t1_loop i).ub (k0_t1_loop i).st = T from hT.symm]
    simp only [View.writes_cons, View.writes_nil, View.readCov, read_tile, read_last_tile, read_row, read_last_row, write_tile,
        write_last_tile, write_row, write_last_row, read_all_b, write_all_b, read_all_q, write_all_q, read_all_n, write_all_n, read_all_r, write_all_r, read_all_c, write_all_c, hf2, hf3, hf4, hf5, hf6, hf7, hf8, hf9, hf12, hf14, read_held, after_zero, cast57, pay44_eq, pay66_eq, Nat.mul_zero]
    rw [read_held]
    · rfl
    · simp only [write_tile, write_row, write_all_b, write_all_q, write_all_r, hf12, hf14]; rfl
  isplitl [H14]
  · iexists _; isplitr; swap; iexact H14; ipureintro
    delta body_D.sl.H15_2 body_D.sl.H16_1 body_D.sl.H16_2 body_D.sl.H17_2 body_D.sl.cst body_D.sl.cst_43 body_D.sl.r body_D.sl.r_1 body_D.sl.r_2 body_D.sl.r_3 body_D.sl.r_4 body_D.sl.r_5 body_D.sl.r_6 body_D.sl.v body_D.sl.v0 body_D.sl.v1 body_D.sl.v104 body_D.sl.v105 body_D.sl.v106 body_D.sl.v107 body_D.sl.v108 body_D.sl.v109 body_D.sl.v110 body_D.sl.v112 body_D.sl.v113 body_D.sl.v114 body_D.sl.v128 body_D.sl.v13 body_D.sl.v133 body_D.sl.v145 body_D.sl.v16 body_D.sl.v18 body_D.sl.v2 body_D.sl.v24 body_D.sl.v27 body_D.sl.v3 body_D.sl.v49 body_D.sl.v5 body_D.sl.v56 body_D.sl.v6 body_D.sl.v68 body_D.sl.v69 body_D.sl.v72 body_D.sl.v73 body_D.sl.v74 body_D.sl.v75 body_D.sl.v79 body_D.sl.v80 body_D.sl.v81 body_D.sl.v82 body_D.sl.v83 body_D.sl.v84 body_D.sl.v85 body_D.sl.v86 body_D.sl.v87 body_D.sl.v88 body_D.sl.v9 body_D.sl.v90 body_D.sl.v91 body_D.sl.v92 body_D.sl.v93 body_D.sl.v94 body_D.sl.v95 body_D.sl.v96 body_D.sl.v97 body_D.sl.v98
    rw [show Scf.trips (k0_t1_loop i).lb (k0_t1_loop i).ub (k0_t1_loop i).st = T from hT.symm]
    simp only [View.writes_cons, View.writes_nil, View.readCov, read_tile, read_last_tile, read_row, read_last_row, write_tile,
        write_last_tile, write_row, write_last_row, read_all_b, write_all_b, read_all_q, write_all_q, read_all_n, write_all_n, read_all_r, write_all_r, read_all_c, write_all_c, hf2, hf3, hf4, hf5, hf6, hf7, hf8, hf9, hf12, hf14, read_held, after_zero, cast57, pay44_eq, pay66_eq, Nat.mul_zero]
    rw [read_held]
    · rfl
    · simp only [write_tile, write_row, write_all_b, write_all_q, write_all_r, hf12, hf14]; rfl
  isplitl [H15]
  · iexists _; iexists _; isplitr; swap; iexact H15; ipureintro; rfl
  isplitl [H16]
  · iexists _; iexists _; isplitr; swap; iexact H16; ipureintro; rfl
  iexists _; iexists _; isplitr; swap; iexact H17; ipureintro; rfl

end Cert.KernelIdeal.Gen

end
-- ==== Proof.FrameV.lean ====
module

public import proofs.«01_k».proof.Proof.Gen.KernelIdeal.Frame
public import proofs.«01_k».proof.Proof.BodyVA
public import proofs.«01_k».proof.Proof.BodyVB
public import proofs.«01_k».proof.Proof.BodyVC
public import proofs.«01_k».proof.Proof.BodyVD
public import Idealize.ShloMosaic.Lib.Pipeline.FrameBody

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The scratch buffers and the generator register, at anything. -/
theorem anything_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

theorem coord_mod : ∀ t : Fin cfg0.N, ((grid0.coords t) 1).val = t.val % 16 :=
  (by decide +kernel : ∀ t : Fin grid0.N, ((grid0.coords t) 1).val = t.val % 16)

/-- What the body reads at point `t`. -/
@[reducible] def inp (c : Dev nD) (t : Fin cfg0.N) : In F :=
  ⟨iblk m c 0 t, iblk m c 1 t, iblk m c 2 t, iblk m c 3 t, iblk m c 4 t, iblk m c 5 t, iblk m c 6 t⟩

/-- What the accumulators hold after the point at position `n`: a head's first block of keys finds them cleared, any
    other the queries' and the rows' as the point before left them. -/
def left (c : Dev nD) : (n : ℕ) → n < cfg0.N → St F
  | 0, h => point (inp m c ⟨0, h⟩) ((grid0.coords ⟨0, h⟩) 1) k0_pay45 k0_pay46
  | n + 1, h =>
    if (n + 1) % 16 = 0 then point (inp m c ⟨n + 1, h⟩) ((grid0.coords ⟨n + 1, h⟩) 1) k0_pay45 k0_pay46
    else point (inp m c ⟨n + 1, h⟩) ((grid0.coords ⟨n + 1, h⟩) 1) (left c n (Nat.lt_of_succ_lt h)).dq (left c n (Nat.lt_of_succ_lt h)).drow

theorem left_first (c : Dev nD) (t : Fin cfg0.N) (h : t.val % 16 = 0) :
    left m c t.val t.isLt = point (inp m c t) ((grid0.coords t) 1) k0_pay45 k0_pay46 := by
  obtain ⟨n, hn⟩ := t
  cases n with
  | zero => rfl
  | succ n => exact if_pos h

theorem left_next (c : Dev nD) (t : Fin cfg0.N) (h : ¬t.val % 16 = 0) :
    left m c t.val t.isLt = point (inp m c t) ((grid0.coords t) 1)
      (left m c (t.val - 1) (Nat.lt_of_le_of_lt (Nat.sub_le _ _) t.isLt)).dq (left m c (t.val - 1) (Nat.lt_of_le_of_lt (Nat.sub_le _ _) t.isLt)).drow := by
  obtain ⟨n, hn⟩ := t
  cases n with
  | zero => exact absurd (Nat.zero_mod _) h
  | succ n => exact if_neg h

/-- The scratch buffers before position `n`: the first at the gradient of the queries so far. -/
def PhiS (c : Dev nD) : (n : ℕ) → n ≤ cfg0.N → sProp 𝕄
  | 0, _ => Pipeline.ΦA spec0 c
  | n + 1, hn => iprop(iprop(owns (c : Thread nD τ) (Memref.whole cc0_scratch0) fullShare (left m c n hn).dq ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r))

theorem PhiS_succ (c : Dev nD) (n : ℕ) (hn : n < cfg0.N) : PhiS m c (n + 1) hn
    = iprop(iprop(owns (c : Thread nD τ) (Memref.whole cc0_scratch0) fullShare (left m c n hn).dq ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := rfl

theorem PhiS_pos (c : Dev nD) (n : ℕ) (h : n ≤ cfg0.N) (hz : n ≠ 0) : PhiS m c n h
    = iprop(iprop(owns (c : Thread nD τ) (Memref.whole cc0_scratch0) fullShare (left m c (n - 1) (by omega)).dq ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  cases n with
  | zero => exact absurd rfl hz
  | succ n => rfl

theorem PhiS_any (c : Dev nD) (n : ℕ) (h : n ≤ cfg0.N) : PhiS m c n h ⊢ Pipeline.ΦA spec0 c := by
  cases n with
  | zero => exact Idealize.SL.BI.Entails.refl _
  | succ n =>
    rw [PhiS_succ, anything_eq]
    iintro ⟨⟨S0, S1, S2, S3⟩, Hg⟩
    isplitl [S0 S1 S2 S3]
    · isplitl [S0]; · iexists _; iexact S0
      isplitl [S1]; · iexact S1
      isplitl [S2]; · iexact S2
      iexact S3
    iexact Hg

/-- The proof data: the arrays as the region finds them; an input's buffer is left at its block; the gradients' at what
    the accumulators hold. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay2 (left m c t.val t.isLt).dq
    | ⟨8, _⟩ => k0_pay67 (left m c t.val t.isLt).dk
    | ⟨9, _⟩ => k0_pay68 (left m c t.val t.isLt).dv
    | ⟨10, _⟩ => (left m c t.val t.isLt).drow
    | ⟨11, _⟩ => k0_pay1 (left m c t.val t.isLt).dnf
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem found_0 (c : Dev nD) (t : Fin cfg0.N) (d) : (dats m 0 c).before 0 t d = iblk m c 0 t :=
  before0_0_of m (dats m 0 c) (A_eq m c 0) (after_0 m c) t d
theorem live_0 : ∀ t : Fin cfg0.N, cfg0.idle 0 (grid0.coords t) = false := fun _ => rfl
theorem leaves_0 (c : Dev nD) (t : Fin cfg0.N) :
    (dats m 0 c).leavesExact 0 t = owns (c : Thread nD τ) (st0_0 t) fullShare (iblk m c 0 t) := by
  unfold Dat.leavesExact; rw [live_0 t, after_0]
theorem after_1 (c : Dev nD) (t : Fin cfg0.N) : (dats m 0 c).after 1 t = iblk m c 1 t := by dsimp only [dats]
theorem found_1 (c : Dev nD) (t : Fin cfg0.N) (d) : (dats m 0 c).before 1 t d = iblk m c 1 t :=
  before0_1_of m (dats m 0 c) (A_eq m c 1) (after_1 m c) t d
theorem live_1 : ∀ t : Fin cfg0.N, cfg0.idle 1 (grid0.coords t) = false := fun _ => rfl
theorem leaves_1 (c : Dev nD) (t : Fin cfg0.N) :
    (dats m 0 c).leavesExact 1 t = owns (c : Thread nD τ) (st0_1 t) fullShare (iblk m c 1 t) := by
  unfold Dat.leavesExact; rw [live_1 t, after_1]
theorem after_2 (c : Dev nD) (t : Fin cfg0.N) : (dats m 0 c).after 2 t = iblk m c 2 t := by dsimp only [dats]
theorem found_2 (c : Dev nD) (t : Fin cfg0.N) (d) : (dats m 0 c).before 2 t d = iblk m c 2 t :=
  before0_2_of m (dats m 0 c) (A_eq m c 2) (after_2 m c) t d
theorem live_2 : ∀ t : Fin cfg0.N, cfg0.idle 2 (grid0.coords t) = false := fun _ => rfl
theorem leaves_2 (c : Dev nD) (t : Fin cfg0.N) :
    (dats m 0 c).leavesExact 2 t = owns (c : Thread nD τ) (st0_2 t) fullShare (iblk m c 2 t) := by
  unfold Dat.leavesExact; rw [live_2 t, after_2]
theorem after_3 (c : Dev nD) (t : Fin cfg0.N) : (dats m 0 c).after 3 t = iblk m c 3 t := by dsimp only [dats]
theorem found_3 (c : Dev nD) (t : Fin cfg0.N) (d) : (dats m 0 c).before 3 t d = iblk m c 3 t :=
  before0_3_of m (dats m 0 c) (A_eq m c 3) (after_3 m c) t d
theorem live_3 : ∀ t : Fin cfg0.N, cfg0.idle 3 (grid0.coords t) = false := fun _ => rfl
theorem leaves_3 (c : Dev nD) (t : Fin cfg0.N) :
    (dats m 0 c).leavesExact 3 t = owns (c : Thread nD τ) (st0_3 t) fullShare (iblk m c 3 t) := by
  unfold Dat.leavesExact; rw [live_3 t, after_3]
theorem after_4 (c : Dev nD) (t : Fin cfg0.N) : (dats m 0 c).after 4 t = iblk m c 4 t := by dsimp only [dats]
theorem found_4 (c : Dev nD) (t : Fin cfg0.N) (d) : (dats m 0 c).before 4 t d = iblk m c 4 t :=
  before0_4_of m (dats m 0 c) (A_eq m c 4) (after_4 m c) t d
theorem live_4 : ∀ t : Fin cfg0.N, cfg0.idle 4 (grid0.coords t) = false := fun _ => rfl
theorem leaves_4 (c : Dev nD) (t : Fin cfg0.N) :
    (dats m 0 c).leavesExact 4 t = owns (c : Thread nD τ) (st0_4 t) fullShare (iblk m c 4 t) := by
  unfold Dat.leavesExact; rw [live_4 t, after_4]
theorem after_5 (c : Dev nD) (t : Fin cfg0.N) : (dats m 0 c).after 5 t = iblk m c 5 t := by dsimp only [dats]
theorem found_5 (c : Dev nD) (t : Fin cfg0.N) (d) : (dats m 0 c).before 5 t d = iblk m c 5 t :=
  before0_5_of m (dats m 0 c) (A_eq m c 5) (after_5 m c) t d
theorem live_5 : ∀ t : Fin cfg0.N, cfg0.idle 5 (grid0.coords t) = false := fun _ => rfl
theorem leaves_5 (c : Dev nD) (t : Fin cfg0.N) :
    (dats m 0 c).leavesExact 5 t = owns (c : Thread nD τ) (st0_5 t) fullShare (iblk m c 5 t) := by
  unfold Dat.leavesExact; rw [live_5 t, after_5]
theorem after_6 (c : Dev nD) (t : Fin cfg0.N) : (dats m 0 c).after 6 t = iblk m c 6 t := by dsimp only [dats]
theorem found_6 (c : Dev nD) (t : Fin cfg0.N) (d) : (dats m 0 c).before 6 t d = iblk m c 6 t :=
  before0_6_of m (dats m 0 c) (A_eq m c 6) (after_6 m c) t d
theorem live_6 : ∀ t : Fin cfg0.N, cfg0.idle 6 (grid0.coords t) = false := fun _ => rfl
theorem leaves_6 (c : Dev nD) (t : Fin cfg0.N) :
    (dats m 0 c).leavesExact 6 t = owns (c : Thread nD τ) (st0_6 t) fullShare (iblk m c 6 t) := by
  unfold Dat.leavesExact; rw [live_6 t, after_6]

theorem after_7 (c : Dev nD) (t : Fin cfg0.N) : (dats m 0 c).after 7 t = k0_pay2 (left m c t.val t.isLt).dq := by dsimp only [dats]
theorem after_8 (c : Dev nD) (t : Fin cfg0.N) : (dats m 0 c).after 8 t = k0_pay67 (left m c t.val t.isLt).dk := by dsimp only [dats]
theorem live_8 : ∀ t : Fin cfg0.N, cfg0.idle 8 (grid0.coords t) = false := fun _ => rfl
theorem leaves_8 (c : Dev nD) (t : Fin cfg0.N) :
    (dats m 0 c).leavesExact 8 t = owns (c : Thread nD τ) (st0_8 t) fullShare (k0_pay67 (left m c t.val t.isLt).dk) := by
  unfold Dat.leavesExact; rw [live_8 t, after_8]
theorem after_9 (c : Dev nD) (t : Fin cfg0.N) : (dats m 0 c).after 9 t = k0_pay68 (left m c t.val t.isLt).dv := by dsimp only [dats]
theorem live_9 : ∀ t : Fin cfg0.N, cfg0.idle 9 (grid0.coords t) = false := fun _ => rfl
theorem leaves_9 (c : Dev nD) (t : Fin cfg0.N) :
    (dats m 0 c).leavesExact 9 t = owns (c : Thread nD τ) (st0_9 t) fullShare (k0_pay68 (left m c t.val t.isLt).dv) := by
  unfold Dat.leavesExact; rw [live_9 t, after_9]
theorem after_10 (c : Dev nD) (t : Fin cfg0.N) : (dats m 0 c).after 10 t = (left m c t.val t.isLt).drow := by dsimp only [dats]
theorem live_10 : ∀ t : Fin cfg0.N, cfg0.idle 10 (grid0.coords t) = false := fun _ => rfl
theorem leaves_10 (c : Dev nD) (t : Fin cfg0.N) :
    (dats m 0 c).leavesExact 10 t = owns (c : Thread nD τ) (st0_10 t) fullShare ((left m c t.val t.isLt).drow) := by
  unfold Dat.leavesExact; rw [live_10 t, after_10]
theorem after_11 (c : Dev nD) (t : Fin cfg0.N) : (dats m 0 c).after 11 t = k0_pay1 (left m c t.val t.isLt).dnf := by dsimp only [dats]
theorem live_11 : ∀ t : Fin cfg0.N, cfg0.idle 11 (grid0.coords t) = false := fun _ => rfl
theorem leaves_11 (c : Dev nD) (t : Fin cfg0.N) :
    (dats m 0 c).leavesExact 11 t = owns (c : Thread nD τ) (st0_11 t) fullShare (k0_pay1 (left m c t.val t.isLt).dnf) := by
  unfold Dat.leavesExact; rw [live_11 t, after_11]
theorem idle_7 (t : Fin cfg0.N) : cfg0.idle 7 (grid0.coords t) = !(k0_cond3 (grid0.coords t) == 1#1) := rfl

/-- Before a head's last block of keys the buffer of the queries' gradient is left as found; -/
theorem leaves_7 (c : Dev nD) (t : Fin cfg0.N) (h : ¬k0_cond3 (grid0.coords t) = 1#1) :
    (dats m 0 c).leavesExact 7 t = iprop(∃ d, owns (c : Thread nD τ) (st0_7 t) fullShare ((dats m 0 c).before 7 t d)) := by
  refine (dats m 0 c).leavesExact_idle 7 t ?_ ?_
  · rw [idle_7]; simpa using h
  · rw [Bool.eq_false_iff]; intro e
    exact h ((last_iff _).mpr ((coord_mod t).trans ((flush0_7 t).mp e)))

/-- at the last it is left at what they come to. -/
theorem leaves_7_last (c : Dev nD) (t : Fin cfg0.N) (h : k0_cond3 (grid0.coords t) = 1#1) :
    (dats m 0 c).leavesExact 7 t = owns (c : Thread nD τ) (st0_7 t) fullShare (k0_pay2 (left m c t.val t.isLt).dq) := by
  unfold Dat.leavesExact; rw [show cfg0.idle 7 (grid0.coords t) = false from by rw [idle_7]; simpa using h, after_7]

/-- The rows' buffer is found, behind a head's first block of keys, as the point before left it. -/
theorem found_10 (c : Dev nD) (t : Fin cfg0.N) (h : ¬t.val % 16 = 0) (d) :
    (dats m 0 c).before 10 t d = (left m c (t.val - 1) (Nat.lt_of_le_of_lt (Nat.sub_le _ _) t.isLt)).drow := by
  have hz : t.val ≠ 0 := fun e => h (by rw [e])
  refine ((dats m 0 c).before_out_kept 10 rfl t hz ?_ (fun _ => rfl) (fun _ _ => rfl) d).trans (after_10 m c _)
  rw [Bool.eq_false_iff]; intro e
  have := (flush0_10 _).mp e
  dsimp only at this; omega

theorem Phi_start (c : Dev nD) (t : Fin cfg0.N) : (dats m 0 c).Φ t.castSucc = PhiS m c t.val (Nat.le_of_lt t.isLt) := by
  dsimp only [dats]; exact Pipeline.Dat.Φ_castSucc (PhiS m c) t

/-- What the windows' buffers hold when the body runs at point `t`. -/
def atStart (c : Dev nD) (t : Fin cfg0.N) : sProp 𝕄 :=
  iprop((dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- What it leaves. -/
def atEnd (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

theorem point_run (c : Dev nD) (t : Fin cfg0.N) :
    iprop((dats m 0 c).Φ t.castSucc ∗ atStart m c t) ⊢ wp frame (wpE (defs₀ (F := F)) Variants.none c none) Set.univ (bodyAt0 t) (fun _ => atEnd m c t) := by
  rw [Phi_start]
  rcases cases_of (grid0.coords t) with ⟨hc1, hc2, hc3⟩ | ⟨hc1, hc2, hc3⟩ | ⟨hc1, hc2, hc3⟩ | ⟨hc1, hc2, hc3⟩
  · have h0 : t.val % 16 = 0 := (coord_mod t).symm.trans ((first_iff _).mp hc1)
    refine (Idealize.SL.BI.Entails.trans (BIClass.sep_mono (PhiS_any m c _ _) (Idealize.SL.BI.Entails.refl _)) ?_)
    rw [anything_eq]
    change BIBase.Entails (PROP := sProp 𝕄) _ _
    unfold atStart atEnd bodyAt0
    simp only [found_0, found_1, found_2, found_3, found_4, found_5, found_6, leaves_0, leaves_1, leaves_2, leaves_3, leaves_4, leaves_5, leaves_6, leaves_8, leaves_9, leaves_10, leaves_11]
    rw [leaves_7 m c t hc3]
    rw [show (dats m 0 c).owesAt () t.succ = (dats m 0 c).owesAt () t.castSucc from rfl]
    rw [show (dats m 0 c).Φ t.succ = PhiS m c (t.val + 1) t.isLt from rfl, PhiS_succ, left_first m c t h0]
    iintro ⟨⟨⟨⟨%xs, S0⟩, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (body_A c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) ((dats m 0 c).before 7 t d7) xs ((dats m 0 c).before 10 t d10) hc1 hc2 hc3 Set.univ rfl _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    isplitl [H11]; · iexists _; iexact H11
    isplitl [S0]; · iexact S0
    isplitl [S1]; · iexact S1
    isplitl [S2]; · iexact S2
    isplitl [S3]; · iexact S3
    iintro ⟨H0, H1, H2, H3, H4, H5, H6, H7, H8, H9, H10, H11, S0, S1, S2, S3⟩
    isplitl [S0 S1 S2 S3 Hg]
    · isplitl [S0 S1 S2 S3]
      · isplitl [S0]; · iexact S0
        isplitl [S1]; · iexact S1
        isplitl [S2]; · iexact S2
        iexact S3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists d7; iexact H7
    isplitl [H8]; · iexact H8
    isplitl [H9]; · iexact H9
    isplitl [H10]; · iexact H10
    iexact H11
  · have h0 : ¬t.val % 16 = 0 := fun e => hc1 ((first_iff _).mpr ((coord_mod t).trans e))
    rw [PhiS_pos m c _ _ (fun e => h0 (by rw [e]))]
    unfold atStart atEnd bodyAt0
    simp only [found_0, found_1, found_2, found_3, found_4, found_5, found_6, leaves_0, leaves_1, leaves_2, leaves_3, leaves_4, leaves_5, leaves_6, leaves_8, leaves_9, leaves_10, leaves_11]
    rw [leaves_7 m c t hc3]
    simp only [found_10 m c t h0]
    rw [show (dats m 0 c).owesAt () t.succ = (dats m 0 c).owesAt () t.castSucc from rfl]
    rw [show (dats m 0 c).Φ t.succ = PhiS m c (t.val + 1) t.isLt from rfl, PhiS_succ, left_next m c t h0]
    iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (body_B c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) ((dats m 0 c).before 7 t d7) (left m c (t.val - 1) (Nat.lt_of_le_of_lt (Nat.sub_le _ _) t.isLt)).dq (left m c (t.val - 1) (Nat.lt_of_le_of_lt (Nat.sub_le _ _) t.isLt)).drow hc1 hc2 hc3 Set.univ rfl _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    isplitl [H11]; · iexists _; iexact H11
    isplitl [S0]; · iexact S0
    isplitl [S1]; · iexact S1
    isplitl [S2]; · iexact S2
    isplitl [S3]; · iexact S3
    iintro ⟨H0, H1, H2, H3, H4, H5, H6, H7, H8, H9, H10, H11, S0, S1, S2, S3⟩
    isplitl [S0 S1 S2 S3 Hg]
    · isplitl [S0 S1 S2 S3]
      · isplitl [S0]; · iexact S0
        isplitl [S1]; · iexact S1
        isplitl [S2]; · iexact S2
        iexact S3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists d7; iexact H7
    isplitl [H8]; · iexact H8
    isplitl [H9]; · iexact H9
    isplitl [H10]; · iexact H10
    iexact H11
  · have h0 : ¬t.val % 16 = 0 := fun e => hc1 ((first_iff _).mpr ((coord_mod t).trans e))
    rw [PhiS_pos m c _ _ (fun e => h0 (by rw [e]))]
    unfold atStart atEnd bodyAt0
    simp only [found_0, found_1, found_2, found_3, found_4, found_5, found_6, leaves_0, leaves_1, leaves_2, leaves_3, leaves_4, leaves_5, leaves_6, leaves_8, leaves_9, leaves_10, leaves_11]
    rw [leaves_7 m c t hc3]
    simp only [found_10 m c t h0]
    rw [show (dats m 0 c).owesAt () t.succ = (dats m 0 c).owesAt () t.castSucc from rfl]
    rw [show (dats m 0 c).Φ t.succ = PhiS m c (t.val + 1) t.isLt from rfl, PhiS_succ, left_next m c t h0]
    iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (body_C c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) ((dats m 0 c).before 7 t d7) (left m c (t.val - 1) (Nat.lt_of_le_of_lt (Nat.sub_le _ _) t.isLt)).dq (left m c (t.val - 1) (Nat.lt_of_le_of_lt (Nat.sub_le _ _) t.isLt)).drow hc1 hc2 hc3 Set.univ rfl _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    isplitl [H11]; · iexists _; iexact H11
    isplitl [S0]; · iexact S0
    isplitl [S1]; · iexact S1
    isplitl [S2]; · iexact S2
    isplitl [S3]; · iexact S3
    iintro ⟨H0, H1, H2, H3, H4, H5, H6, H7, H8, H9, H10, H11, S0, S1, S2, S3⟩
    isplitl [S0 S1 S2 S3 Hg]
    · isplitl [S0 S1 S2 S3]
      · isplitl [S0]; · iexact S0
        isplitl [S1]; · iexact S1
        isplitl [S2]; · iexact S2
        iexact S3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists d7; iexact H7
    isplitl [H8]; · iexact H8
    isplitl [H9]; · iexact H9
    isplitl [H10]; · iexact H10
    iexact H11
  · have h0 : ¬t.val % 16 = 0 := fun e => hc1 ((first_iff _).mpr ((coord_mod t).trans e))
    rw [PhiS_pos m c _ _ (fun e => h0 (by rw [e]))]
    unfold atStart atEnd bodyAt0
    simp only [found_0, found_1, found_2, found_3, found_4, found_5, found_6, leaves_0, leaves_1, leaves_2, leaves_3, leaves_4, leaves_5, leaves_6, leaves_8, leaves_9, leaves_10, leaves_11]
    rw [leaves_7_last m c t hc3]
    simp only [found_10 m c t h0]
    rw [show (dats m 0 c).owesAt () t.succ = (dats m 0 c).owesAt () t.castSucc from rfl]
    rw [show (dats m 0 c).Φ t.succ = PhiS m c (t.val + 1) t.isLt from rfl, PhiS_succ, left_next m c t h0]
    iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (body_D c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) ((dats m 0 c).before 7 t d7) (left m c (t.val - 1) (Nat.lt_of_le_of_lt (Nat.sub_le _ _) t.isLt)).dq (left m c (t.val - 1) (Nat.lt_of_le_of_lt (Nat.sub_le _ _) t.isLt)).drow hc1 hc2 hc3 Set.univ rfl _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    isplitl [H11]; · iexists _; iexact H11
    isplitl [S0]; · iexact S0
    isplitl [S1]; · iexact S1
    isplitl [S2]; · iexact S2
    isplitl [S3]; · iexact S3
    iintro ⟨H0, H1, H2, H3, H4, H5, H6, H7, H8, H9, H10, H11, S0, S1, S2, S3⟩
    isplitl [S0 S1 S2 S3 Hg]
    · isplitl [S0 S1 S2 S3]
      · isplitl [S0]; · iexact S0
        isplitl [S1]; · iexact S1
        isplitl [S2]; · iexact S2
        iexact S3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (point_run m c t) rfl .rfl fun _ => .rfl

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c :=
  PhiS_any m c cfg0.N (Nat.le_refl _)

-- the launch theorem's implicit arguments are found by unifying its conclusion with this one, which takes unfolding
-- plain definitions in the type of an unknown
set_option backward.isDefEq.respectTransparency.types false in
/-- The launch: the run ends, every array at what the points wrote back and every counter at zero. -/
theorem run_all : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

set_option maxHeartbeats 8000000 in
/-- The argument arrays end as they began, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).1 2).trans (((dats m 0 c).arrAt_in 2 rfl _).trans ((A_eq m c 2).trans (V_main_arg0 m c))),
      ((h.1 c).2 main_arg1 (Pipeline.mem_restRefs_of main_arg1 (by decide) (by decide))).trans (V_main_arg1 m c),
      ((h.1 c).1 4).trans (((dats m 0 c).arrAt_in 4 rfl _).trans ((A_eq m c 4).trans (V_main_arg2 m c)))⟩, h.2⟩) (run_all m ρ)

end Cert.KernelIdeal.Gen

end
-- ==== Proof.Model.lean ====
module

public import Idealize.ShloMosaic.PureOps.Ideal
public import Mathlib.Analysis.SpecialFunctions.Pow.Real

@[expose] public section

noncomputable section

/-! One head of the forgetting attention over the real numbers: the softmax of the scores and the gradients. -/

namespace Cert.Attn

open scoped BigOperators
open Idealize.ShloMosaic

/-- A head's queries, keys, values and cotangents, and its decay bias. -/
structure Head where
  q : ℕ → ℕ → ℝ
  k : ℕ → ℕ → ℝ
  v : ℕ → ℕ → ℝ
  o : ℕ → ℕ → ℝ
  f : ℕ → ℝ

namespace Head

/-- The scale of the scores. -/
def c : ℝ := (Real.sqrt 128)⁻¹

variable (H : Head)

/-- The score of query `r` and key `a`, without the query's own decay. -/
def score (r a : ℕ) : ℝ := (∑ d : Fin 128, H.q r d * H.k a d) * c - H.f a

/-- The sum of the exponentials over the keys up to the query. -/
def Z (r : ℕ) : ℝ := ∑ a : Fin 8192, if a.val ≤ r then Real.exp (H.score r a) else 0

/-- The softmax where it isn't masked. -/
def e (r a : ℕ) : ℝ := Real.exp (H.score r a) / H.Z r

/-- The softmax. -/
def p (r a : ℕ) : ℝ := if a ≤ r then H.e r a else 0

/-- The cotangent of the softmax. -/
def dp (r a : ℕ) : ℝ := ∑ d : Fin 128, H.v a d * H.o r d

def delta (r : ℕ) : ℝ := ∑ a : Fin 8192, H.p r a * H.dp r a

/-- The gradient of the scores. -/
def g (r a : ℕ) : ℝ := H.p r a * (H.dp r a - H.delta r)

/-- The gradients of a query's, a key's and a value's coordinate, and of the decay's two uses. -/
def gq (r d : ℕ) : ℝ := (∑ a : Fin 8192, H.g r a * H.k a d) * c
def gk (a d : ℕ) : ℝ := (∑ r : Fin 8192, H.g r a * H.q r d) * c
def gv (a d : ℕ) : ℝ := ∑ r : Fin 8192, H.p r a * H.o r d
def grow (r : ℕ) : ℝ := ∑ a : Fin 8192, H.g r a
def gcol (a : ℕ) : ℝ := ∑ r : Fin 8192, H.g r a

theorem Z_pos (r : ℕ) : 0 < H.Z r := by
  refine Finset.sum_pos' (fun a _ => ?_) ⟨0, Finset.mem_univ _, ?_⟩
  · split
    · exact (Real.exp_pos _).le
    · exact le_rfl
  · exact (Real.exp_pos _).trans_eq (if_pos (Nat.zero_le r)).symm

theorem p_masked {r a : ℕ} (h : r < a) : H.p r a = 0 := if_neg (Nat.not_le.mpr h)
theorem p_open {r a : ℕ} (h : a ≤ r) : H.p r a = H.e r a := if_pos h
theorem g_masked {r a : ℕ} (h : r < a) : H.g r a = 0 := by unfold g; rw [H.p_masked h, zero_mul]

/-- The softmax by powers of two. -/
theorem e_pow (r a : ℕ) :
    Real.rpow 2 ((∑ d : Fin 128, H.k a d * H.q r d) * (c * (Real.log 2)⁻¹) + -(Real.log 2)⁻¹ * H.f a - Real.log (H.Z r) * (Real.log 2)⁻¹)
      = H.e r a := by
  have h2 : Real.log 2 ≠ 0 := (Real.log_pos (by norm_num)).ne'
  have hs : (∑ d : Fin 128, H.k a d * H.q r d) = ∑ d : Fin 128, H.q r d * H.k a d := Finset.sum_congr rfl fun _ _ => mul_comm _ _
  rw [hs, Real.rpow_eq_pow, Real.rpow_def_of_pos (by norm_num)]
  rw [show Real.log 2 * ((∑ d : Fin 128, H.q r d * H.k a d) * (c * (Real.log 2)⁻¹) + -(Real.log 2)⁻¹ * H.f a - Real.log (H.Z r) * (Real.log 2)⁻¹)
      = H.score r a - Real.log (H.Z r) from by unfold score; field_simp; ring]
  rw [Real.exp_sub, Real.exp_log (H.Z_pos r)]; rfl

/-- A row's log-sum, from exponentials under any shift. -/
theorem log_shift (r : ℕ) (x : ℝ) :
    x + Real.log (∑ a : Fin 8192, if a.val ≤ r then Real.exp (H.score r a - x) else 0) = Real.log (H.Z r) := by
  have h : (∑ a : Fin 8192, if a.val ≤ r then Real.exp (H.score r a - x) else 0) = H.Z r * Real.exp (-x) := by
    unfold Z
    rw [Finset.sum_mul]
    refine Finset.sum_congr rfl fun a _ => ?_
    split
    · rw [sub_eq_add_neg, Real.exp_add]
    · rw [zero_mul]
  rw [h, Real.log_mul (H.Z_pos r).ne' (Real.exp_pos _).ne', Real.log_exp]; ring

/-- The softmax, from exponentials under any shift. -/
theorem p_shift (r a : ℕ) (x : ℝ) :
    (if a ≤ r then Real.exp (H.score r a - x) else 0) / (∑ a : Fin 8192, if a.val ≤ r then Real.exp (H.score r a - x) else 0) = H.p r a := by
  have h : (∑ a : Fin 8192, if a.val ≤ r then Real.exp (H.score r a - x) else 0) = H.Z r * Real.exp (-x) := by
    unfold Z
    rw [Finset.sum_mul]
    refine Finset.sum_congr rfl fun a _ => ?_
    split
    · rw [sub_eq_add_neg, Real.exp_add]
    · rw [zero_mul]
  have hx := (Real.exp_pos (-x)).ne'
  unfold p e
  rw [h]
  split
  · rw [sub_eq_add_neg, Real.exp_add]; exact mul_div_mul_right _ _ hx
  · exact zero_div _

/-- The rows' sums of the output times its cotangent. -/
theorem delta_eq (r : ℕ) :
    (∑ d : Fin 128, (∑ a : Fin 8192, H.v a d * H.p r a) * H.o r d) = H.delta r := by
  unfold delta dp
  simp only [Finset.sum_mul, Finset.mul_sum]
  rw [Finset.sum_comm]
  exact Finset.sum_congr rfl fun a _ => Finset.sum_congr rfl fun d _ => by ring

end Head

/-- A comparison of numbers as 32-bit words. -/
theorem sle_word {a r : ℕ} (ha : a < 8192) (hr : r < 8192) :
    IntOp.cmpi CmpIPredicate.sle (BitVec.ofNat 32 a) (BitVec.ofNat 32 r) = if a ≤ r then 1#1 else 0#1 := by
  have w : ∀ y : ℕ, y < 8192 → (BitVec.ofNat 32 y).toInt = (y : ℤ) := fun y hy => by
    have hm : (BitVec.ofNat 32 y).toNat = y := by rw [BitVec.toNat_ofNat]; exact Nat.mod_eq_of_lt (by omega)
    rw [BitVec.toInt_eq_toNat_of_lt (by rw [hm]; omega), hm]
  have e : (BitVec.ofNat 32 a).sle (BitVec.ofNat 32 r) = decide (a ≤ r) := by
    simp only [BitVec.sle, w a ha, w r hr, Nat.cast_le]
  simp only [IntOp.cmpi, e]
  by_cases h : a ≤ r <;> simp [h]

/-- A sum of real numbers is their sum as extended ones. -/
theorem coe_sum {ι : Type} (s : Finset ι) (f : ι → ℝ) : ((∑ i ∈ s, f i : ℝ) : EReal) = ∑ i ∈ s, (f i : EReal) := by
  classical
  induction s using Finset.induction_on with
  | empty => rfl
  | insert a s h ih => rw [Finset.sum_insert h, Finset.sum_insert h, EReal.coe_add, ih]

/-- The sum over a block of 512, as a sum over an interval. -/
theorem sum_block (f : ℕ → ℝ) (n : ℕ) : ∑ b : Fin 512, f (512 * n + b) = ∑ i ∈ Finset.Ico (512 * n) (512 * (n + 1)), f i := by
  rw [Finset.sum_Ico_eq_sum_range, show 512 * (n + 1) - 512 * n = 512 by omega, Finset.sum_range]

theorem sum_all (f : ℕ → ℝ) : ∑ b : Fin 8192, f b = ∑ i ∈ Finset.Ico 0 8192, f i := by
  rw [← Finset.range_eq_Ico, Finset.sum_range]

end Cert.Attn

end
-- ==== Proof.TileV.lean ====
module

public import proofs.«01_k».proof.Proof.StepI
public import proofs.«01_k».proof.Proof.Model
public import Idealize.ShloMosaic.Lib.Pointwise

@[expose] public section

set_option maxRecDepth 16384

noncomputable section

/-! What the payloads of one block of keys and one of queries are at the ideal values, entry by entry. -/

namespace Cert.KernelIdeal.Gen

open Idealize.ShloMosaic Idealize.ShloMosaic.TcCoe Idealize.ShloMosaic.Tactic
open Cert.Attn

/-- The vectors of block `j` of keys and block `n` of queries are those of the head. -/
structure Here (H : Head) (j n : ℕ) (a q d v : FVec Ideal S512x128 .bf16) (nf : FVec Ideal S1x512x128 .f32) (s t : FVec Ideal S1x1x1x512 .f32) : Prop where
  a : ∀ (b : Fin 512) (e : Fin 128), a (ix2 b e) = ((H.k (512 * j + b) e : ℝ) : EReal)
  q : ∀ (b : Fin 512) (e : Fin 128), q (ix2 b e) = ((H.q (512 * n + b) e : ℝ) : EReal)
  d : ∀ (b : Fin 512) (e : Fin 128), d (ix2 b e) = ((H.o (512 * n + b) e : ℝ) : EReal)
  v : ∀ (b : Fin 512) (e : Fin 128), v (ix2 b e) = ((H.v (512 * j + b) e : ℝ) : EReal)
  nf : ∀ (b : Fin 512) (e : Fin 128), nf (ix3 (0 : Fin 1) b e) = ((-(Real.log 2)⁻¹ * H.f (512 * j + b) : ℝ) : EReal)
  s : ∀ b : Fin 512, s (ix4 (0 : Fin 1) (0 : Fin 1) (0 : Fin 1) b) = ((Real.log (H.Z (512 * n + b)) * (Real.log 2)⁻¹ : ℝ) : EReal)
  t : ∀ b : Fin 512, t (ix4 (0 : Fin 1) (0 : Fin 1) (0 : Fin 1) b) = ((H.delta (512 * n + b) : ℝ) : EReal)

theorem scale_log2e_val : Named.named (F := Ideal) (φ := .f32) κ "scale_log2e" 0x3E0293EE#32 = (((Real.sqrt 128)⁻¹ * (Real.log 2)⁻¹ : ℝ) : EReal) :=
  IdealRules.named_const.ideal_named_scalar _ _ _ _ rfl

theorem scale_val : Named.named (F := Ideal) (φ := .f32) κ "scale" 0x3DB504F3#32 = (((Real.sqrt 128)⁻¹ : ℝ) : EReal) :=
  IdealRules.named_const.ideal_named_scalar _ _ _ _ rfl

variable {H : Head} {j n : ℕ} {a q d v : FVec Ideal S512x128 .bf16} {nf : FVec Ideal S1x512x128 .f32} {s t : FVec Ideal S1x1x1x512 .f32}

theorem exponent_val (h : Here H j n a q d v nf s t) (b l : Fin 512) (x : EReal) (hx : x = ((-(Real.log 2)⁻¹ * H.f (512 * j + b) : ℝ) : EReal)) :
    Idealize.ShloMosaic.Ideal.exp2 ((∑ x : Fin 128, a (ix2 b x) * q (ix2 l x)) * Named.named (F := Ideal) (φ := .f32) κ "scale_log2e" 0x3E0293EE#32 + x
      - s (ix4 (0 : Fin 1) (0 : Fin 1) (0 : Fin 1) l)) = ((H.e (512 * n + l) (512 * j + b) : ℝ) : EReal) := by
  rw [hx, scale_log2e_val, h.s]
  simp only [h.a, h.q, ← EReal.coe_mul]
  rw [← coe_sum, ← EReal.coe_mul, ← EReal.coe_add, ← EReal.coe_sub, Idealize.ShloMosaic.Ideal.exp2_coe]
  exact congrArg _ (H.e_pow _ _)

/-- The softmax without the mask. -/
theorem pay3_val (h : Here H j n a q d v nf s t) (b l : Fin 512) :
    k0_pay3 (F := Ideal) a q nf s (ix2 b l) = ((H.e (512 * n + l) (512 * j + b) : ℝ) : EReal) := by
  pointwise [k0_pay3]
  refine exponent_val h b l _ ?_
  split_ifs <;> exact h.nf _ _

/-- The softmax of the block on the diagonal. -/
theorem pay52_val (h : Here H j n a q d v nf s t) (hn : n = j) (b l : Fin 512) :
    k0_pay52 (F := Ideal) a q (k0_pay50 nf) (k0_pay51 s) (ix2 b l) = ((H.p (512 * n + l) (512 * j + b) : ℝ) : EReal) := by
  pointwise [k0_pay52, k0_pay50, k0_pay51]
  rw [sle_word (by omega) (by omega)]
  by_cases hbl : b.val ≤ l.val
  · rw [if_pos hbl]
    refine Eq.trans (b := _) ?_ ((exponent_val h b l _ (h.nf b ⟨l.val % 128, Nat.mod_lt _ (by decide)⟩)).trans (congrArg _ (H.p_open (by omega)).symm))
    refine (if_pos rfl).trans ?_
    refine congrArg (fun x : EReal => Idealize.ShloMosaic.Ideal.exp2 ((∑ x : Fin 128, a (ix2 b x) * q (ix2 l x)) * Named.named (F := Ideal) (φ := .f32) κ "scale_log2e" 0x3E0293EE#32 + x
      - s (ix4 (0 : Fin 1) (0 : Fin 1) (0 : Fin 1) l))) ?_
    rw [h.nf]
    split_ifs <;> exact h.nf _ _
  · rw [if_neg hbl, H.p_masked (by omega)]
    exact if_neg (by decide)

theorem dp_val (h : Here H j n a q d v nf s t) (b l : Fin 512) :
    ((∑ x : Fin 128, v (ix2 b x) * d (ix2 l x)) - t (ix4 (0 : Fin 1) (0 : Fin 1) (0 : Fin 1) l) : EReal)
      = ((H.dp (512 * n + l) (512 * j + b) - H.delta (512 * n + l) : ℝ) : EReal) := by
  rw [h.t]
  simp only [h.v, h.d, ← EReal.coe_mul]
  rw [← coe_sum, ← EReal.coe_sub]; rfl

theorem pay4_val (h : Here H j n a q d v nf s t) (hn : j < n) (b l : Fin 512) :
    k0_pay4 (F := Ideal) a q d v nf s t (ix2 b l) = ((H.g (512 * n + l) (512 * j + b) : ℝ) : EReal) := by
  pointwise [k0_pay4]
  rw [pay3_val h, dp_val h, ← EReal.coe_mul, ← H.p_open (by omega)]; rfl

theorem pay5_val (h : Here H j n a q d v nf s t) (hn : j < n) (b l : Fin 512) :
    k0_pay5 (F := Ideal) a q d v nf s t (ix2 b l) = ((H.g (512 * n + l) (512 * j + b) : ℝ) : EReal) :=
  pay4_val h hn b l

theorem pay53_val (h : Here H j n a q d v nf s t) (hn : n = j) (b l : Fin 512) :
    k0_pay53 (F := Ideal) a q d v (k0_pay50 nf) (k0_pay51 s) t (ix2 b l) = ((H.g (512 * n + l) (512 * j + b) : ℝ) : EReal) := by
  pointwise [k0_pay53]
  rw [pay52_val h hn, dp_val h, ← EReal.coe_mul]; rfl

theorem pay54_val (h : Here H j n a q d v nf s t) (hn : n = j) (b l : Fin 512) :
    k0_pay54 (F := Ideal) a q d v (k0_pay50 nf) (k0_pay51 s) t (ix2 b l) = ((H.g (512 * n + l) (512 * j + b) : ℝ) : EReal) :=
  pay53_val h hn b l

/-! The accumulators' additions: blocks off the diagonal, then the block on it. -/

variable (x : FVec Ideal S512x128 .f32) (gb : FVec Ideal S512x512 .bf16) (g : FVec Ideal S512x512 .f32) (b : Fin 512) (e : Fin 128)

theorem pay6_val (h : Here H j n a q d v nf s t) (hn : j < n) :
    k0_pay6 (F := Ideal) a q d nf s x (ix2 b e)
      = x (ix2 b e) + ((∑ l : Fin 512, H.p (512 * n + l) (512 * j + b) * H.o (512 * n + l) e : ℝ) : EReal) := by
  pointwise [k0_pay6]
  refine congrArg (x (ix2 b e) + ·) ?_
  rw [coe_sum]
  refine Finset.sum_congr rfl fun l _ => ?_
  rw [pay3_val h, h.d, ← EReal.coe_mul, ← H.p_open (by omega)]

theorem pay55_val (h : Here H j n a q d v nf s t) (hn : n = j) :
    k0_pay55 (F := Ideal) a q d (k0_pay50 nf) (k0_pay51 s) x (ix2 b e)
      = x (ix2 b e) + ((∑ l : Fin 512, H.p (512 * n + l) (512 * j + b) * H.o (512 * n + l) e : ℝ) : EReal) := by
  pointwise [k0_pay55]
  refine congrArg (x (ix2 b e) + ·) ?_
  rw [coe_sum]
  refine Finset.sum_congr rfl fun l _ => ?_
  rw [pay52_val h hn, h.d, ← EReal.coe_mul]

theorem pay8_val (h : Here H j n a q d v nf s t) (hg : ∀ b l : Fin 512, gb (ix2 b l) = ((H.g (512 * n + l) (512 * j + b) : ℝ) : EReal)) :
    k0_pay8 (F := Ideal) q gb x (ix2 b e)
      = x (ix2 b e) + ((∑ l : Fin 512, H.g (512 * n + l) (512 * j + b) * H.q (512 * n + l) e : ℝ) : EReal) := by
  pointwise [k0_pay8]
  refine congrArg (x (ix2 b e) + ·) ?_
  rw [coe_sum]
  refine Finset.sum_congr rfl fun l _ => ?_
  rw [hg, h.q, ← EReal.coe_mul]

theorem pay56_val (h : Here H j n a q d v nf s t) (hn : n = j) :
    k0_pay56 (F := Ideal) a q d v (k0_pay50 nf) (k0_pay51 s) t x (ix2 b e)
      = x (ix2 b e) + ((∑ l : Fin 512, H.g (512 * n + l) (512 * j + b) * H.q (512 * n + l) e : ℝ) : EReal) := by
  pointwise [k0_pay56]
  refine congrArg (x (ix2 b e) + ·) ?_
  rw [coe_sum]
  refine Finset.sum_congr rfl fun l _ => ?_
  rw [pay54_val h hn, h.q, ← EReal.coe_mul]

theorem pay9_val (h : Here H j n a q d v nf s t) (hg : ∀ b l : Fin 512, gb (ix2 b l) = ((H.g (512 * n + l) (512 * j + b) : ℝ) : EReal)) :
    k0_pay9 (F := Ideal) a gb x (ix2 b e)
      = x (ix2 b e) + ((∑ l : Fin 512, H.g (512 * n + b) (512 * j + l) * H.k (512 * j + l) e : ℝ) : EReal) := by
  pointwise [k0_pay9]
  refine congrArg (x (ix2 b e) + ·) ?_
  rw [coe_sum]
  refine Finset.sum_congr rfl fun l _ => ?_
  rw [hg, h.a, ← EReal.coe_mul]

theorem pay57_val (h : Here H j n a q d v nf s t) (hn : n = j) :
    k0_pay57 (F := Ideal) a q d v (k0_pay50 nf) (k0_pay51 s) t x (ix2 b e)
      = x (ix2 b e) + ((∑ l : Fin 512, H.g (512 * n + b) (512 * j + l) * H.k (512 * j + l) e : ℝ) : EReal) := by
  pointwise [k0_pay57]
  refine congrArg (x (ix2 b e) + ·) ?_
  rw [coe_sum]
  refine Finset.sum_congr rfl fun l _ => ?_
  rw [pay54_val h hn, h.a, ← EReal.coe_mul]

theorem pay10_val (y : FVec Ideal S1x1x1x512 .f32) (hg : ∀ b l : Fin 512, g (ix2 b l) = ((H.g (512 * n + l) (512 * j + b) : ℝ) : EReal)) :
    k0_pay10 (F := Ideal) g y (ix4 (0 : Fin 1) (0 : Fin 1) (0 : Fin 1) b)
      = y (ix4 (0 : Fin 1) (0 : Fin 1) (0 : Fin 1) b) + ((∑ l : Fin 512, H.g (512 * n + b) (512 * j + l) : ℝ) : EReal) := by
  pointwise [k0_pay10]
  refine congrArg (y (ix4 (0 : Fin 1) (0 : Fin 1) (0 : Fin 1) b) + ·) ?_
  rw [coe_sum]
  exact Finset.sum_congr rfl fun l _ => hg _ _

theorem pay59_val (y : FVec Ideal S1x1x1x512 .f32) (hg : ∀ b l : Fin 512, g (ix2 b l) = ((H.g (512 * n + l) (512 * j + b) : ℝ) : EReal)) :
    k0_pay59 (F := Ideal) g y (ix4 (0 : Fin 1) (0 : Fin 1) (0 : Fin 1) b)
      = y (ix4 (0 : Fin 1) (0 : Fin 1) (0 : Fin 1) b) + ((∑ l : Fin 512, H.g (512 * n + b) (512 * j + l) : ℝ) : EReal) := by
  pointwise [k0_pay59]
  refine congrArg (y (ix4 (0 : Fin 1) (0 : Fin 1) (0 : Fin 1) b) + ·) ?_
  rw [coe_sum]
  exact Finset.sum_congr rfl fun l _ => hg _ _

/-- Four rows of one lane. -/
def lane (H : Head) (n a : ℕ) (e : ℕ) : ℝ :=
  H.g (512 * n + e) a + H.g (512 * n + (128 + e)) a + H.g (512 * n + (256 + e)) a + H.g (512 * n + (384 + e)) a

theorem pay11_val (hg : ∀ b l : Fin 512, g (ix2 b l) = ((H.g (512 * n + l) (512 * j + b) : ℝ) : EReal)) :
    k0_pay11 (F := Ideal) g x (ix2 b e) = x (ix2 b e) + ((lane H n (512 * j + b) e : ℝ) : EReal) := by
  pointwise [k0_pay11]
  refine congrArg (x (ix2 b e) + ·) ?_
  simp only [hg]
  unfold lane
  rw [EReal.coe_add, EReal.coe_add, EReal.coe_add]

theorem pay60_val (hg : ∀ b l : Fin 512, g (ix2 b l) = ((H.g (512 * n + l) (512 * j + b) : ℝ) : EReal)) :
    k0_pay60 (F := Ideal) g x (ix2 b e) = x (ix2 b e) + ((lane H n (512 * j + b) e : ℝ) : EReal) := by
  pointwise [k0_pay60]
  refine congrArg (x (ix2 b e) + ·) ?_
  simp only [hg]
  unfold lane
  rw [EReal.coe_add, EReal.coe_add, EReal.coe_add]

/-! Blocks of the whole arrays. -/

theorem tile_val {φ : EltTy} (x : Vec Ideal S8192x128 φ) (n : Fin 16) (b : Fin 512) (e : Fin 128) :
    tile x n (ix2 b e) = x (ix2 (⟨512 * n.val + b.val, by omega⟩ : Fin 8192) e) := by
  refine congrArg x (funext fun a => Fin.ext ?_)
  fin_cases a
  · simp [Rect.unit, Rect.emb]
  · simp [Rect.unit, Rect.emb]

theorem row_val {φ : EltTy} (x : Vec Ideal S1x16x1x512 φ) (n : Fin 16) (b : Fin 512) :
    row x n (ix4 (0 : Fin 1) (0 : Fin 1) (0 : Fin 1) b) = x (ix4 (0 : Fin 1) n (0 : Fin 1) b) := by
  refine congrArg x (funext fun a => Fin.ext ?_)
  fin_cases a <;> simp [Rect.unit, Rect.emb]

theorem putTile_val (x : Vec Ideal S8192x128 .f32) (n : Fin 16) (w : Vec Ideal S512x128 .f32) (r : Fin 8192) (e : Fin 128) :
    putTile x n w (ix2 r e) = if h : 512 * n.val ≤ r.val ∧ r.val < 512 * n.val + 512 then w (ix2 (⟨r.val - 512 * n.val, by omega⟩ : Fin 512) e) else x (ix2 r e) := by
  unfold putTile VecWindow.put
  by_cases h : 512 * n.val ≤ r.val ∧ r.val < 512 * n.val + 512
  · rw [dif_pos h, dif_pos (by intro a; fin_cases a; exacts [h, ⟨Nat.zero_le _, by simp⟩])]
    refine congrArg w (funext fun a => Fin.ext ?_)
    fin_cases a <;> simp [Rect.unitLocal]
  · rw [dif_neg h, dif_neg (fun hh => h (hh 0))]

theorem putRow_val (x : Vec Ideal S1x16x1x512 .f32) (n : Fin 16) (w : Vec Ideal S1x1x1x512 .f32) (m : Fin 16) (b : Fin 512) :
    putRow x n w (ix4 (0 : Fin 1) m (0 : Fin 1) b) = if m = n then w (ix4 (0 : Fin 1) (0 : Fin 1) (0 : Fin 1) b) else x (ix4 (0 : Fin 1) m (0 : Fin 1) b) := by
  unfold putRow VecWindow.put
  by_cases h : m = n
  · subst h
    rw [if_pos rfl, dif_pos (by intro a; fin_cases a <;> simp)]
    refine congrArg w (funext fun a => Fin.ext ?_)
    fin_cases a <;> simp [Rect.unitLocal]
  · rw [if_neg h, dif_neg (fun hh => h (Fin.ext (by
      have h1 := (hh 1).1; have h2 := (hh 1).2
      change n.val ≤ m.val at h1
      change m.val < n.val + 1 at h2
      omega)))]

end Cert.KernelIdeal.Gen

end
-- ==== Proof.StateV.lean ====
module

public import proofs.«01_k».proof.Proof.TileV

@[expose] public section

set_option maxRecDepth 16384

noncomputable section

/-! What the accumulators hold at the ideal values after some blocks of keys and, of the block under way, some blocks of queries. -/

namespace Cert.KernelIdeal.Gen

open Idealize.ShloMosaic Idealize.ShloMosaic.TcCoe Idealize.ShloMosaic.Tactic
open Cert.Attn Finset

/-- A point's input is the head's, with block `j` of its keys and values. -/
structure Reads (H : Head) (j : ℕ) (I : In Ideal) : Prop where
  q : ∀ (r : Fin 8192) (e : Fin 128), I.q (ix2 r e) = ((H.q r e : ℝ) : EReal)
  k : ∀ (b : Fin 512) (e : Fin 128), I.k (ix2 b e) = ((H.k (512 * j + b) e : ℝ) : EReal)
  v : ∀ (b : Fin 512) (e : Fin 128), I.v (ix2 b e) = ((H.v (512 * j + b) e : ℝ) : EReal)
  nf : ∀ (b : Fin 512) (e : Fin 128), I.nf (ix3 (0 : Fin 1) b e) = ((-(Real.log 2)⁻¹ * H.f (512 * j + b) : ℝ) : EReal)
  dO : ∀ (r : Fin 8192) (e : Fin 128), I.dO (ix2 r e) = ((H.o r e : ℝ) : EReal)
  lse : ∀ (n : Fin 16) (b : Fin 512), I.lse (ix4 (0 : Fin 1) n (0 : Fin 1) b) = ((Real.log (H.Z (512 * n + b)) * (Real.log 2)⁻¹ : ℝ) : EReal)
  dl : ∀ (n : Fin 16) (b : Fin 512), I.dl (ix4 (0 : Fin 1) n (0 : Fin 1) b) = ((H.delta (512 * n + b) : ℝ) : EReal)

theorem Reads.here {H : Head} {j : ℕ} {I : In Ideal} (h : Reads H j I) (n : Fin 16) :
    Here H j n I.k (tile I.q n) (tile I.dO n) I.v I.nf (row I.lse n) (row I.dl n) where
  a := h.k
  q b e := (tile_val I.q n b e).trans (h.q _ e)
  d b e := (tile_val I.dO n b e).trans (h.dO _ e)
  v := h.v
  nf := h.nf
  s b := (row_val I.lse n b).trans (h.lse n b)
  t b := (row_val I.dl n b).trans (h.dl n b)

/-- The gradients of the queries and the sums over the keys, up to key `A r` of each row. -/
def Upto (H : Head) (A : ℕ → ℕ) (dq : Vec Ideal S8192x128 .f32) (drow : Vec Ideal S1x16x1x512 .f32) : Prop :=
  (∀ (r : Fin 8192) (e : Fin 128), dq (ix2 r e) = ((∑ a ∈ Ico 0 (A r), H.g r a * H.k a e : ℝ) : EReal)) ∧
  ∀ (n : Fin 16) (b : Fin 512), drow (ix4 (0 : Fin 1) n (0 : Fin 1) b) = ((∑ a ∈ Ico 0 (A (512 * n + b)), H.g (512 * n + b) a : ℝ) : EReal)

/-- The keys a row has met when block `j` is under way and `N` blocks of queries are done. -/
def met (j N r : ℕ) : ℕ := if r < 512 * N then 512 * (j + 1) else 512 * j

/-- The accumulators when block `j` of keys is under way and `N` blocks of queries are done. -/
structure Inv (H : Head) (j N : ℕ) (s : St Ideal) : Prop where
  upto : Upto H (met j N) s.dq s.drow
  dk : ∀ (b : Fin 512) (e : Fin 128), s.dk (ix2 b e) = ((∑ r ∈ Ico 0 (512 * N), H.g r (512 * j + b) * H.q r e : ℝ) : EReal)
  dv : ∀ (b : Fin 512) (e : Fin 128), s.dv (ix2 b e) = ((∑ r ∈ Ico 0 (512 * N), H.p r (512 * j + b) * H.o r e : ℝ) : EReal)
  dnf : ∀ (b : Fin 512) (e : Fin 128), s.dnf (ix2 b e) = ((∑ n ∈ Ico 0 N, lane H n (512 * j + b) e : ℝ) : EReal)

theorem add_real {y z : EReal} {w x : ℝ} (h : y = z + (w : EReal)) (hz : z = (x : EReal)) : y = ((x + w : ℝ) : EReal) := by
  rw [h, hz, EReal.coe_add]

theorem sum_next (f : ℕ → ℝ) (n : ℕ) : (∑ i ∈ Ico 0 (512 * n), f i) + ∑ b : Fin 512, f (512 * n + b) = ∑ i ∈ Ico 0 (512 * (n + 1)), f i := by
  rw [sum_block]; exact sum_Ico_consecutive f (Nat.zero_le _) (by omega)

/-- One block of queries more. -/
theorem Inv.step {H : Head} {j : ℕ} {n : Fin 16} {s s' : St Ideal} (h : Inv H j n s) (wq : Vec Ideal S512x128 .f32) (wr : Vec Ideal S1x1x1x512 .f32)
    (eq : s'.dq = putTile s.dq n wq) (er : s'.drow = putRow s.drow n wr)
    (hq : ∀ (b : Fin 512) (e : Fin 128) (x : ℝ), tile s.dq n (ix2 b e) = (x : EReal) →
      wq (ix2 b e) = ((x + ∑ l : Fin 512, H.g (512 * n + b) (512 * j + l) * H.k (512 * j + l) e : ℝ) : EReal))
    (hr : ∀ (b : Fin 512) (x : ℝ), row s.drow n (ix4 (0 : Fin 1) (0 : Fin 1) (0 : Fin 1) b) = (x : EReal) →
      wr (ix4 (0 : Fin 1) (0 : Fin 1) (0 : Fin 1) b) = ((x + ∑ l : Fin 512, H.g (512 * n + b) (512 * j + l) : ℝ) : EReal))
    (hk : ∀ (b : Fin 512) (e : Fin 128) (x : ℝ), s.dk (ix2 b e) = (x : EReal) →
      s'.dk (ix2 b e) = ((x + ∑ l : Fin 512, H.g (512 * n + l) (512 * j + b) * H.q (512 * n + l) e : ℝ) : EReal))
    (hv : ∀ (b : Fin 512) (e : Fin 128) (x : ℝ), s.dv (ix2 b e) = (x : EReal) →
      s'.dv (ix2 b e) = ((x + ∑ l : Fin 512, H.p (512 * n + l) (512 * j + b) * H.o (512 * n + l) e : ℝ) : EReal))
    (hf : ∀ (b : Fin 512) (e : Fin 128) (x : ℝ), s.dnf (ix2 b e) = (x : EReal) →
      s'.dnf (ix2 b e) = ((x + lane H n (512 * j + b) e : ℝ) : EReal)) :
    Inv H j (n.val + 1) s' where
  upto := by
    constructor
    · intro r e
      rw [eq, putTile_val]
      by_cases hc : 512 * n.val ≤ r.val ∧ r.val < 512 * n.val + 512
      · rw [dif_pos hc]
        have hr' : 512 * n.val + (r.val - 512 * n.val) = r.val := by omega
        have h1 := hq ⟨r.val - 512 * n.val, by omega⟩ e _ ((tile_val _ _ _ _).trans (h.upto.1 ⟨512 * n.val + (r.val - 512 * n.val), by omega⟩ e))
        rw [h1]
        simp only [hr']
        refine congrArg _ ?_
        rw [show met j n.val r.val = 512 * j from if_neg (by omega), show met j (n.val + 1) r.val = 512 * (j + 1) from if_pos (by omega)]
        exact sum_next (fun a => H.g r a * H.k a e) j
      · rw [dif_neg hc, h.upto.1]
        rw [show met j n.val r.val = met j (n.val + 1) r.val by unfold met; congr 1; apply propext; omega]
    · intro m b
      rw [er, putRow_val]
      by_cases hc : m = n
      · rw [if_pos hc]
        subst hc
        have h1 := hr b _ ((row_val _ _ _).trans (h.upto.2 m b))
        rw [h1]
        refine congrArg _ ?_
        rw [show met j m.val (512 * m.val + b.val) = 512 * j from if_neg (by omega), show met j (m.val + 1) (512 * m.val + b.val) = 512 * (j + 1) from if_pos (by omega)]
        exact sum_next (fun a => H.g (512 * m + b) a) j
      · have hc' : m.val ≠ n.val := fun h => hc (Fin.ext h)
        rw [if_neg hc, h.upto.2]
        rw [show met j n.val (512 * m.val + b.val) = met j (n.val + 1) (512 * m.val + b.val) by unfold met; congr 1; apply propext; omega]
  dk b e := (hk b e _ (h.dk b e)).trans (congrArg _ (sum_next (fun r => H.g r (512 * j + b) * H.q r e) n))
  dv b e := (hv b e _ (h.dv b e)).trans (congrArg _ (sum_next (fun r => H.p r (512 * j + b) * H.o r e) n))
  dnf b e := (hf b e _ (h.dnf b e)).trans (congrArg _ (sum_Ico_succ_top (Nat.zero_le _) (fun n => lane H n (512 * j + b) e)).symm)

theorem Inv.block {H : Head} {j : ℕ} {I : In Ideal} (hI : Reads H j I) {n : Fin 16} (hn : j < n.val) {s : St Ideal} (h : Inv H j n s) :
    Inv H j (n.val + 1) (block I n s) :=
  h.step _ _ rfl rfl
    (fun b e x hx => add_real (pay9_val (tile s.dq n) (dsb I n) b e (hI.here n) (fun b l => pay5_val (hI.here n) hn b l)) hx)
    (fun b x hx => add_real (pay10_val (ds I n) b (row s.drow n) (fun b l => pay4_val (hI.here n) hn b l)) hx)
    (fun b e x hx => add_real (pay8_val s.dk (dsb I n) b e (hI.here n) (fun b l => pay5_val (hI.here n) hn b l)) hx)
    (fun b e x hx => add_real (pay6_val s.dv b e (hI.here n) hn) hx)
    (fun b e x hx => add_real (pay11_val s.dnf (ds I n) b e (fun b l => pay4_val (hI.here n) hn b l)) hx)

theorem Inv.diag {H : Head} {j : Fin 16} {I : In Ideal} (hI : Reads H j I) {s : St Ideal} (h : Inv H j j s) :
    Inv H j (j.val + 1) (diag I j s) :=
  h.step _ _ rfl rfl
    (fun b e x hx => add_real (pay57_val (tile s.dq j) b e (hI.here j) rfl) hx)
    (fun b x hx => add_real (pay59_val (dsd I j) b (row s.drow j) (fun b l => pay53_val (hI.here j) rfl b l)) hx)
    (fun b e x hx => add_real (pay56_val s.dk b e (hI.here j) rfl) hx)
    (fun b e x hx => add_real (pay55_val s.dv b e (hI.here j) rfl) hx)
    (fun b e x hx => add_real (pay60_val s.dnf (dsd I j) b e (fun b l => pay53_val (hI.here j) rfl b l)) hx)

theorem Inv.after {H : Head} {j : ℕ} {I : In Ideal} (hI : Reads H j I) {s : St Ideal} (h : Inv H j (j + 1) s) :
    ∀ n, j + 1 + n ≤ 16 → Inv H j (j + 1 + n) (after I j s n)
  | 0, _ => h
  | n + 1, hn => by
    have h1 := Inv.after hI h n (by omega)
    have hb := blk_val (j + 1 + n) (by omega)
    have h2 := Inv.block hI (n := blk (j + 1 + n)) (by omega) (s := Gen.after I j s n) (by rw [hb]; exact h1)
    rw [hb] at h2
    exact h2

/-- The cleared accumulators, the rows before the block having no part in its keys. -/
theorem Inv.cleared {H : Head} (j : Fin 16) {dq : Vec Ideal S8192x128 .f32} {drow : Vec Ideal S1x16x1x512 .f32}
    (h : Upto H (fun _ => 512 * j.val) dq drow) : Inv H j j (cleared dq drow) where
  upto := by
    have hz : ∀ (r : ℕ) (f : ℕ → ℝ), ∑ a ∈ Ico 0 (512 * j.val), H.g r a * f a = ∑ a ∈ Ico 0 (met j j r), H.g r a * f a := by
      intro r f
      unfold met
      split
      case isTrue hr =>
        rw [← sum_Ico_consecutive (fun a => H.g r a * f a) (Nat.zero_le (512 * j.val)) (show 512 * j.val ≤ 512 * (j.val + 1) by omega)]
        rw [sum_eq_zero (s := Ico (512 * j.val) (512 * (j.val + 1))) (fun a ha => by rw [H.g_masked (by have := mem_Ico.1 ha; omega), zero_mul]), add_zero]
      case isFalse hr => rfl
    constructor
    · intro r e
      exact (h.1 r e).trans (congrArg _ (hz r (fun a => H.k a e)))
    · intro n b
      refine (h.2 n b).trans (congrArg _ ?_)
      have := hz (512 * n.val + b.val) (fun _ => 1)
      simpa only [mul_one] using this
  dk b e := by
    rw [sum_eq_zero fun r hr => by rw [H.g_masked (by have := mem_Ico.1 hr; omega), zero_mul]]
    exact Idealize.ShloMosaic.Ideal.ofBits_zero_f32
  dv b e := by
    rw [sum_eq_zero fun r hr => by rw [H.p_masked (by have := mem_Ico.1 hr; omega), zero_mul]]
    exact Idealize.ShloMosaic.Ideal.ofBits_zero_f32
  dnf b e := by
    rw [sum_eq_zero fun n hn => by
      have := mem_Ico.1 hn
      unfold lane
      rw [H.g_masked (by omega), H.g_masked (by omega), H.g_masked (by omega), H.g_masked (by omega)]; simp]
    exact Idealize.ShloMosaic.Ideal.ofBits_zero_f32

theorem Inv.point {H : Head} (j : Fin 16) {I : In Ideal} (hI : Reads H j I) {dq : Vec Ideal S8192x128 .f32} {drow : Vec Ideal S1x16x1x512 .f32}
    (h : Upto H (fun _ => 512 * j.val) dq drow) : Inv H j 16 (point I j dq drow) := by
  have h1 := Inv.after hI (Inv.diag hI (Inv.cleared j h)) (15 - j.val) (by omega)
  rwa [show j.val + 1 + (15 - j.val) = 16 by omega] at h1

theorem Inv.next {H : Head} {j : ℕ} {s : St Ideal} (h : Inv H j 16 s) : Upto H (fun _ => 512 * (j + 1)) s.dq s.drow := by
  constructor
  · intro r e
    rw [h.upto.1 r e, show met j 16 r.val = 512 * (j + 1) from if_pos (by omega)]
  · intro n b
    rw [h.upto.2 n b, show met j 16 (512 * n.val + b.val) = 512 * (j + 1) from if_pos (by omega)]

theorem upto_zero (H : Head) : Upto H (fun _ => 512 * 0) (k0_pay45 (F := Ideal)) (k0_pay46 (F := Ideal)) :=
  ⟨fun _ _ => Idealize.ShloMosaic.Ideal.ofBits_zero_f32, fun _ _ => Idealize.ShloMosaic.Ideal.ofBits_zero_f32⟩

/-! What a point writes out. -/

section
variable {H : Head} {j : ℕ} {s : St Ideal} (h : Inv H j 16 s)
include h

theorem Inv.out8 (b : Fin 512) (e : Fin 128) : k0_pay67 (F := Ideal) s.dk (ix2 b e) = ((H.gk (512 * j + b) e : ℝ) : EReal) := by
  have h1 : k0_pay67 (F := Ideal) s.dk (ix2 b e) = (show EReal from s.dk (ix2 b e)) * Named.named (F := Ideal) (φ := .f32) κ "scale" 0x3DB504F3#32 := by
    pointwise [k0_pay67]
  rw [h1, h.dk, scale_val, ← EReal.coe_mul]
  exact congrArg _ (congrArg (· * (Real.sqrt 128)⁻¹) (sum_all (fun r => H.g r (512 * j + b) * H.q r e)).symm)

theorem Inv.out9 (b : Fin 512) (e : Fin 128) : k0_pay68 (F := Ideal) s.dv (ix2 b e) = ((H.gv (512 * j + b) e : ℝ) : EReal) :=
  (h.dv b e).trans (congrArg _ (sum_all (fun r => H.p r (512 * j + b) * H.o r e)).symm)

theorem Inv.out11 (b : Fin 512) : k0_pay1 (F := Ideal) s.dnf (ix3 (0 : Fin 1) b (0 : Fin 1)) = ((H.gcol (512 * j + b) : ℝ) : EReal) := by
  have h1 : k0_pay1 (F := Ideal) s.dnf (ix3 (0 : Fin 1) b (0 : Fin 1)) = ∑ e : Fin 128, (show EReal from s.dnf (ix2 b e)) := by
    pointwise [k0_pay1]
  rw [h1]
  simp only [h.dnf]
  refine (coe_sum _ _).symm.trans (congrArg _ ?_)
  rw [sum_comm]
  have hl : ∀ n, ∑ e : Fin 128, lane H n (512 * j + b) e = ∑ l : Fin 512, H.g (512 * n + l) (512 * j + b) := by
    intro n
    rw [Idealize.ShloMosaic.Fin.sum_univ_tiles 4 128 rfl, Fin.sum_univ_four]
    unfold lane
    rw [sum_add_distrib, sum_add_distrib, sum_add_distrib]
    simp only [Fin.val_zero, Fin.val_one, Fin.val_two, zero_mul, zero_add, one_mul, show ((3 : Fin 4) : ℕ) = 3 from rfl, Nat.reduceMul]
  simp only [hl]
  refine Eq.trans ?_ (sum_all (fun r => H.g r (512 * j + b))).symm
  rw [← Finset.range_eq_Ico, ← Finset.range_eq_Ico]
  have : ∀ N, ∑ n ∈ range N, ∑ l : Fin 512, H.g (512 * n + l) (512 * j + b) = ∑ r ∈ range (512 * N), H.g r (512 * j + b) := by
    intro N
    induction N with
    | zero => simp
    | succ N ih =>
      rw [sum_range_succ, ih]
      have := sum_next (fun r => H.g r (512 * j + b)) N
      simpa only [Finset.range_eq_Ico] using this
  exact this 16

end

theorem Inv.out7 {H : Head} {s : St Ideal} (h : Inv H 15 16 s) (r : Fin 8192) (e : Fin 128) :
    k0_pay2 (F := Ideal) s.dq (ix2 r e) = ((H.gq r e : ℝ) : EReal) := by
  have h1 : k0_pay2 (F := Ideal) s.dq (ix2 r e) = (show EReal from s.dq (ix2 r e)) * Named.named (F := Ideal) (φ := .f32) κ "scale" 0x3DB504F3#32 := by
    pointwise [k0_pay2]
  rw [h1, h.next.1, scale_val, ← EReal.coe_mul]
  exact congrArg _ (congrArg (· * (Real.sqrt 128)⁻¹) (sum_all (fun a => H.g r a * H.k a e)).symm)

theorem Inv.out10 {H : Head} {s : St Ideal} (h : Inv H 15 16 s) (n : Fin 16) (b : Fin 512) :
    s.drow (ix4 (0 : Fin 1) n (0 : Fin 1) b) = ((H.grow (512 * n + b) : ℝ) : EReal) :=
  (h.next.2 n b).trans (congrArg _ (sum_all (fun a => H.g (512 * n + b) a)).symm)

end Cert.KernelIdeal.Gen

end
-- ==== Proof.Heads.lean ====
module

public import proofs.«01_k».proof.Proof.Model
public import Idealize.ShloMosaic.Lib.Pointwise
public import Idealize.ShloMosaic.Lib.IdealHost
public import Idealize.ShloMosaic.Lib.ReduceAll

@[expose] public section

noncomputable section

/-! The heads of the argument arrays, and the operations the programs share at real numbers. -/

namespace Cert.Attn

open Idealize.ShloMosaic
open scoped BigOperators

/-- An entry of an array as a real number. -/
def at2 {n m : ℕ} (x : (⟨2, ![n, m]⟩ : Shape).Idx → EReal) (r c : ℕ) : ℝ :=
  if h : r < n ∧ c < m then (x (ix2 ⟨r, h.1⟩ ⟨c, h.2⟩)).toReal else 0

/-- Every entry is a real number. -/
def Real2 {n m : ℕ} (x : (⟨2, ![n, m]⟩ : Shape).Idx → EReal) : Prop :=
  ∀ (r : Fin n) (c : Fin m), x (ix2 r c) = ((at2 x r c : ℝ) : EReal)

theorem real2 {n m : ℕ} {x : (⟨2, ![n, m]⟩ : Shape).Idx → EReal} (h : ∀ i, x i ≠ ⊤ ∧ x i ≠ ⊥) : Real2 x := by
  intro r c
  unfold at2
  rw [dif_pos ⟨r.isLt, c.isLt⟩]
  exact (EReal.coe_toReal (h _).1 (h _).2).symm

theorem Real2.read {n m : ℕ} {x : (⟨2, ![n, m]⟩ : Shape).Idx → EReal} (hx : Real2 x) (r : Fin n) (c : Fin m) (r' c' : ℕ)
    (hr : r.val = r') (hc : c.val = c') : x (ix2 r c) = ((at2 x r' c' : ℝ) : EReal) := by
  subst hr hc; exact hx r c

/-- Head `h` of the queries, keys and values, the decay bias and the cotangents. -/
def headOf (X : (⟨2, ![8192, 3072]⟩ : Shape).Idx → EReal) (f : (⟨2, ![8192, 8]⟩ : Shape).Idx → EReal)
    (d : (⟨2, ![8192, 1024]⟩ : Shape).Idx → EReal) (h : ℕ) : Head where
  q r e := at2 X r (128 * h + e)
  k r e := at2 X r (1024 + (128 * h + e))
  v r e := at2 X r (2048 + (128 * h + e))
  o r e := at2 d r (128 * h + e)
  f a := at2 f a h

theorem top_word : Idealize.ShloMosaic.Ideal.ofBits .f32 0x7F800000#32 = ⊤ := by simp [Idealize.ShloMosaic.Ideal.ofBits, Idealize.ShloMosaic.Ideal.ieee]
theorem bot_word : Idealize.ShloMosaic.Ideal.ofBits .f32 0xFF800000#32 = ⊥ := by simp [Idealize.ShloMosaic.Ideal.ofBits, Idealize.ShloMosaic.Ideal.ieee]
theorem dim_word : Idealize.ShloMosaic.Ideal.ofBits .f32 0x43000000#32 = ((128 : ℝ) : EReal) := by
  simp [Idealize.ShloMosaic.Ideal.ofBits, Idealize.ShloMosaic.Ideal.ieee, -EReal.coe_mul]; norm_num
theorem two_word : Idealize.ShloMosaic.Ideal.ofBits .f32 0x40000000#32 = ((2 : ℝ) : EReal) := by
  simp [Idealize.ShloMosaic.Ideal.ofBits, Idealize.ShloMosaic.Ideal.ieee, -EReal.coe_mul]; norm_num

theorem div_real (x y : ℝ) (h : y ≠ 0) : Idealize.ShloMosaic.Ideal.div (x : EReal) (y : EReal) = ((x / y : ℝ) : EReal) := by
  rw [Idealize.ShloMosaic.Ideal.div_coe h, ← EReal.coe_mul]; congr 1; ring

theorem scale_real : Idealize.ShloMosaic.Ideal.div 1 (Idealize.ShloMosaic.Ideal.sqrt (Idealize.ShloMosaic.Ideal.ofBits .f32 0x43000000#32)) = ((Head.c : ℝ) : EReal) := by
  rw [dim_word, Idealize.ShloMosaic.Ideal.sqrt_coe, if_neg (by norm_num), Idealize.ShloMosaic.Ideal.div_coe (by positivity), one_mul, one_div]; rfl

theorem log2e_real : Idealize.ShloMosaic.Ideal.div 1 (Idealize.ShloMosaic.Ideal.log (Idealize.ShloMosaic.Ideal.ofBits .f32 0x40000000#32)) = (((Real.log 2)⁻¹ : ℝ) : EReal) := by
  rw [two_word, Idealize.ShloMosaic.Ideal.log_coe, if_neg (by norm_num), Idealize.ShloMosaic.Ideal.div_coe (Real.log_pos (by norm_num)).ne', one_mul, one_div]

/-- A masked array of real numbers whose first entry isn't masked has a real maximum. -/
theorem top_real (g : Fin 8192 → ℝ) (r : ℕ) (init : EReal) (hi : init = ⊥) :
    ∃ x : ℝ, (Finset.univ.fold max init fun a : Fin 8192 => if a.val ≤ r then (g a : EReal) else ⊥) = (x : EReal) := by
  subst hi
  have h0 : ((g 0 : ℝ) : EReal) ≤ Finset.univ.fold max ⊥ fun a : Fin 8192 => if a.val ≤ r then (g a : EReal) else ⊥ :=
    Finset.le_fold_max _ |>.2 (.inr ⟨0, Finset.mem_univ _, le_of_eq (if_pos (Nat.zero_le r)).symm⟩)
  have h1 : (Finset.univ.fold max ⊥ fun a : Fin 8192 => if a.val ≤ r then (g a : EReal) else ⊥) < ⊤ :=
    Finset.fold_max_lt _ |>.2 ⟨bot_lt_top, fun a _ => by split <;> [exact EReal.coe_lt_top _; exact bot_lt_top]⟩
  exact ⟨_, (EReal.coe_toReal h1.ne ((EReal.bot_lt_coe _).trans_le h0).ne').symm⟩

/-- The exponentials of the scores under a shift. -/
theorem exp_masked (y x : ℝ) (p : Prop) [Decidable p] :
    Idealize.ShloMosaic.Ideal.exp ((if p then (y : EReal) else ⊥) - (x : EReal)) = ((if p then Real.exp (y - x) else 0 : ℝ) : EReal) := by
  split
  · rw [← EReal.coe_sub, Idealize.ShloMosaic.Ideal.exp_coe]
  · rw [EReal.bot_sub]; rfl

theorem if_real (p : Prop) [Decidable p] (x y : ℝ) : (if p then (x : EReal) else (y : EReal)) = ((if p then x else y : ℝ) : EReal) := by
  split <;> rfl

end Cert.Attn

end
-- ==== Proof.HostV.lean ====
module

public import proofs.«01_k».proof.Proof.Gen.KernelIdeal.Frame
public import proofs.«01_k».proof.Proof.Heads
public import Idealize.ShloMosaic.Lib.StableHlo.Run

@[expose] public section

set_option maxRecDepth 16384

noncomputable section

/-! What the host code before the call computes, at real arguments. -/

namespace Cert.KernelIdeal.Gen

open Idealize.ShloMosaic Idealize.ShloMosaic.TcCoe Idealize.ShloMosaic.Tactic Idealize.ShloMosaic.StableHlo
open Cert.Attn

variable (X : FVec Ideal S8192x3072 .bf16) (f : FVec Ideal S8192x8 .f32) (d : FVec Ideal S8192x1024 .bf16)

def hq : FVec Ideal S8192x8x128 .f32 :=
  shapeCast S8192x8x128 (extractStridedSlice S8192x1024 ![0, 0] (extf .f32 X bitsLt_bf16_f32) slices_S8192x3072_S8192x1024_0_0) shapeCasts_S8192x1024_S8192x8x128
def hk : FVec Ideal S8192x8x128 .f32 :=
  shapeCast S8192x8x128 (extractStridedSlice S8192x1024 ![0, 1024] (extf .f32 X bitsLt_bf16_f32) slices_S8192x3072_S8192x1024_0_1024) shapeCasts_S8192x1024_S8192x8x128
def hv : FVec Ideal S8192x8x128 .f32 :=
  shapeCast S8192x8x128 (extractStridedSlice S8192x1024 ![0, 2048] (extf .f32 X bitsLt_bf16_f32) slices_S8192x3072_S8192x1024_0_2048) shapeCasts_S8192x1024_S8192x8x128

/-- The masked scores. -/
def hScore : FVec Ideal S8x8192x8192 .f32 :=
  select
    (broadcastInDim S8x8192x8192 ![1, 2] bcast_S8192x8192_S8x8192x8192_1_2
      (cmpi .sle
        (broadcastInDim S8192x8192 ![0, 1] bcast_S1x8192_S8192x8192_0_1 (broadcastInDim S1x8192 ![1] bcast_S8192_S1x8192_1 (iotaInDim S8192 32 0)))
        (broadcastInDim S8192x8192 ![0, 1] bcast_S8192x1_S8192x8192_0_1 (broadcastInDim S8192x1 ![0] bcast_S8192_S8192x1_0 (iotaInDim S8192 32 0)))))
    (subf
      (mulf (Host.dotGeneral dot_S8192x8x128_S8192x8x128_S8x8192x8192_2_2_0_0_1_1 none (hq X) (hk X))
        (broadcastInDim S8x8192x8192 ![] bcast_S_S8x8192x8192 (Host.divf (constant S_ .f32 0x3F800000#32) (Host.sqrt (constant S_ .f32 0x43000000#32)))))
      (broadcastInDim S8x8192x8192 ![0, 1, 2] bcast_S8x1x8192_S8x8192x8192_0_1_2
        (broadcastInDim S8x1x8192 ![0, 2] bcast_S8x8192_S8x1x8192_0_2 (transpose S8x8192 [1, 0] f transposes_S8192x8_S8x8192_1_0))))
    (broadcastInDim S8x8192x8192 ![] bcast_S_S8x8192x8192 (id (constant S_ .f32 0xFF800000#32)))

/-- Each row's largest score. -/
def hTop : FVec Ideal S8x8192 .f32 :=
  Host.reduce FloatOps.maximumf (hScore X f) (constant S_ .f32 0xFF800000#32) reducesTo_S8x8192x8192_S8x8192_d2 h_S_

/-- The exponentials under a shift of each row. -/
def hExp (t : FVec Ideal S8x8192 .f32) : FVec Ideal S8x8192x8192 .f32 :=
  Host.exp (subf (hScore X f) (broadcastInDim S8x8192x8192 ![0, 1, 2] bcast_S8x8192x1_S8x8192x8192_0_1_2
    (broadcastInDim S8x8192x1 ![0, 1] bcast_S8x8192_S8x8192x1_0_1 t)))

def hSum (t : FVec Ideal S8x8192 .f32) : FVec Ideal S8x8192 .f32 :=
  Host.reduceAdd (hExp X f t) (constant S_ .f32 0x00000000#32) reducesTo_S8x8192x8192_S8x8192_d2 h_S_

def hProb (t : FVec Ideal S8x8192 .f32) : FVec Ideal S8x8192x8192 .f32 :=
  Host.divf (hExp X f t) (broadcastInDim S8x8192x8192 ![0, 1, 2] bcast_S8x8192x1_S8x8192x8192_0_1_2
    (broadcastInDim S8x8192x1 ![0, 1] bcast_S8x8192_S8x8192x1_0_1 (hSum X f t)))

/-- The softmax's shift: the row's largest score again. -/
def hShift : FVec Ideal S8x8192 .f32 :=
  maximumf (broadcastInDim S8x8192 ![] bcast_S_S8x8192 (constant S_ .f32 0xFF800000#32)) (hTop X f)

def hDelta (t : FVec Ideal S8x8192 .f32) : FVec Ideal S8x8192 .f32 :=
  transpose S8x8192 [1, 0]
    (Host.reduceAdd
      (mulf
        (transpose S8192x8x128 [2, 0, 1] (Host.dotGeneral dot_S8192x8x128_S8x8192x8192_S8x128x8192_0_2_2_1_1_0 none (hv X) (hProb X f t)) transposes_S8x128x8192_S8192x8x128_2_0_1)
        (shapeCast S8192x8x128 (extf .f32 d bitsLt_bf16_f32) shapeCasts_S8192x1024_S8192x8x128))
      (constant S_ .f32 0x00000000#32) reducesTo_S8192x8x128_S8192x8_d2 h_S_)
    transposes_S8192x8_S8x8192_1_0

def hLse (t : FVec Ideal S8x8192 .f32) : FVec Ideal S8x8192 .f32 :=
  mulf (addf t (Host.log (hSum X f t)))
    (broadcastInDim S8x8192 ![] bcast_S_S8x8192 (Host.divf (constant S_ .f32 0x3F800000#32) (Host.log (constant S_ .f32 0x40000000#32))))

def hNf : FVec Ideal S8x8192x128 .f32 :=
  broadcastInDim S8x8192x128 ![0, 1, 2] bcast_S8x8192x1_S8x8192x128_0_1_2 (broadcastInDim S8x8192x1 ![0, 1] bcast_S8x8192_S8x8192x1_0_1
    (mulf (broadcastInDim S8x8192 ![] bcast_S_S8x8192 (Host.negf (Host.divf (constant S_ .f32 0x3F800000#32) (Host.log (constant S_ .f32 0x40000000#32)))))
      (transpose S8x8192 [1, 0] f transposes_S8192x8_S8x8192_1_0)))

section
variable (m : (ℓ : Loc nD τ sig) → Buf (Elt Ideal) ℓ) (c : Dev nD)

set_option maxHeartbeats 4000000 in
theorem V_nf : V m c main_v61 = hNf (m ((c.tc : Thread nD τ).loc main_arg1)) := by
  unfold V
  simp only [hostOps0, hostOps0_1, hostOps0_2, List.flatten_cons, List.flatten_nil, List.append_nil, List.cons_append,
      List.nil_append, TRef.ternary, TRef.unary, TRef.toBuf, TRef.ofBuf, cast_eq]
  after_results_simp; rfl

set_option maxHeartbeats 4000000 in
theorem V_lse : V m c main_v62 = shapeCast S8x16x1x512 (hLse (m ((c.tc : Thread nD τ).loc main_arg0)) (m ((c.tc : Thread nD τ).loc main_arg1))
    (hTop (m ((c.tc : Thread nD τ).loc main_arg0)) (m ((c.tc : Thread nD τ).loc main_arg1)))) shapeCasts_S8x8192_S8x16x1x512 := by
  unfold V
  simp only [hostOps0, hostOps0_1, hostOps0_2, List.flatten_cons, List.flatten_nil, List.append_nil, List.cons_append,
      List.nil_append, TRef.ternary, TRef.unary, TRef.toBuf, TRef.ofBuf, cast_eq]
  after_results_simp; rfl

set_option maxHeartbeats 4000000 in
theorem V_delta : V m c main_v63 = shapeCast S8x16x1x512 (hDelta (m ((c.tc : Thread nD τ).loc main_arg0)) (m ((c.tc : Thread nD τ).loc main_arg1))
    (m ((c.tc : Thread nD τ).loc main_arg2))
    (hShift (m ((c.tc : Thread nD τ).loc main_arg0)) (m ((c.tc : Thread nD τ).loc main_arg1)))) shapeCasts_S8x8192_S8x16x1x512 := by
  unfold V
  simp only [hostOps0, hostOps0_1, hostOps0_2, List.flatten_cons, List.flatten_nil, List.append_nil, List.cons_append,
      List.nil_append, TRef.ternary, TRef.unary, TRef.toBuf, TRef.ofBuf, cast_eq]
  after_results_simp; rfl
end

end Cert.KernelIdeal.Gen

end
-- ==== Proof.HostR.lean ====
module

public import proofs.«01_k».proof.Proof.HostV

@[expose] public section

set_option maxRecDepth 16384

noncomputable section

/-! The values of the host code's arrays at real arguments. -/

namespace Cert.KernelIdeal.Gen

open Idealize.ShloMosaic Idealize.ShloMosaic.TcCoe Idealize.ShloMosaic.Tactic Idealize.ShloMosaic.StableHlo
open Cert.Attn

variable {X : FVec Ideal S8192x3072 .bf16} {f : FVec Ideal S8192x8 .f32} {d : FVec Ideal S8192x1024 .bf16}

section
variable (hX : Real2 X) (hf : Real2 f) (hd : Real2 d) (h : Fin 8) (r a : Fin 8192) (e : Fin 128)

include hX in
theorem hq_val : hq X (ix3 r h e) = (((headOf X f d h).q r e : ℝ) : EReal) := by
  pointwise [hq]
  exact hX.read _ _ _ _ rfl (by simp; omega)
include hX in
theorem hk_val : hk X (ix3 r h e) = (((headOf X f d h).k r e : ℝ) : EReal) := by
  pointwise [hk]
  exact hX.read _ _ _ _ rfl (by simp; omega)
include hX in
theorem hv_val : hv X (ix3 r h e) = (((headOf X f d h).v r e : ℝ) : EReal) := by
  pointwise [hv]
  exact hX.read _ _ _ _ rfl (by simp; omega)

include hX hf in
theorem hScore_val : hScore X f (ix3 h r a) = if a.val ≤ r.val then (((headOf X f d h).score r a : ℝ) : EReal) else ⊥ := by
  pointwise [hScore]
  rw [sle_word a.isLt r.isLt]
  have e1 : ((∑ x : Fin 128, hq X (ix3 r h x) * hk X (ix3 a h x)) * Idealize.ShloMosaic.Ideal.div 1 (Idealize.ShloMosaic.Ideal.sqrt (Idealize.ShloMosaic.Ideal.ofBits .f32 0x43000000#32)) - f (ix2 a h) : EReal)
      = (((headOf X f d h).score r a : ℝ) : EReal) := by
    simp only [hq_val (f := f) (d := d) hX h, hk_val (f := f) (d := d) hX h, ← EReal.coe_mul]
    rw [scale_real, hf a h, ← coe_sum, ← EReal.coe_mul, ← EReal.coe_sub]; rfl
  by_cases hc : a.val ≤ r.val
  · rw [if_pos hc, if_pos hc]
    exact (if_pos rfl).trans e1
  · rw [if_neg hc, if_neg hc]
    exact (if_neg (by decide)).trans bot_word

include hX hf in
theorem hTop_val : ∃ x : ℝ, hTop X f (ix2 h r) = (x : EReal) := by
  obtain ⟨x, hx⟩ := top_real (fun a => (headOf X f (fun _ => 0) h).score r a) r (Idealize.ShloMosaic.Ideal.ofBits .f32 0xFF800000#32) bot_word
  refine ⟨x, Eq.trans ?_ hx⟩
  pointwise [hTop]
  simp only [hScore_val (d := fun _ => 0) hX hf h]

/-- A maximum with the least value changes nothing. -/
theorem shift_any (y : FVec Ideal S8x8192 .f32) (i : S8x8192.Idx) :
    maximumf (broadcastInDim S8x8192 ![] bcast_S_S8x8192 (constant S_ .f32 0xFF800000#32)) y i = y i :=
  (congrArg (max · (y i)) bot_word).trans (max_eq_right bot_le)

include hX hf in
theorem hShift_val : ∃ x : ℝ, hShift X f (ix2 h r) = (x : EReal) := by
  obtain ⟨x, hx⟩ := hTop_val hX hf h r
  refine ⟨x, Eq.trans ?_ hx⟩
  unfold hShift
  generalize hTop X f = y
  exact shift_any y _

variable {t : FVec Ideal S8x8192 .f32} {x : ℝ} (ht : t (ix2 h r) = (x : EReal))

include hX hf ht in
theorem hExp_val : hExp X f t (ix3 h r a) = ((if a.val ≤ r.val then Real.exp ((headOf X f d h).score r a - x) else 0 : ℝ) : EReal) := by
  pointwise [hExp]
  rw [hScore_val (d := d) hX hf, ht]
  exact exp_masked _ _ _

include hX hf ht in
theorem hSum_val : hSum X f t (ix2 h r) = ((∑ a : Fin 8192, if a.val ≤ r.val then Real.exp ((headOf X f d h).score r a - x) else 0 : ℝ) : EReal) := by
  pointwise [hSum]
  rw [coe_sum]
  exact Finset.sum_congr rfl fun a _ => hExp_val hX hf h r a ht

theorem shifted_pos : 0 < ∑ a : Fin 8192, if a.val ≤ r.val then Real.exp ((headOf X f d h).score r a - x) else 0 := by
  refine Finset.sum_pos' (fun a _ => ?_) ⟨0, Finset.mem_univ _, ?_⟩
  · split
    · exact (Real.exp_pos _).le
    · exact le_rfl
  · exact (Real.exp_pos _).trans_eq (if_pos (Nat.zero_le _)).symm

include hX hf ht in
theorem hProb_val : hProb X f t (ix3 h r a) = (((headOf X f d h).p r a : ℝ) : EReal) := by
  pointwise [hProb]
  rw [hExp_val (d := d) hX hf h r a ht, hSum_val (d := d) hX hf h r ht, div_real _ _ (shifted_pos (d := d) (x := x) h r).ne']
  exact congrArg _ ((headOf X f d h).p_shift r a x)

include hX hf hd ht in
theorem hDelta_val : hDelta X f d t (ix2 h r) = (((headOf X f d h).delta r : ℝ) : EReal) := by
  pointwise [hDelta]
  rw [← (headOf X f d h).delta_eq, coe_sum]
  refine Finset.sum_congr rfl fun e _ => ?_
  simp only [hv_val (f := f) (d := d) hX h, hProb_val (d := d) hX hf h r _ ht, ← EReal.coe_mul]
  rw [← coe_sum, hd.read _ _ r (128 * h.val + e.val) rfl (by simp; omega), ← EReal.coe_mul]
  rfl

include hX hf ht in
theorem hLse_val : hLse X f t (ix2 h r) = ((Real.log ((headOf X f d h).Z r) * (Real.log 2)⁻¹ : ℝ) : EReal) := by
  pointwise [hLse]
  rw [log2e_real, ht, hSum_val (d := d) hX hf h r ht, Idealize.ShloMosaic.Ideal.log_coe, if_neg (not_le.2 (shifted_pos (d := d) (x := x) h r)), ← EReal.coe_add,
    (headOf X f d h).log_shift, ← EReal.coe_mul]

include hf in
theorem hNf_val : hNf f (ix3 h a e) = ((-(Real.log 2)⁻¹ * (headOf X f d h).f a : ℝ) : EReal) := by
  pointwise [hNf]
  rw [log2e_real, hf a h, ← EReal.coe_neg, ← EReal.coe_mul]
  rfl

end

end Cert.KernelIdeal.Gen

end
-- ==== Proof.ReadsV.lean ====
module

public import proofs.«01_k».proof.Proof.FrameV
public import proofs.«01_k».proof.Proof.StateV
public import proofs.«01_k».proof.Proof.HostR
public import Idealize.ShloMosaic.Lib.Pipeline.ValueKit

@[expose] public section

set_option maxRecDepth 16384

noncomputable section

/-! What a grid point reads, at real arguments. -/

namespace Cert.KernelIdeal.Gen

open Idealize.ShloMosaic Idealize.ShloMosaic.TcCoe Idealize.ShloMosaic.Tactic Idealize.ShloMosaic.StableHlo
open Cert.Attn

theorem idx : ∀ t : Fin cfg0.N, win0_0.index t = ![0, t.val / 16] ∧ win0_1.index t = ![t.val % 16, 8 + t.val / 16]
    ∧ win0_2.index t = ![t.val % 16, 16 + t.val / 16] ∧ win0_3.index t = ![t.val / 16, t.val % 16, 0] ∧ win0_4.index t = ![0, t.val / 16]
    ∧ win0_5.index t = ![t.val / 16, 0, 0, 0] ∧ win0_6.index t = ![t.val / 16, 0, 0, 0] ∧ win0_7.index t = ![0, t.val / 16]
    ∧ win0_8.index t = ![t.val % 16, t.val / 16] ∧ win0_9.index t = ![t.val % 16, t.val / 16] ∧ win0_10.index t = ![t.val / 16, 0, 0, 0]
    ∧ win0_11.index t = ![t.val / 16, t.val % 16, 0] :=
  (by decide +kernel : ∀ t : Fin grid0.N, win0_0.index t = ![0, t.val / 16] ∧ win0_1.index t = ![t.val % 16, 8 + t.val / 16]
    ∧ win0_2.index t = ![t.val % 16, 16 + t.val / 16] ∧ win0_3.index t = ![t.val / 16, t.val % 16, 0] ∧ win0_4.index t = ![0, t.val / 16]
    ∧ win0_5.index t = ![t.val / 16, 0, 0, 0] ∧ win0_6.index t = ![t.val / 16, 0, 0, 0] ∧ win0_7.index t = ![0, t.val / 16]
    ∧ win0_8.index t = ![t.val % 16, t.val / 16] ∧ win0_9.index t = ![t.val % 16, t.val / 16] ∧ win0_10.index t = ![t.val / 16, 0, 0, 0]
    ∧ win0_11.index t = ![t.val / 16, t.val % 16, 0])

theorem point_lt (t : Fin cfg0.N) : t.val < 128 := t.isLt.trans_eq (by decide +kernel)

/-- The head of a grid point. -/
def hd (t : Fin cfg0.N) : Fin 8 := ⟨t.val / 16, by have := point_lt t; omega⟩

variable (m : (ℓ : Loc nD τ sig) → Buf (Elt Ideal) ℓ) (c : Dev nD)

/-- The argument arrays. -/
abbrev aX : FVec Ideal S8192x3072 .bf16 := m ((c.tc : Thread nD τ).loc main_arg0)
abbrev aF : FVec Ideal S8192x8 .f32 := m ((c.tc : Thread nD τ).loc main_arg1)
abbrev aD : FVec Ideal S8192x1024 .bf16 := m ((c.tc : Thread nD τ).loc main_arg2)

theorem iblk_0 (t : Fin cfg0.N) (r : Fin 8192) (e : Fin 128) :
    iblk m c 0 t (ix2 r e) = aX m c (ix2 r (⟨128 * (hd t).val + e.val, by omega⟩ : Fin 3072)) := by
  blk_ext [iblk, V_main_arg0, hd, idx t]
theorem iblk_1 (t : Fin cfg0.N) (b : Fin 512) (e : Fin 128) :
    iblk m c 1 t (ix2 b e) = aX m c (ix2 (⟨512 * (t.val % 16) + b.val, by omega⟩ : Fin 8192) (⟨1024 + (128 * (hd t).val + e.val), by omega⟩ : Fin 3072)) := by
  blk_ext [iblk, V_main_arg0, hd, idx t]
theorem iblk_2 (t : Fin cfg0.N) (b : Fin 512) (e : Fin 128) :
    iblk m c 2 t (ix2 b e) = aX m c (ix2 (⟨512 * (t.val % 16) + b.val, by omega⟩ : Fin 8192) (⟨2048 + (128 * (hd t).val + e.val), by omega⟩ : Fin 3072)) := by
  blk_ext [iblk, V_main_arg0, hd, idx t]
theorem iblk_4 (t : Fin cfg0.N) (r : Fin 8192) (e : Fin 128) :
    iblk m c 4 t (ix2 r e) = aD m c (ix2 r (⟨128 * (hd t).val + e.val, by omega⟩ : Fin 1024)) := by
  blk_ext [iblk, V_main_arg2, hd, idx t]
theorem iblk_3 (t : Fin cfg0.N) (b : Fin 512) (e : Fin 128) :
    iblk m c 3 t (ix3 (0 : Fin 1) b e) = hNf (aF m c) (ix3 (hd t) (⟨512 * (t.val % 16) + b.val, by omega⟩ : Fin 8192) e) := by
  rw [← V_nf]
  blk_ext [iblk, hd, idx t]

theorem split (y : FVec Ideal S8x8192 .f32) (h : Fin 8) (n : Fin 16) (b : Fin 512) :
    shapeCast S8x16x1x512 y shapeCasts_S8x8192_S8x16x1x512 (ix4 h n (0 : Fin 1) b) = y (ix2 h (⟨512 * n.val + b.val, by omega⟩ : Fin 8192)) := by
  pointwise
  blk_ext

theorem cell_5 (t : Fin cfg0.N) (n : Fin 16) (b : Fin 512) :
    iblk m c 5 t (ix4 (0 : Fin 1) n (0 : Fin 1) b) = V m c main_v62 (ix4 (hd t) n (0 : Fin 1) b) := by
  have key : ∀ W : (b : Ref sig .tc) → Buf (Elt Ideal) ((c.tc : Thread nD τ).loc b),
      ((cfg0.win 5).blk t).view.read (Elt Ideal) (W (Pipeline.arrRef spec0 5)) (ix4 (0 : Fin 1) n (0 : Fin 1) b) = W main_v62 (ix4 (hd t) n (0 : Fin 1) b) := by
    intro W
    blk_ext [hd, idx t]
  exact key (V m c)
theorem cell_6 (t : Fin cfg0.N) (n : Fin 16) (b : Fin 512) :
    iblk m c 6 t (ix4 (0 : Fin 1) n (0 : Fin 1) b) = V m c main_v63 (ix4 (hd t) n (0 : Fin 1) b) := by
  have key : ∀ W : (b : Ref sig .tc) → Buf (Elt Ideal) ((c.tc : Thread nD τ).loc b),
      ((cfg0.win 6).blk t).view.read (Elt Ideal) (W (Pipeline.arrRef spec0 6)) (ix4 (0 : Fin 1) n (0 : Fin 1) b) = W main_v63 (ix4 (hd t) n (0 : Fin 1) b) := by
    intro W
    blk_ext [hd, idx t]
  exact key (V m c)

theorem iblk_5 (t : Fin cfg0.N) (n : Fin 16) (b : Fin 512) :
    iblk m c 5 t (ix4 (0 : Fin 1) n (0 : Fin 1) b) = hLse (aX m c) (aF m c) (hTop (aX m c) (aF m c)) (ix2 (hd t) (⟨512 * n.val + b.val, by omega⟩ : Fin 8192)) :=
  (cell_5 m c t n b).trans ((congrFun (V_lse m c) (ix4 (hd t) n (0 : Fin 1) b)).trans
    (split (hLse (aX m c) (aF m c) (hTop (aX m c) (aF m c))) (hd t) n b))
theorem iblk_6 (t : Fin cfg0.N) (n : Fin 16) (b : Fin 512) :
    iblk m c 6 t (ix4 (0 : Fin 1) n (0 : Fin 1) b) = hDelta (aX m c) (aF m c) (aD m c) (hShift (aX m c) (aF m c)) (ix2 (hd t) (⟨512 * n.val + b.val, by omega⟩ : Fin 8192)) :=
  (cell_6 m c t n b).trans ((congrFun (V_delta m c) (ix4 (hd t) n (0 : Fin 1) b)).trans
    (split (hDelta (aX m c) (aF m c) (aD m c) (hShift (aX m c) (aF m c))) (hd t) n b))

/-- Head `h` of the arguments. -/
abbrev aH (h : ℕ) : Head := headOf (aX m c) (aF m c) (aD m c) h

variable {m c} (hX : Real2 (aX m c)) (hf : Real2 (aF m c)) (hD : Real2 (aD m c))

include hX in
theorem read_0 (t : Fin cfg0.N) (r : Fin 8192) (e : Fin 128) : iblk m c 0 t (ix2 r e) = (((aH m c (hd t)).q r e : ℝ) : EReal) :=
  (iblk_0 m c t r e).trans (hX.read _ _ _ _ rfl rfl)
include hX in
theorem read_1 (t : Fin cfg0.N) (b : Fin 512) (e : Fin 128) :
    iblk m c 1 t (ix2 b e) = (((aH m c (hd t)).k (512 * (t.val % 16) + b) e : ℝ) : EReal) :=
  (iblk_1 m c t b e).trans (hX.read _ _ _ _ rfl rfl)
include hX in
theorem read_2 (t : Fin cfg0.N) (b : Fin 512) (e : Fin 128) :
    iblk m c 2 t (ix2 b e) = (((aH m c (hd t)).v (512 * (t.val % 16) + b) e : ℝ) : EReal) :=
  (iblk_2 m c t b e).trans (hX.read _ _ _ _ rfl rfl)
include hf in
theorem read_3 (t : Fin cfg0.N) (b : Fin 512) (e : Fin 128) :
    iblk m c 3 t (ix3 (0 : Fin 1) b e) = ((-(Real.log 2)⁻¹ * (aH m c (hd t)).f (512 * (t.val % 16) + b) : ℝ) : EReal) :=
  (iblk_3 m c t b e).trans (hNf_val (X := aX m c) (d := aD m c) hf _ _ e)
include hD in
theorem read_4 (t : Fin cfg0.N) (r : Fin 8192) (e : Fin 128) : iblk m c 4 t (ix2 r e) = (((aH m c (hd t)).o r e : ℝ) : EReal) :=
  (iblk_4 m c t r e).trans (hD.read _ _ _ _ rfl rfl)
include hX hf in
theorem read_5 (t : Fin cfg0.N) (n : Fin 16) (b : Fin 512) :
    iblk m c 5 t (ix4 (0 : Fin 1) n (0 : Fin 1) b) = ((Real.log ((aH m c (hd t)).Z (512 * n + b)) * (Real.log 2)⁻¹ : ℝ) : EReal) := by
  rw [iblk_5]
  obtain ⟨x, hx⟩ := hTop_val hX hf (hd t) (⟨512 * n.val + b.val, by omega⟩ : Fin 8192)
  exact hLse_val (d := aD m c) hX hf _ _ hx
include hX hf hD in
theorem read_6 (t : Fin cfg0.N) (n : Fin 16) (b : Fin 512) :
    iblk m c 6 t (ix4 (0 : Fin 1) n (0 : Fin 1) b) = (((aH m c (hd t)).delta (512 * n + b) : ℝ) : EReal) := by
  rw [iblk_6]
  obtain ⟨x, hx⟩ := hShift_val hX hf (hd t) (⟨512 * n.val + b.val, by omega⟩ : Fin 8192)
  exact hDelta_val hX hf hD _ _ hx

include hX hf hD in
theorem reads (t : Fin cfg0.N) : Reads (aH m c (hd t)) (t.val % 16) (inp m c t) := by
  have h0 := read_0 hX t
  have h1 := read_1 hX t
  have h2 := read_2 hX t
  have h3 := read_3 hf t
  have h4 := read_4 hD t
  have h5 := read_5 hX hf t
  have h6 := read_6 hX hf hD t
  unfold inp
  generalize iblk m c 0 t = y0 at h0 ⊢
  generalize iblk m c 1 t = y1 at h1 ⊢
  generalize iblk m c 2 t = y2 at h2 ⊢
  generalize iblk m c 3 t = y3 at h3 ⊢
  generalize iblk m c 4 t = y4 at h4 ⊢
  generalize iblk m c 5 t = y5 at h5 ⊢
  generalize iblk m c 6 t = y6 at h6 ⊢
  exact ⟨h0, h1, h2, h3, h4, h5, h6⟩

end Cert.KernelIdeal.Gen

end
-- ==== Proof.Outs.lean ====
module

public import proofs.«01_k».proof.Proof.Heads

@[expose] public section

noncomputable section

/-! The five result arrays, from the heads of the arguments. -/

namespace Cert.Attn

open Idealize.ShloMosaic

variable (X : (⟨2, ![8192, 3072]⟩ : Shape).Idx → EReal) (f : (⟨2, ![8192, 8]⟩ : Shape).Idx → EReal)
  (d : (⟨2, ![8192, 1024]⟩ : Shape).Idx → EReal)

/-- The gradients of the queries, the keys and the values. -/
def outQ (i : (⟨2, ![8192, 1024]⟩ : Shape).Idx) : EReal :=
  (((headOf X f d ((i 1 : ℕ) / 128)).gq (i 0 : ℕ) ((i 1 : ℕ) % 128) : ℝ) : EReal)
def outK (i : (⟨2, ![8192, 1024]⟩ : Shape).Idx) : EReal :=
  (((headOf X f d ((i 1 : ℕ) / 128)).gk (i 0 : ℕ) ((i 1 : ℕ) % 128) : ℝ) : EReal)
def outV (i : (⟨2, ![8192, 1024]⟩ : Shape).Idx) : EReal :=
  (((headOf X f d ((i 1 : ℕ) / 128)).gv (i 0 : ℕ) ((i 1 : ℕ) % 128) : ℝ) : EReal)

/-- The scores' gradient summed over the keys of each query, and over the queries of each key. -/
def outRow (i : (⟨4, ![8, 16, 1, 512]⟩ : Shape).Idx) : EReal :=
  (((headOf X f d (i 0 : ℕ)).grow (512 * (i 1 : ℕ) + (i 3 : ℕ)) : ℝ) : EReal)
def outCol (i : (⟨3, ![8, 8192, 1]⟩ : Shape).Idx) : EReal :=
  (((headOf X f d (i 0 : ℕ)).gcol (i 1 : ℕ) : ℝ) : EReal)

end Cert.Attn

end
-- ==== Proof.OutV.lean ====
module

public import proofs.«01_k».proof.Proof.ReadsV
public import proofs.«01_k».proof.Proof.Outs

@[expose] public section

set_option maxRecDepth 16384

noncomputable section

/-! The result arrays of the kernel, at real arguments. -/

namespace Cert.KernelIdeal.Gen

open Idealize.ShloMosaic Idealize.ShloMosaic.TcCoe Idealize.ShloMosaic.Tactic Idealize.ShloMosaic.StableHlo
open Cert.Attn

variable {m : (ℓ : Loc nD τ sig) → Buf (Elt Ideal) ℓ} {c : Dev nD}

theorem point_at {H : Head} {I : In Ideal} {k : ℕ} (hI : Reads H k I) (j : Fin 16) (hj : j.val = k) {dq : Vec Ideal S8192x128 .f32}
    {drow : Vec Ideal S1x16x1x512 .f32} (h : Upto H (fun _ => 512 * k) dq drow) : Inv H k 16 (point I j dq drow) := by
  subst hj
  exact Inv.point j hI h

variable (hX : Real2 (aX m c)) (hf : Real2 (aF m c)) (hD : Real2 (aD m c))

include hX hf hD in
/-- What the accumulators hold after every grid point. -/
theorem inv : ∀ (n : ℕ) (hn : n < cfg0.N), Inv (aH m c (hd ⟨n, hn⟩)) (n % 16) 16 (left m c n hn) := by
  intro n
  induction n with
  | zero =>
    intro hn
    have hI := reads hX hf hD ⟨0, hn⟩
    rw [left_first m c ⟨0, hn⟩ rfl]
    generalize aH m c (hd ⟨0, hn⟩) = H at hI ⊢
    generalize inp m c ⟨0, hn⟩ = I at hI ⊢
    exact point_at hI _ (coord_mod ⟨0, hn⟩) (upto_zero H)
  | succ n ih =>
    intro hn
    have hI := reads hX hf hD ⟨n + 1, hn⟩
    by_cases h : (n + 1) % 16 = 0
    · rw [left_first m c ⟨n + 1, hn⟩ h]
      generalize aH m c (hd ⟨n + 1, hn⟩) = H at hI ⊢
      generalize inp m c ⟨n + 1, hn⟩ = I at hI ⊢
      refine point_at hI _ (coord_mod ⟨n + 1, hn⟩) ?_
      rw [show ((⟨n + 1, hn⟩ : Fin cfg0.N).val % 16) = 0 from h]
      exact upto_zero H
    · have hp := ih (Nat.lt_of_succ_lt hn)
      rw [show hd ⟨n, Nat.lt_of_succ_lt hn⟩ = hd ⟨n + 1, hn⟩ from Fin.ext (by simp only [hd]; omega)] at hp
      rw [left_next m c ⟨n + 1, hn⟩ h]
      generalize aH m c (hd ⟨n + 1, hn⟩) = H at hI hp ⊢
      generalize inp m c ⟨n + 1, hn⟩ = I at hI ⊢
      refine point_at hI _ (coord_mod ⟨n + 1, hn⟩) ?_
      have hq := Inv.next hp
      rw [show n % 16 + 1 = (n + 1) % 16 by omega] at hq
      exact hq

include hX hf hD in
theorem final_8 : (dats m 0 c).arrAt 8 cfg0.N = outK (aX m c) (aF m c) (aD m c) := by
  refine (dats m 0 c).arrAt_eq_of_covers 8 _ (by decide +kernel) fun t hfl y => ?_
  blk_simp
  rw [after_8]
  have hi := inv hX hf hD t.val t.isLt
  generalize left m c t.val _ = s at hi ⊢
  change S512x128.Idx at y
  idx_vars y
  rw [Inv.out8 hi]
  unfold outK
  blk_simp [idx t]
  rw [show (t.val / 16 * 128 + y1.val) / 128 = t.val / 16 by omega, show (t.val / 16 * 128 + y1.val) % 128 = y1.val by omega,
    Nat.mul_comm (t.val % 16) 512]
  rfl

include hX hf hD in
theorem final_9 : (dats m 0 c).arrAt 9 cfg0.N = outV (aX m c) (aF m c) (aD m c) := by
  refine (dats m 0 c).arrAt_eq_of_covers 9 _ (by decide +kernel) fun t hfl y => ?_
  blk_simp
  rw [after_9]
  have hi := inv hX hf hD t.val t.isLt
  generalize left m c t.val _ = s at hi ⊢
  change S512x128.Idx at y
  idx_vars y
  rw [Inv.out9 hi]
  unfold outV
  blk_simp [idx t]
  rw [show (t.val / 16 * 128 + y1.val) / 128 = t.val / 16 by omega, show (t.val / 16 * 128 + y1.val) % 128 = y1.val by omega,
    Nat.mul_comm (t.val % 16) 512]
  rfl

include hX hf hD in
theorem final_7 : (dats m 0 c).arrAt 7 cfg0.N = outQ (aX m c) (aF m c) (aD m c) := by
  refine (dats m 0 c).arrAt_eq_of_covers 7 _ (by decide +kernel) fun t hfl y => ?_
  have h15 : t.val % 16 = 15 := (flush0_7 t).mp hfl
  blk_simp
  rw [after_7]
  have hi := inv hX hf hD t.val t.isLt
  generalize left m c t.val _ = s at hi ⊢
  rw [h15] at hi
  change S8192x128.Idx at y
  idx_vars y
  rw [Inv.out7 hi]
  unfold outQ
  blk_simp [idx t]
  rw [show (t.val / 16 * 128 + y1.val) / 128 = t.val / 16 by omega, show (t.val / 16 * 128 + y1.val) % 128 = y1.val by omega]
  rfl

include hX hf hD in
theorem final_10 : (dats m 0 c).arrAt 10 cfg0.N = outRow (aX m c) (aF m c) (aD m c) := by
  refine (dats m 0 c).arrAt_eq_of_covers 10 _ (by decide +kernel) fun t hfl y => ?_
  have h15 : t.val % 16 = 15 := (flush0_10 t).mp hfl
  blk_simp
  rw [after_10]
  have hi := inv hX hf hD t.val t.isLt
  generalize left m c t.val _ = s at hi ⊢
  rw [h15] at hi
  change S1x16x1x512.Idx at y
  idx_vars y
  obtain rfl : y0 = 0 := Subsingleton.elim _ _
  obtain rfl : y2 = 0 := Subsingleton.elim _ _
  rw [Inv.out10 hi]
  unfold outRow
  blk_simp [idx t]
  rfl

include hX hf hD in
theorem final_11 : (dats m 0 c).arrAt 11 cfg0.N = outCol (aX m c) (aF m c) (aD m c) := by
  refine (dats m 0 c).arrAt_eq_of_covers 11 _ (by decide +kernel) fun t hfl y => ?_
  blk_simp
  rw [after_11]
  have hi := inv hX hf hD t.val t.isLt
  generalize left m c t.val _ = s at hi ⊢
  change S1x512x1.Idx at y
  idx_vars y
  obtain rfl : y0 = 0 := Subsingleton.elim _ _
  obtain rfl : y2 = 0 := Subsingleton.elim _ _
  rw [Inv.out11 hi]
  unfold outCol
  blk_simp [idx t]
  rw [Nat.mul_comm (t.val % 16) 512]
  rfl

end Cert.KernelIdeal.Gen

end
-- ==== Proof.RefV.lean ====
module

public import proofs.«01_k».proof.Proof.Gen.ReferenceIdeal.Read
public import proofs.«01_k».proof.Proof.Outs

@[expose] public section

set_option maxRecDepth 16384

noncomputable section

/-! The reference's values at real arguments: the softmax and the cotangent of the scores. -/

namespace Cert.ReferenceIdeal.At

open Idealize.ShloMosaic Idealize.ShloMosaic.TcCoe Idealize.ShloMosaic.Tactic Idealize.ShloMosaic.StableHlo
open Cert.ReferenceIdeal Cert.ReferenceIdeal.Gen Cert.ReferenceIdeal.Read Cert.Attn

variable {X : FVec Ideal S8192x3072 .bf16} {f : FVec Ideal S8192x8 .f32} {d : FVec Ideal S8192x1024 .bf16}
variable (hX : Real2 X) (hf : Real2 f) (hd : Real2 d) (h : Fin 8) (r a : Fin 8192) (e : Fin 128)

include hX in
theorem q_val : val_main_v4 (F := Ideal) X (ix3 r h e) = (((headOf X f d h).q r e : ℝ) : EReal) := by
  pointwise [val_main_v4, val_main_v1, val_main_v0]
  exact hX.read _ _ _ _ rfl (by simp; omega)
include hX in
theorem k_val : val_main_v5 (F := Ideal) X (ix3 r h e) = (((headOf X f d h).k r e : ℝ) : EReal) := by
  pointwise [val_main_v5, val_main_v2, val_main_v0]
  exact hX.read _ _ _ _ rfl (by simp; omega)
include hX in
theorem v_val : val_main_v6 (F := Ideal) X (ix3 r h e) = (((headOf X f d h).v r e : ℝ) : EReal) := by
  pointwise [val_main_v6, val_main_v3, val_main_v0]
  exact hX.read _ _ _ _ rfl (by simp; omega)
include hd in
theorem o_val : val_main_v61 (F := Ideal) d (ix3 r h e) = (((headOf X f d h).o r e : ℝ) : EReal) := by
  pointwise [val_main_v61, val_main_v60]
  exact hd.read _ _ _ _ rfl (by simp; omega)

include hX hf in
theorem score_val : val_main_v20 (F := Ideal) X f (ix3 h r a) = (((headOf X f d h).score r a + (headOf X f d h).f r : ℝ) : EReal) := by
  pointwise [val_main_v20, val_main_v19, val_main_v18, val_main_v17, val_main_v7, val_main_v16, val_main_v15, val_main_v14, val_main_v13, val_main_v12, val_main_v11, val_main_v10, val_main_v9, val_main_cst, val_main_cst_0, val_main_v8]
  simp only [q_val (f := f) (d := d) hX h, k_val (f := f) (d := d) hX h, ← EReal.coe_mul]
  rw [scale_real, hf a h, hf r h, ← coe_sum, ← EReal.coe_mul, ← EReal.coe_add, ← EReal.coe_neg, ← EReal.coe_add]
  refine congrArg _ ?_
  show _ = (∑ d_1 : Fin 128, (headOf X f d h).q r d_1 * (headOf X f d h).k a d_1) * Head.c - at2 f a h + at2 f r h
  ring

theorem mask_val : val_main_v28_1 (F := Ideal) (ix3 h r a) = if a.val ≤ r.val then 1#1 else 0#1 := by
  pointwise [val_main_v28_1, val_main_v27, val_main_v26, val_main_v25, val_main_v24, val_main_v23, val_main_v22, val_main_v21]
  rw [sle_word a.isLt r.isLt]

include hX hf in
theorem masked_val : val_main_v28_0 (F := Ideal) X f (ix3 h r a)
    = if a.val ≤ r.val then (((headOf X f d h).score r a + (headOf X f d h).f r : ℝ) : EReal) else ⊥ := by
  pointwise [val_main_v28_0, val_main_call0_v2, val_main_call0_v0, val_main_cst_1]
  rw [mask_val, score_val (d := d) hX hf]
  by_cases hc : a.val ≤ r.val
  · rw [if_pos hc, if_pos hc]
    exact if_pos rfl
  · rw [if_neg hc, if_neg hc]
    exact (if_neg (by decide)).trans bot_word

include hX hf in
theorem top_val : ∃ x : ℝ, val_main_v29 (F := Ideal) X f (ix2 h r) = (x : EReal) := by
  obtain ⟨x, hx⟩ := top_real (fun a => (headOf X f (fun _ => 0) h).score r a + (headOf X f (fun _ => 0) h).f r) r (Idealize.ShloMosaic.Ideal.ofBits .f32 0xFF800000#32) bot_word
  refine ⟨x, Eq.trans ?_ hx⟩
  pointwise [val_main_v29, val_main_cst_2]
  simp only [masked_val (d := fun _ => 0) hX hf h]

/-- A maximum with the least value changes nothing. -/
theorem shift_any (y : FVec Ideal S8x8192 .f32) (i : S8x8192.Idx) :
    maximumf (F := Ideal) (φ := .f32) (val_main_v35 (F := Ideal)) y i = y i :=
  (congrArg (max · (y i)) bot_word).trans (max_eq_right bot_le)

include hX hf in
theorem shift_val : ∃ x : ℝ, val_main_v36 (F := Ideal) X f (ix2 h r) = (x : EReal) := by
  obtain ⟨x, hx⟩ := top_val hX hf h r
  refine ⟨x, Eq.trans ?_ hx⟩
  unfold val_main_v36
  generalize val_main_v29 (F := Ideal) X f = y
  exact shift_any y _

/-- The shift against the scores without the query's own decay. -/
def low : ℝ := (val_main_v36 (F := Ideal) X f (ix2 h r)).toReal - (headOf X f d h).f r

/-- The exponential of a score, and a query's sum of them. -/
def expo (a : ℕ) : ℝ := if a ≤ r.val then Real.exp ((headOf X f d h).score r a - low (X := X) (f := f) (d := d) h r) else 0
def total : ℝ := ∑ a : Fin 8192, expo (X := X) (f := f) (d := d) h r a

include hX hf in
theorem exp_val : val_main_v49 (F := Ideal) X f (ix3 h r a) = ((expo (X := X) (f := f) (d := d) h r a : ℝ) : EReal) := by
  obtain ⟨x, hx⟩ := shift_val hX hf h r
  pointwise [val_main_v49, val_main_v48, val_main_v47, val_main_v46]
  rw [masked_val (d := d) hX hf]
  unfold expo low
  rw [hx, EReal.toReal_coe]
  generalize (headOf X f d h).score r a = y
  generalize (headOf X f d h).f r = z
  rw [exp_masked, show y + z - x = y - (x - z) by ring]

include hX hf in
theorem sum_val : val_main_v50 (F := Ideal) X f (ix2 h r) = ((total (X := X) (f := f) (d := d) h r : ℝ) : EReal) := by
  pointwise [val_main_v50, val_main_cst_10]
  unfold total
  rw [coe_sum]
  exact Finset.sum_congr rfl fun a _ => exp_val hX hf h r a

theorem total_pos : 0 < total (X := X) (f := f) (d := d) h r := by
  refine Finset.sum_pos' (fun a _ => ?_) ⟨0, Finset.mem_univ _, ?_⟩
  · unfold expo; split
    · exact (Real.exp_pos _).le
    · exact le_rfl
  · exact (Real.exp_pos _).trans_eq (if_pos (Nat.zero_le _)).symm

theorem expo_total : expo (X := X) (f := f) (d := d) h r a / total (X := X) (f := f) (d := d) h r = (headOf X f d h).p r a :=
  (headOf X f d h).p_shift r a _

include hX hf in
theorem p_val : val_main_v53 (F := Ideal) X f (ix3 h r a) = (((headOf X f d h).p r a : ℝ) : EReal) := by
  pointwise [val_main_v53, val_main_v52, val_main_v51]
  rw [exp_val (d := d) hX hf, sum_val (d := d) hX hf, div_real _ _ (total_pos h r).ne', expo_total]

include hX hd in
theorem dp_val : val_main_v63 (F := Ideal) X d (ix3 h r a) = (((headOf X f d h).dp r a : ℝ) : EReal) := by
  pointwise [val_main_v63, val_main_v62]
  simp only [o_val (X := X) (f := f) hd h, v_val (f := f) (d := d) hX h, ← EReal.coe_mul]
  rw [← coe_sum]
  exact congrArg _ (Finset.sum_congr rfl fun _ _ => mul_comm _ _)

/-- The gradient of the softmax, from the exponentials. -/
theorem grad_eq (E D : Fin 8192 → ℝ) (L : ℝ) (hL : L ≠ 0) (a : Fin 8192) :
    (D a / L + -(∑ b, D b * (1 / (L * L)) * E b)) * E a = E a / L * (D a - ∑ b, E b / L * D b) := by
  have hs : (∑ b, D b * (1 / (L * L)) * E b) = (∑ b, E b / L * D b) / L := by
    rw [Finset.sum_div]
    refine Finset.sum_congr rfl fun b _ => ?_
    field_simp
  rw [hs]
  field_simp
  ring

theorem one_div_real (x : ℝ) (hx : x ≠ 0) : Idealize.ShloMosaic.Ideal.div 1 (x : EReal) = ((1 / x : ℝ) : EReal) := by
  rw [Idealize.ShloMosaic.Ideal.div_coe hx, one_mul, one_div]

include hX hf hd in
theorem row_val : val_main_v69 (F := Ideal) X f d (ix2 h r)
    = ((∑ b : Fin 8192, (headOf X f d h).dp r b * (1 / (total (X := X) (f := f) (d := d) h r * total (X := X) (f := f) (d := d) h r)) * expo (X := X) (f := f) (d := d) h r b : ℝ) : EReal) := by
  pointwise [val_main_v69, val_main_cst_12, val_main_v68, val_main_v67, val_main_v66, val_main_v56, val_main_v55, val_main_cst_11, val_main_v54, val_main_v51]
  have hp := (total_pos (X := X) (f := f) (d := d) h r).ne'
  rw [sum_val (d := d) hX hf, ← EReal.coe_mul, one_div_real _ (mul_ne_zero hp hp), coe_sum]
  refine Finset.sum_congr rfl fun b _ => ?_
  rw [dp_val (f := f) hX hd, exp_val (d := d) hX hf, ← EReal.coe_mul, ← EReal.coe_mul]

include hX hf hd in
theorem grad_val : val_main_v77 (F := Ideal) X f d (ix3 h r a) = (((headOf X f d h).g r a : ℝ) : EReal) := by
  pointwise [val_main_v77, val_main_v76, val_main_v75, val_main_v74, val_main_cst_13, val_main_v73, val_main_v72, val_main_v71, val_main_v70, val_main_v51]
  have hp := (total_pos (X := X) (f := f) (d := d) h r).ne'
  rw [dp_val (f := f) hX hd, sum_val (d := d) hX hf, row_val hX hf hd, exp_val (d := d) hX hf, Finset.univ_unique, Finset.sum_singleton,
    div_real _ _ hp, ← EReal.coe_neg, ← EReal.coe_add, ← EReal.coe_mul]
  refine congrArg _ ((grad_eq (fun a => expo (X := X) (f := f) (d := d) h r a) (fun a => (headOf X f d h).dp r a) _ hp a).trans ?_)
  unfold Head.g Head.delta
  simp only [expo_total]

include hX hf hd in
theorem g_val : val_main_v78 (F := Ideal) X f d (ix3 h r a) = (((headOf X f d h).g r a : ℝ) : EReal) := by
  pointwise [val_main_v78, val_main_call1_v0, val_main_call1_cst]
  rw [mask_val, grad_val hX hf hd]
  by_cases hc : a.val ≤ r.val
  · rw [if_pos hc]
    exact if_pos rfl
  · rw [if_neg hc, (headOf X f d h).g_masked (Nat.lt_of_not_le hc)]
    exact if_neg (by decide)

/-! The results. -/

include hX hf hd in
theorem gs_val : val_main_v88 (F := Ideal) X f d (ix3 h r a) = (((headOf X f d h).g r a * Head.c : ℝ) : EReal) := by
  pointwise [val_main_v88, val_main_v87, val_main_v10, val_main_v9, val_main_cst, val_main_cst_0]
  rw [g_val hX hf hd, scale_real, ← EReal.coe_mul]

include hX hf hd in
theorem gq_val : val_main_v91 (F := Ideal) X f d (ix3 h r e) = (((headOf X f d h).gq r e : ℝ) : EReal) := by
  pointwise [val_main_v91]
  simp only [gs_val hX hf hd h, k_val (f := f) (d := d) hX h, ← EReal.coe_mul]
  rw [← coe_sum]
  unfold Head.gq
  rw [Finset.sum_mul]
  exact congrArg _ (Finset.sum_congr rfl fun _ _ => mul_right_comm _ _ _)

include hX hf hd in
theorem gk_val : val_main_v89 (F := Ideal) X f d (ix3 h a e) = (((headOf X f d h).gk a e : ℝ) : EReal) := by
  pointwise [val_main_v89]
  simp only [gs_val hX hf hd h, q_val (f := f) (d := d) hX h, ← EReal.coe_mul]
  rw [← coe_sum]
  unfold Head.gk
  rw [Finset.sum_mul]
  exact congrArg _ (Finset.sum_congr rfl fun _ _ => mul_right_comm _ _ _)

include hX hf hd in
theorem gv_val : val_main_v64 (F := Ideal) X f d (ix3 h e a) = (((headOf X f d h).gv a e : ℝ) : EReal) := by
  pointwise [val_main_v64, val_main_v62]
  simp only [p_val (d := d) hX hf h, o_val (X := X) (f := f) hd h, ← EReal.coe_mul]
  rw [← coe_sum]
  exact congrArg _ (Finset.sum_congr rfl fun _ _ => mul_comm _ _)

include hX hf hd in
theorem grow_val : val_main_v83 (F := Ideal) X f d (ix2 h r) = (((headOf X f d h).grow r : ℝ) : EReal) := by
  pointwise [val_main_v83, val_main_cst_16]
  simp only [g_val hX hf hd h]
  rw [← coe_sum]
  rfl

include hX hf hd in
theorem gcol_val : val_main_v79 (F := Ideal) X f d (ix2 h a) = (((headOf X f d h).gcol a : ℝ) : EReal) := by
  pointwise [val_main_v79, val_main_cst_14]
  simp only [g_val hX hf hd h]
  rw [← coe_sum]
  rfl

include hX hf hd in
theorem out0 : val_main_v94 (F := Ideal) X f d = outQ X f d := by
  funext i
  idx_vars i
  pointwise [val_main_v94, val_main_v93, val_main_v92]
  rw [gq_val hX hf hd]
  rfl

include hX hf hd in
theorem out1 : val_main_v96 (F := Ideal) X f d = outK X f d := by
  funext i
  idx_vars i
  pointwise [val_main_v96, val_main_v95, val_main_v90]
  rw [gk_val hX hf hd]
  rfl

include hX hf hd in
theorem out2 : val_main_v98 (F := Ideal) X f d = outV X f d := by
  funext i
  idx_vars i
  pointwise [val_main_v98, val_main_v97, val_main_v65]
  rw [gv_val hX hf hd]
  rfl

include hX hf hd in
theorem out3 : val_main_v100 (F := Ideal) X f d = outRow X f d := by
  funext i
  idx_vars i
  obtain rfl : i2 = 0 := Subsingleton.elim _ _
  pointwise [val_main_v100, val_main_v99, val_main_v86, val_main_v85, val_main_cst_17, val_main_v84]
  rw [Finset.univ_unique, Finset.sum_singleton, grow_val hX hf hd]
  show (((headOf X f d i0).grow (i1.val * 512 + i3.val) : ℝ) : EReal) = _
  rw [Nat.mul_comm]
  rfl

include hX hf hd in
theorem out4 : val_main_v102 (F := Ideal) X f d = outCol X f d := by
  funext i
  idx_vars i
  obtain rfl : i2 = 0 := Subsingleton.elim _ _
  pointwise [val_main_v102, val_main_v101, val_main_v82, val_main_v81, val_main_cst_15, val_main_v80]
  rw [Finset.univ_unique, Finset.sum_singleton, gcol_val hX hf hd]
  rfl

end Cert.ReferenceIdeal.At

end
-- ==== Proof.Values.lean ====
module

public import proofs.«01_k».proof.Proof.OutV
public import proofs.«01_k».proof.Proof.RefV

@[expose] public section

noncomputable section

/-! The two runs, at real arguments: both end with the five gradients. -/

namespace Cert.KernelIdeal.Gen

open Idealize.ShloMosaic Idealize.ShloMosaic.TcCoe Idealize.SL.Sem
open Cert.Attn

variable (m : (ℓ : Loc nD τ sig) → Buf (Elt Ideal) ℓ) (ρ : Dev nD → PrngReg)

set_option maxHeartbeats 8000000 in
theorem run_values (h : ∀ c : Dev nD, Real2 (aX m c) ∧ Real2 (aF m c) ∧ Real2 (aD m c)) :
    θ_run defs (onTc (τ := τ) (main (F := Ideal))) ⟨m, fun _ => 0, ρ⟩ (fun r => ∀ c : Dev nD,
      r.2.mem ((c.tc : Thread nD τ).loc main_v64_0) = outQ (aX m c) (aF m c) (aD m c)
      ∧ r.2.mem ((c.tc : Thread nD τ).loc main_v64_1) = outK (aX m c) (aF m c) (aD m c)
      ∧ r.2.mem ((c.tc : Thread nD τ).loc main_v64_2) = outV (aX m c) (aF m c) (aD m c)
      ∧ r.2.mem ((c.tc : Thread nD τ).loc main_v64_3) = outRow (aX m c) (aF m c) (aD m c)
      ∧ r.2.mem ((c.tc : Thread nD τ).loc main_v64_4) = outCol (aX m c) (aF m c) (aD m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ k c =>
    ⟨((k.1 c).1 7).trans (final_7 (h c).1 (h c).2.1 (h c).2.2),
      ((k.1 c).1 8).trans (final_8 (h c).1 (h c).2.1 (h c).2.2),
      ((k.1 c).1 9).trans (final_9 (h c).1 (h c).2.1 (h c).2.2),
      ((k.1 c).1 10).trans (final_10 (h c).1 (h c).2.1 (h c).2.2),
      ((k.1 c).1 11).trans (final_11 (h c).1 (h c).2.1 (h c).2.2),
      ((k.1 c).1 2).trans (((dats m 0 c).arrAt_in 2 rfl _).trans ((A_eq m c 2).trans (V_main_arg0 m c))),
      ((k.1 c).2 main_arg1 (Pipeline.mem_restRefs_of main_arg1 (by decide) (by decide))).trans (V_main_arg1 m c),
      ((k.1 c).1 4).trans (((dats m 0 c).arrAt_in 4 rfl _).trans ((A_eq m c 4).trans (V_main_arg2 m c)))⟩) (run_all m ρ)

end Cert.KernelIdeal.Gen

namespace Cert.ReferenceIdeal.At

open Idealize.ShloMosaic Idealize.ShloMosaic.TcCoe Idealize.SL.Sem
open Cert.Attn Cert.ReferenceIdeal.Gen

variable (m : (ℓ : Loc nD τ sig) → Buf (Elt Ideal) ℓ) (ρ : Dev nD → PrngReg)

/-- The reference's run, with the five gradients of arrays that its arguments equal. -/
theorem run_values {X : Dev nD → FVec Ideal S8192x3072 .bf16} {f : Dev nD → FVec Ideal S8192x8 .f32} {d : Dev nD → FVec Ideal S8192x1024 .bf16}
    (h : ∀ c : Dev nD, Real2 (X c) ∧ Real2 (f c) ∧ Real2 (d c))
    (hm : ∀ c : Dev nD, m ((c.tc : Thread nD τ).loc main_arg0) = X c ∧ m ((c.tc : Thread nD τ).loc main_arg1) = f c ∧ m ((c.tc : Thread nD τ).loc main_arg2) = d c) :
    θ_run defs (onTc (τ := τ) (main (F := Ideal))) ⟨m, fun _ => 0, ρ⟩ (fun r => ∀ c : Dev nD,
      r.2.mem ((c.tc : Thread nD τ).loc main_v94) = outQ (X c) (f c) (d c)
      ∧ r.2.mem ((c.tc : Thread nD τ).loc main_v96) = outK (X c) (f c) (d c)
      ∧ r.2.mem ((c.tc : Thread nD τ).loc main_v98) = outV (X c) (f c) (d c)
      ∧ r.2.mem ((c.tc : Thread nD τ).loc main_v100) = outRow (X c) (f c) (d c)
      ∧ r.2.mem ((c.tc : Thread nD τ).loc main_v102) = outCol (X c) (f c) (d c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun _ k c => ?_) (Cert.ReferenceIdeal.Value.run (F := Ideal) m ρ)
  obtain ⟨k0, k1, k2, k3, k4, ka⟩ := k c
  obtain ⟨e0, e1, e2⟩ := hm c
  obtain ⟨hX, hf, hd⟩ := h c
  rw [Read.val_main_v94_eq, e0, e1, e2, out0 hX hf hd] at k0
  rw [Read.val_main_v96_eq, e0, e1, e2, out1 hX hf hd] at k1
  rw [Read.val_main_v98_eq, e0, e1, e2, out2 hX hf hd] at k2
  rw [Read.val_main_v100_eq, e0, e1, e2, out3 hX hf hd] at k3
  rw [Read.val_main_v102_eq, e0, e1, e2, out4 hX hf hd] at k4
  exact ⟨k0, k1, k2, k3, k4, ka⟩

end Cert.ReferenceIdeal.At

end
-- ==== Proof.Finite.lean ====
module

public import proofs.«01_k».proof.Pre_finite
public import proofs.«01_k».proof.Proof.Heads

@[expose] public section

noncomputable section

/-! The precondition: every entry of the three arguments is a real number. -/

namespace Cert.Pre_finite.Gen

open Idealize.ShloMosaic Cert.Attn

/-- The side conditions of the precondition's operations. -/
theorem facts : Cert.Pre_finite.Facts where
  bitsLt_bf16_f32 := by decide
  bcast_S_S8192x3072 := by decide
  reducesTo_S8192x3072_S_d0_1 := by decide
  h_S_ := by decide
  bcast_S_S8192x8 := by decide
  reducesTo_S8192x8_S_d0_1 := by decide
  bcast_S_S8192x1024 := by decide
  reducesTo_S8192x1024_S_d0_1 := by decide

/-- A value whose magnitude is below the infinity is a real number. -/
theorem of_olt (x : EReal) (h : Idealize.ShloMosaic.Ideal.cmp .olt (max x (-x)) (Idealize.ShloMosaic.Ideal.ofBits .f32 0x7F800000#32) = 1#1) : x ≠ ⊤ ∧ x ≠ ⊥ := by
  rw [top_word] at h
  unfold Idealize.ShloMosaic.Ideal.cmp at h
  refine ⟨?_, ?_⟩ <;> rintro rfl <;> simp at h

instance : Subsingleton S_.Idx := ⟨fun _ _ => funext fun a => a.elim0⟩

theorem of_all {s : Shape} (x : FVec Ideal s .f32) (hb : S_.BroadcastsInDim s (![] : Fin 0 → Fin s.rank)) {axes : List (Fin s.rank)} (hr : s.ReducesTo axes S_)
    (h0 : 0 < S_.numel)
    (h : Host.reduce IntOp.andi (cmpf .olt (Host.absf x) (broadcastInDim s ![] hb (constant S_ .f32 0x7F800000#32))) (constantI S_ 1 1#1) hr h0 (fun a => a.elim0) = 1#1)
    (i : s.Idx) : x i ≠ ⊤ ∧ x i ≠ ⊥ :=
  of_olt (x i) (Host.reduce_andi_all _ _ hr h0 _ h i)

/-- Every entry of the three arrays is a real number. -/
theorem finite {X : FVec Ideal S8192x3072 .bf16} {f : FVec Ideal S8192x8 .f32} {d : FVec Ideal S8192x1024 .bf16}
    (h : @Cert.Pre_finite.fn facts Ideal _ X f d = fun _ => 1#1) : Real2 X ∧ Real2 f ∧ Real2 d := by
  have h1 := congrFun h (fun a => a.elim0)
  obtain ⟨h2, hd⟩ := IntOp.andi_eq_one.mp h1
  obtain ⟨hX, hf⟩ := IntOp.andi_eq_one.mp h2
  exact ⟨real2 (of_all _ _ _ _ hX), real2 (of_all _ _ _ _ hf), real2 (of_all _ _ _ _ hd)⟩

end Cert.Pre_finite.Gen

end
-- ==== Proof.Cases2.lean ====
module

public import proofs.«01_k».proof.Proof.Gen.Kernel2Ideal.Frame
public import Idealize.ShloMosaic.Lib.Pipeline.Value
public import Idealize.ShloMosaic.Lib.Tactic

@[expose] public section

noncomputable section

/-! What a grid point leaves in the accumulator and in its block of the result. -/

namespace Cert.Kernel2Ideal.Gen

open Idealize.ShloMosaic Idealize.ShloMosaic.TcCoe Idealize.ShloMosaic.Tactic

variable {F : FTy → Type} [FloatOps F]

theorem zero2 : (![0, 0] : Fin 2 → ℕ) = fun _ => 0 := funext fun a => by fin_cases a <;> rfl
theorem zero3 : (![0, 0, 0] : Fin 3 → ℕ) = fun _ => 0 := funext fun a => by fin_cases a <;> rfl

variable (c : Dev nD) (i : grid0.Coords) {arg3 : Memref sig .tc .vmem S2048x1024 .bf16} {arg4 arg5 : Memref sig .tc .vmem S2048x1408 .bf16}
  (harg3 : arg3.IsWhole) (harg4 : arg4.IsWhole) (harg5 : arg5.IsWhole) {arg6 : Memref sig .tc .vmem S1x1024x1408 .bf16}
  {arg7 : Memref sig .tc .vmem S1024x1408 .f32} (harg6 : arg6.IsWhole) (harg7 : arg7.IsWhole)
  (x0 : Vec F S2048x1024 .bf16) (x1 x2 : Vec F S2048x1408 .bf16) (s : Vec F S1024x1408 .f32)

theorem acc_A (hc0 : cond0_0 i) (hc1 : cond0_1 i) (hc2 : ¬cond0_2 i) (hc3 : ¬cond0_3 i) :
    sout0_A_0 c i arg3 harg3 arg4 harg4 arg5 harg5 arg6 harg6 arg7 harg7 hc0 hc1 hc2 hc3 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 hc2 hc3 x0 x1 x2)]
  unfold kernelRun0_A
  dsimp only
  sl_unfold_words
  rw [View.canon_cons_unit_zero (S := S1024x1408) zero2, View.readCov_unit_zero (S := S1024x1408) _ zero2]
  simp only [View.readAt_eq_ld, harg3.read_unread, harg4.read_unread, View.ld_unit_zero (S := S2048x1024) zero2, View.ld_unit_zero (S := S2048x1408) zero2]

theorem acc_B (hc0 : ¬cond0_0 i) (hc1 : cond0_1 i) (hc2 : ¬cond0_2 i) (hc3 : ¬cond0_3 i) :
    sout0_B_0 c i arg3 harg3 arg4 harg4 arg5 harg5 arg6 harg6 arg7 harg7 hc0 hc1 hc2 hc3 x0 x1 x2 s = k0_pay2 s x0 x1 := by
  unfold sout0_B_0
  rw [View.read_writes_eq_canon _ _ _ (scover0_B_0 c i arg3 harg3 arg4 harg4 arg5 harg5 arg6 harg6 arg7 harg7 hc0 hc1 hc2 hc3 x0 x1 x2 s)]
  unfold kernelRun0_B
  dsimp only
  sl_unfold_words
  rw [View.canon_unit_zero (S := S1024x1408) zero2]
  simp only [View.readAt_eq_ld, harg3.read_unread, harg4.read_unread, harg7.read_unread, View.ld_unit_zero (S := S2048x1024) zero2, View.ld_unit_zero (S := S2048x1408) zero2, View.ld_unit_zero (S := S1024x1408) zero2]

theorem acc_C (hc0 : ¬cond0_0 i) (hc1 : cond0_1 i) (hc2 : ¬cond0_2 i) (hc3 : cond0_3 i) :
    sout0_C_0 c i arg3 harg3 arg4 harg4 arg5 harg5 arg6 harg6 arg7 harg7 hc0 hc1 hc2 hc3 x0 x1 x2 s = k0_pay2 s x0 x1 := by
  unfold sout0_C_0
  rw [View.read_writes_eq_canon _ _ _ (scover0_C_0 c i arg3 harg3 arg4 harg4 arg5 harg5 arg6 harg6 arg7 harg7 hc0 hc1 hc2 hc3 x0 x1 x2 s)]
  unfold kernelRun0_C
  dsimp only
  sl_unfold_words
  rw [View.canon_unit_zero (S := S1024x1408) zero2]
  simp only [View.readAt_eq_ld, harg3.read_unread, harg4.read_unread, harg7.read_unread, View.ld_unit_zero (S := S2048x1024) zero2, View.ld_unit_zero (S := S2048x1408) zero2, View.ld_unit_zero (S := S1024x1408) zero2]

theorem out_C (hc0 : ¬cond0_0 i) (hc1 : cond0_1 i) (hc2 : ¬cond0_2 i) (hc3 : cond0_3 i) :
    out0_C_3 c i arg3 harg3 arg4 harg4 arg5 harg5 arg6 harg6 arg7 harg7 hc0 hc1 hc2 hc3 x0 x1 x2 s = k0_pay4 (k0_pay2 s x0 x1) := by
  unfold out0_C_3
  rw [View.read_writes_eq_canon _ _ _ (cover0_C_3 c i arg3 harg3 arg4 harg4 arg5 harg5 arg6 harg6 arg7 harg7 hc0 hc1 hc2 hc3 x0 x1 x2 s)]
  unfold kernelRun0_C
  dsimp only
  sl_unfold_words
  rw [View.canon_unit_zero (S := S1x1024x1408) zero3, View.readCov_unit_zero (S := S1024x1408) _ zero2]
  simp only [View.readAt_eq_ld, harg3.read_unread, harg4.read_unread, harg7.read_unread, View.ld_unit_zero (S := S2048x1024) zero2, View.ld_unit_zero (S := S2048x1408) zero2, View.ld_unit_zero (S := S1024x1408) zero2]

theorem acc_D (hc0 : cond0_0 i) (hc1 : ¬cond0_1 i) (hc2 : cond0_2 i) (hc3 : ¬cond0_3 i) :
    sout0_D_0 c i arg3 harg3 arg4 harg4 arg5 harg5 arg6 harg6 arg7 harg7 hc0 hc1 hc2 hc3 x0 x1 x2 = k0_pay3 (k0_pay1 (F := F)) x0 x2 := by
  unfold sout0_D_0
  rw [View.read_writes_eq_canon _ _ _ (scover0_D_0 c i arg3 harg3 arg4 harg4 arg5 harg5 arg6 harg6 arg7 harg7 hc0 hc1 hc2 hc3 x0 x1 x2)]
  unfold kernelRun0_D
  dsimp only
  sl_unfold_words
  rw [View.canon_cons_unit_zero (S := S1024x1408) zero2, View.readCov_unit_zero (S := S1024x1408) _ zero2]
  simp only [View.readAt_eq_ld, harg3.read_unread, harg5.read_unread, View.ld_unit_zero (S := S2048x1024) zero2, View.ld_unit_zero (S := S2048x1408) zero2]

theorem acc_E (hc0 : ¬cond0_0 i) (hc1 : ¬cond0_1 i) (hc2 : cond0_2 i) (hc3 : ¬cond0_3 i) :
    sout0_E_0 c i arg3 harg3 arg4 harg4 arg5 harg5 arg6 harg6 arg7 harg7 hc0 hc1 hc2 hc3 x0 x1 x2 s = k0_pay3 s x0 x2 := by
  unfold sout0_E_0
  rw [View.read_writes_eq_canon _ _ _ (scover0_E_0 c i arg3 harg3 arg4 harg4 arg5 harg5 arg6 harg6 arg7 harg7 hc0 hc1 hc2 hc3 x0 x1 x2 s)]
  unfold kernelRun0_E
  dsimp only
  sl_unfold_words
  rw [View.canon_unit_zero (S := S1024x1408) zero2]
  simp only [View.readAt_eq_ld, harg3.read_unread, harg5.read_unread, harg7.read_unread, View.ld_unit_zero (S := S2048x1024) zero2, View.ld_unit_zero (S := S2048x1408) zero2, View.ld_unit_zero (S := S1024x1408) zero2]

theorem acc_F (hc0 : ¬cond0_0 i) (hc1 : ¬cond0_1 i) (hc2 : cond0_2 i) (hc3 : cond0_3 i) :
    sout0_F_0 c i arg3 harg3 arg4 harg4 arg5 harg5 arg6 harg6 arg7 harg7 hc0 hc1 hc2 hc3 x0 x1 x2 s = k0_pay3 s x0 x2 := by
  unfold sout0_F_0
  rw [View.read_writes_eq_canon _ _ _ (scover0_F_0 c i arg3 harg3 arg4 harg4 arg5 harg5 arg6 harg6 arg7 harg7 hc0 hc1 hc2 hc3 x0 x1 x2 s)]
  unfold kernelRun0_F
  dsimp only
  sl_unfold_words
  rw [View.canon_unit_zero (S := S1024x1408) zero2]
  simp only [View.readAt_eq_ld, harg3.read_unread, harg5.read_unread, harg7.read_unread, View.ld_unit_zero (S := S2048x1024) zero2, View.ld_unit_zero (S := S2048x1408) zero2, View.ld_unit_zero (S := S1024x1408) zero2]

theorem out_F (hc0 : ¬cond0_0 i) (hc1 : ¬cond0_1 i) (hc2 : cond0_2 i) (hc3 : cond0_3 i) :
    out0_F_3 c i arg3 harg3 arg4 harg4 arg5 harg5 arg6 harg6 arg7 harg7 hc0 hc1 hc2 hc3 x0 x1 x2 s = k0_pay4 (k0_pay3 s x0 x2) := by
  unfold out0_F_3
  rw [View.read_writes_eq_canon _ _ _ (cover0_F_3 c i arg3 harg3 arg4 harg4 arg5 harg5 arg6 harg6 arg7 harg7 hc0 hc1 hc2 hc3 x0 x1 x2 s)]
  unfold kernelRun0_F
  dsimp only
  sl_unfold_words
  rw [View.canon_unit_zero (S := S1x1024x1408) zero3, View.readCov_unit_zero (S := S1024x1408) _ zero2]
  simp only [View.readAt_eq_ld, harg3.read_unread, harg5.read_unread, harg7.read_unread, View.ld_unit_zero (S := S2048x1024) zero2, View.ld_unit_zero (S := S2048x1408) zero2, View.ld_unit_zero (S := S1024x1408) zero2]

end Cert.Kernel2Ideal.Gen

end
-- ==== Proof.Sums.lean ====
module

public import Idealize.ShloMosaic.Lib.Pointwise

@[expose] public section

noncomputable section

/-! Sums over blocks of a product's inner dimension, and the entries of an array by their coordinates. -/

namespace Cert.Prod

open Idealize.ShloMosaic

/-- The entry at a row and a column, zero outside of the array. -/
def entry {n k : ℕ} (x : (⟨2, ![n, k]⟩ : Shape).Idx → EReal) (r a : ℕ) : EReal :=
  if h : r < n ∧ a < k then x (ix2 ⟨r, h.1⟩ ⟨a, h.2⟩) else 0

theorem entry_ix {n k : ℕ} (x : (⟨2, ![n, k]⟩ : Shape).Idx → EReal) (r : Fin n) (a : Fin k) (r' a' : ℕ) (hr : r.val = r') (ha : a.val = a') :
    x (ix2 r a) = entry x r' a' := by
  subst hr ha
  unfold entry
  rw [dif_pos (And.intro r.isLt a.isLt)]

/-- A sum over one more block. -/
theorem sum_next (w n : ℕ) (f : ℕ → EReal) :
    (∑ e ∈ Finset.range (w * n), f e) + ∑ e : Fin w, f (w * n + e) = ∑ e ∈ Finset.range (w * (n + 1)), f e := by
  rw [Nat.mul_succ, Finset.sum_range_add, Fin.sum_univ_eq_sum_range fun e => f (w * n + e)]

/-- A sum over the first block. -/
theorem sum_first (w : ℕ) (f : ℕ → EReal) : 0 + ∑ e : Fin w, f e = ∑ e ∈ Finset.range (w * (0 + 1)), f e := by
  rw [zero_add, zero_add, mul_one, Fin.sum_univ_eq_sum_range f]

/-- The columns of two arrays side by side. -/
def beside {n k : ℕ} (x y : (⟨2, ![n, k]⟩ : Shape).Idx → EReal) (r a : ℕ) : EReal := if a < k then entry x r a else entry y r (a - k)

theorem beside_lt {n k : ℕ} (x y : (⟨2, ![n, k]⟩ : Shape).Idx → EReal) (r a : ℕ) (h : a < k) : beside x y r a = entry x r a := if_pos h
theorem beside_ge {n k : ℕ} (x y : (⟨2, ![n, k]⟩ : Shape).Idx → EReal) (r a : ℕ) (h : ¬a < k) : beside x y r a = entry y r (a - k) := if_neg h

/-- A sum over the columns of two arrays side by side, half by half. -/
theorem sum_beside {n k : ℕ} (x y : (⟨2, ![n, k]⟩ : Shape).Idx → EReal) (r : ℕ) (f : ℕ → EReal) :
    ∑ e ∈ Finset.range (k + k), beside x y r e * f e
      = (∑ e : Fin k, entry x r e * f e) + ∑ e : Fin k, entry y r e * f (k + e) := by
  rw [Finset.sum_range_add, ← Fin.sum_univ_eq_sum_range (fun e => beside x y r e * f e) k,
    ← Fin.sum_univ_eq_sum_range (fun e => beside x y r (k + e) * f (k + e)) k]
  refine congrArg₂ _ (Finset.sum_congr rfl fun e _ => ?_) (Finset.sum_congr rfl fun e _ => ?_)
  · unfold beside
    rw [if_pos e.isLt]
  · unfold beside
    rw [if_neg (by omega), Nat.add_sub_cancel_left]

end Cert.Prod

end
-- ==== Proof.Values2.lean ====
module

public import proofs.«01_k».proof.Proof.Cases2
public import proofs.«01_k».proof.Proof.Sums
public import proofs.«01_k».proof.Proof.Gen.Reference2Ideal.Run
public import Idealize.ShloMosaic.Lib.Pipeline.ValueKit

@[expose] public section

set_option maxRecDepth 16384

noncomputable section

/-! The gradient of the up projection's weights, the product of the transposed input with the gradients of the two
halves: the kernel's result and the reference's. -/

namespace Cert.Kernel2Ideal.Gen

open Idealize.ShloMosaic Idealize.ShloMosaic.TcCoe Idealize.ShloMosaic.Tactic Idealize.ShloMosaic.StableHlo Idealize.SL.Sem
open Cert.Prod

theorem idx : ∀ t : Fin cfg0.N, win0_0.index t = ![t.val % 4, t.val / 32]
    ∧ win0_1.index t = (if t.val / 4 % 8 ≤ 3 then ![t.val % 4, t.val / 4 % 8] else ![3, 3])
    ∧ win0_2.index t = (if t.val / 4 % 8 ≤ 3 then ![0, 0] else ![t.val % 4, t.val / 4 % 8 - 4])
    ∧ win0_3.index t = ![t.val / 4 % 8, t.val / 32, 0] :=
  (by decide +kernel : ∀ t : Fin grid0.N, win0_0.index t = ![t.val % 4, t.val / 32]
    ∧ win0_1.index t = (if t.val / 4 % 8 ≤ 3 then ![t.val % 4, t.val / 4 % 8] else ![3, 3])
    ∧ win0_2.index t = (if t.val / 4 % 8 ≤ 3 then ![0, 0] else ![t.val % 4, t.val / 4 % 8 - 4])
    ∧ win0_3.index t = ![t.val / 4 % 8, t.val / 32, 0])

theorem idx_1 (t : Fin cfg0.N) (h : t.val / 4 % 8 ≤ 3) : win0_1.index t = ![t.val % 4, t.val / 4 % 8] := (idx t).2.1.trans (if_pos h)
theorem idx_2 (t : Fin cfg0.N) (h : 4 ≤ t.val / 4 % 8) : win0_2.index t = ![t.val % 4, t.val / 4 % 8 - 4] :=
  (idx t).2.2.1.trans (if_neg (by omega))

theorem point_lt (t : Fin cfg0.N) : t.val < 64 := t.isLt.trans_eq (by decide +kernel)

variable (m : (ℓ : Loc nD τ sig) → Buf (Elt Ideal) ℓ) (ρ : Dev nD → PrngReg) (c : Dev nD)

/-- The argument arrays. -/
abbrev aH : FVec Ideal S8192x2048 .bf16 := m ((c.tc : Thread nD τ).loc main_arg0)
abbrev aG : FVec Ideal S8192x5632 .bf16 := m ((c.tc : Thread nD τ).loc main_arg1)
abbrev aV : FVec Ideal S8192x5632 .bf16 := m ((c.tc : Thread nD τ).loc main_arg2)

theorem iblk_0 (t : Fin cfg0.N) (e : Fin 2048) (a : Fin 1024) :
    iblk m c 0 t (ix2 e a) = entry (aH m c) (2048 * (t.val % 4) + e) (1024 * (t.val / 32) + a) := by
  have := point_lt t
  rw [← entry_ix (aH m c) ⟨2048 * (t.val % 4) + e, by omega⟩ ⟨1024 * (t.val / 32) + a, by omega⟩ _ _ rfl rfl]
  blk_ext [iblk, V_main_arg0, idx t]
theorem iblk_1 (t : Fin cfg0.N) (h : t.val / 4 % 8 ≤ 3) (e : Fin 2048) (b : Fin 1408) :
    iblk m c 1 t (ix2 e b) = beside (aG m c) (aV m c) (2048 * (t.val % 4) + e) (1408 * (t.val / 4 % 8) + b) := by
  have := point_lt t
  unfold beside
  rw [if_pos (by omega), ← entry_ix (aG m c) ⟨2048 * (t.val % 4) + e, by omega⟩ ⟨1408 * (t.val / 4 % 8) + b, by omega⟩ _ _ rfl rfl]
  blk_ext [iblk, V_main_arg1, idx_1 t h]
theorem iblk_2 (t : Fin cfg0.N) (h : 4 ≤ t.val / 4 % 8) (e : Fin 2048) (b : Fin 1408) :
    iblk m c 2 t (ix2 e b) = beside (aG m c) (aV m c) (2048 * (t.val % 4) + e) (1408 * (t.val / 4 % 8) + b) := by
  have := point_lt t
  unfold beside
  rw [if_neg (by omega), ← entry_ix (aV m c) ⟨2048 * (t.val % 4) + e, by omega⟩ ⟨1408 * (t.val / 4 % 8 - 4) + b, by omega⟩ _ _ rfl (by simp only; omega)]
  blk_ext [iblk, V_main_arg2, idx_2 t h]

theorem pay1_val (a : Fin 1024) (b : Fin 1408) : k0_pay1 (F := Ideal) (ix2 a b) = 0 := by
  pointwise [k0_pay1]
theorem pay2_val (s : FVec Ideal S1024x1408 .f32) (x : FVec Ideal S2048x1024 .bf16) (y : FVec Ideal S2048x1408 .bf16) (a : Fin 1024) (b : Fin 1408) :
    k0_pay2 (F := Ideal) s x y (ix2 a b) = s (ix2 a b) + ∑ e : Fin 2048, x (ix2 e a) * y (ix2 e b) := by
  pointwise [k0_pay2]
theorem pay3_val (s : FVec Ideal S1024x1408 .f32) (x : FVec Ideal S2048x1024 .bf16) (y : FVec Ideal S2048x1408 .bf16) (a : Fin 1024) (b : Fin 1408) :
    k0_pay3 (F := Ideal) s x y (ix2 a b) = s (ix2 a b) + ∑ e : Fin 2048, x (ix2 e a) * y (ix2 e b) := by
  pointwise [k0_pay3]
theorem pay4_val (s : FVec Ideal S1024x1408 .f32) (a : Fin 1024) (b : Fin 1408) :
    k0_pay4 (F := Ideal) s (ix3 (0 : Fin 1) a b) = s (ix2 a b) := by
  pointwise [k0_pay4]

/-- A column of the input times a column of the two halves, over the first rows. -/
def part (n a b : ℕ) : EReal := ∑ e ∈ Finset.range n, entry (aH m c) e a * beside (aG m c) (aV m c) e b

theorem part_next (n k a b : ℕ) (hk : k = n + 1) : part m c (2048 * n) a b
    + ∑ e : Fin 2048, entry (aH m c) (2048 * n + e) a * beside (aG m c) (aV m c) (2048 * n + e) b = part m c (2048 * k) a b := by
  subst hk
  exact sum_next 2048 n fun e => entry (aH m c) e a * beside (aG m c) (aV m c) e b

theorem part_zero (a b : ℕ) : part m c (2048 * 0) a b = 0 := by
  unfold part
  rw [Nat.mul_zero, Finset.range_zero, Finset.sum_empty]

/-- A step in the first half. -/
theorem step_fst (t : Fin cfg0.N) (h : t.val / 4 % 8 ≤ 3) (s : FVec Ideal S1024x1408 .f32) (a : Fin 1024) (b : Fin 1408)
    (hs : s (ix2 a b) = part m c (2048 * (t.val % 4)) (1024 * (t.val / 32) + a) (1408 * (t.val / 4 % 8) + b)) :
    k0_pay2 (F := Ideal) s (iblk m c 0 t) (iblk m c 1 t) (ix2 a b)
      = part m c (2048 * (t.val % 4 + 1)) (1024 * (t.val / 32) + a) (1408 * (t.val / 4 % 8) + b) := by
  rw [pay2_val, hs, ← part_next m c _ _ _ _ rfl]
  exact congrArg _ (Finset.sum_congr rfl fun e _ => by rw [iblk_0 m c t, iblk_1 m c t h])

/-- A step in the second half. -/
theorem step_snd (t : Fin cfg0.N) (h : 4 ≤ t.val / 4 % 8) (s : FVec Ideal S1024x1408 .f32) (a : Fin 1024) (b : Fin 1408)
    (hs : s (ix2 a b) = part m c (2048 * (t.val % 4)) (1024 * (t.val / 32) + a) (1408 * (t.val / 4 % 8) + b)) :
    k0_pay3 (F := Ideal) s (iblk m c 0 t) (iblk m c 2 t) (ix2 a b)
      = part m c (2048 * (t.val % 4 + 1)) (1024 * (t.val / 32) + a) (1408 * (t.val / 4 % 8) + b) := by
  rw [pay3_val, hs, ← part_next m c _ _ _ _ rfl]
  exact congrArg _ (Finset.sum_congr rfl fun e _ => by rw [iblk_0 m c t, iblk_2 m c t h])

theorem acc_first (t : Fin cfg0.N) (h : t.val % 4 = 0) (a : Fin 1024) (b : Fin 1408) : (outsAt0 m c t.val t.isLt).2 (ix2 a b)
    = part m c (2048 * (t.val % 4 + 1)) (1024 * (t.val / 32) + a) (1408 * (t.val / 4 % 8) + b) := by
  have h0 : k0_pay1 (F := Ideal) (ix2 a b) = part m c (2048 * (t.val % 4)) (1024 * (t.val / 32) + a) (1408 * (t.val / 4 % 8) + b) := by
    rw [pay1_val, h, part_zero]
  by_cases h1 : t.val / 4 % 8 ≤ 3
  · rw [outsAt0_A m c t h h1 (by omega) (by omega)]
    dsimp only
    rw [acc_A]
    exact step_fst m c t h1 _ a b h0
  · rw [outsAt0_D m c t h h1 (by omega) (by omega)]
    dsimp only
    rw [acc_D]
    exact step_snd m c t (by omega) _ a b h0

/-- What the accumulator holds after every grid point. -/
theorem acc : ∀ (n : ℕ) (hn : n < cfg0.N) (a : Fin 1024) (b : Fin 1408),
    (outsAt0 m c n hn).2 (ix2 a b) = part m c (2048 * (n % 4 + 1)) (1024 * (n / 32) + a) (1408 * (n / 4 % 8) + b) := by
  intro n
  induction n with
  | zero => exact fun hn => acc_first m c ⟨0, hn⟩ rfl
  | succ n ih =>
    intro hn a b
    by_cases h0 : (n + 1) % 4 = 0
    · exact acc_first m c ⟨n + 1, hn⟩ h0 a b
    have hp := ih (Nat.lt_of_succ_lt hn) a b
    rw [show n % 4 + 1 = (n + 1) % 4 by omega, show n / 32 = (n + 1) / 32 by omega, show n / 4 = (n + 1) / 4 by omega] at hp
    by_cases h1 : (n + 1) / 4 % 8 ≤ 3
    · by_cases h3 : (n + 1) % 4 = 3
      · rw [outsAt0_C m c ⟨n + 1, hn⟩ h0 h1 (by simp only; omega) h3]
        dsimp only
        rw [acc_C]
        exact step_fst m c ⟨n + 1, hn⟩ h1 _ a b hp
      · rw [outsAt0_B m c ⟨n + 1, hn⟩ h0 h1 (by simp only; omega) h3]
        dsimp only
        rw [acc_B]
        exact step_fst m c ⟨n + 1, hn⟩ h1 _ a b hp
    · by_cases h3 : (n + 1) % 4 = 3
      · rw [outsAt0_F m c ⟨n + 1, hn⟩ h0 h1 (by simp only; omega) h3]
        dsimp only
        rw [acc_F]
        exact step_snd m c ⟨n + 1, hn⟩ (by simp only; omega) _ a b hp
      · rw [outsAt0_E m c ⟨n + 1, hn⟩ h0 h1 (by simp only; omega) h3]
        dsimp only
        rw [acc_E]
        exact step_snd m c ⟨n + 1, hn⟩ (by simp only; omega) _ a b hp

/-- The result's block after the last grid point of a block. -/
theorem out_val (t : Fin cfg0.N) (h : t.val % 4 = 3) (a : Fin 1024) (b : Fin 1408) :
    (outsAt0 m c t.val t.isLt).1 (ix3 (0 : Fin 1) a b) = part m c 8192 (1024 * (t.val / 32) + a) (1408 * (t.val / 4 % 8) + b) := by
  have hp := acc m c t.val t.isLt a b
  by_cases h1 : t.val / 4 % 8 ≤ 3
  · rw [outsAt0_C m c t (by omega) h1 (by omega) h] at hp ⊢
    dsimp only at hp ⊢
    rw [acc_C] at hp
    rw [out_C, pay4_val, hp, h]
  · rw [outsAt0_F m c t (by omega) h1 (by omega) h] at hp ⊢
    dsimp only at hp ⊢
    rw [acc_F] at hp
    rw [out_F, pay4_val, hp, h]

/-- The result: slabs of columns. -/
abbrev res : FVec Ideal S8x2048x1408 .bf16 := fun y => part m c 8192 (y 1).val (1408 * (y 0).val + (y 2).val)

theorem final : (dats m 0 c).arrAt 3 cfg0.N = res m c := by
  refine (dats m 0 c).arrAt_eq_of_covers 3 _ (by decide +kernel) fun t hfl y => ?_
  have h3 : t.val % 4 = 3 := (flush0_3 t).mp hfl
  blk_simp
  rw [after0_3]
  change S1x1024x1408.Idx at y
  idx_vars y
  have hy : y0 = 0 := Subsingleton.elim _ _
  subst hy
  rw [out_val m c t h3]
  unfold res
  blk_simp [idx t]
  rw [Nat.mul_comm 1024 (t.val / 32)]
  rfl

/-- The kernel's run: its result and its arguments. -/
theorem run_values : θ_run defs (onTc (τ := τ) (main (F := Ideal))) ⟨m, fun _ => 0, ρ⟩ fun r => ∀ c : Dev nD,
    r.2.mem ((c.tc : Thread nD τ).loc main_v0) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 3).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.Kernel2Ideal.Gen

namespace Cert.Reference2Ideal.Value

open Cert.Reference2Ideal Cert.Reference2Ideal.Gen Idealize.ShloMosaic Idealize.ShloMosaic.TcCoe Idealize.ShloMosaic.StableHlo
open Cert.Prod

/-- The reference's result at an entry. -/
theorem ref_val (h : FVec Ideal S8192x2048 .bf16) (g v : FVec Ideal S8192x5632 .bf16) (q : Fin 8) (a : Fin 2048) (b : Fin 1408) :
    (transpose S8x2048x1408 [1, 0, 2] (shapeCast _ (truncf .bf16 (transpose S2048x11264 [1, 0] (Host.dotGeneral (F := Ideal) dot_S8192x11264_S8192x2048_S11264x2048_0_0_1_1_n_n none (concatenate S8192x11264 1 [⟨S8192x5632, (extf .f32 g bitsLt_bf16_f32)⟩, ⟨S8192x5632, (extf .f32 v bitsLt_bf16_f32)⟩] concatenates_S8192x5632_S8192x5632_S8192x11264_d1) (extf .f32 h bitsLt_bf16_f32)) transposes_S11264x2048_S2048x11264_1_0) bitsLt_bf16_f32) shapeCasts_S2048x11264_S2048x8x1408) transposes_S2048x8x1408_S8x2048x1408_1_0_2 : FVec Ideal S8x2048x1408 .bf16) (ix3 q a b)
      = ∑ e ∈ Finset.range 8192, entry h e a * beside g v e (1408 * q + b) := by
  rw [← Fin.sum_univ_eq_sum_range (fun e => entry h e a * beside g v e (1408 * q + b)) 8192]
  pointwise
  refine Finset.sum_congr rfl fun e _ => ?_
  rw [EReal.mul_comm, entry_ix h e a _ _ rfl rfl]
  refine congrArg _ ?_
  by_cases hb : q.val * 1408 + b.val < 5632
  · rw [dif_pos hb]
    exact (entry_ix g e ⟨q.val * 1408 + b.val, hb⟩ _ _ rfl (by simp only; omega)).trans (beside_lt g v e _ (by omega)).symm
  · rw [dif_neg hb]
    exact (entry_ix v e ⟨q.val * 1408 + b.val - 5632, by omega⟩ _ _ rfl (by simp only; omega)).trans (beside_ge g v e _ (by omega)).symm

end Cert.Reference2Ideal.Value

end
-- ==== Proof.Cases3.lean ====
module

public import proofs.«01_k».proof.Proof.Gen.Kernel3Ideal.Frame
public import Idealize.ShloMosaic.Lib.Pipeline.Value
public import Idealize.ShloMosaic.Lib.Tactic

@[expose] public section

noncomputable section

/-! What a grid point leaves in the accumulator and in its block of the result. -/

namespace Cert.Kernel3Ideal.Gen

open Idealize.ShloMosaic Idealize.ShloMosaic.TcCoe Idealize.ShloMosaic.Tactic

variable {F : FTy → Type} [FloatOps F]

theorem zero2 : (![0, 0] : Fin 2 → ℕ) = fun _ => 0 := funext fun a => by fin_cases a <;> rfl

variable (c : Dev nD) (i : grid0.Coords) {arg3 arg4 arg5 : Memref sig .tc .vmem S1024x2816 .bf16} (harg3 : arg3.IsWhole)
  (harg4 : arg4.IsWhole) (harg5 : arg5.IsWhole) {arg6 arg7 : Memref sig .tc .vmem S1024x1024 .f32} (harg6 : arg6.IsWhole) (harg7 : arg7.IsWhole)
  (x0 x1 x2 : Vec F S1024x2816 .bf16) (s : Vec F S1024x1024 .f32)

theorem acc_A (hc0 : cond0_0 i) (hc1 : cond0_1 i) (hc2 : ¬cond0_2 i) (hc3 : ¬cond0_3 i) :
    sout0_A_0 c i arg3 harg3 arg4 harg4 arg5 harg5 arg6 harg6 arg7 harg7 hc0 hc1 hc2 hc3 x0 x1 x2 = k0_pay2 (k0_pay1 (F := F)) x0 x2 := by
  unfold sout0_A_0
  rw [View.read_writes_eq_canon _ _ _ (scover0_A_0 c i arg3 harg3 arg4 harg4 arg5 harg5 arg6 harg6 arg7 harg7 hc0 hc1 hc2 hc3 x0 x1 x2)]
  unfold kernelRun0_A
  dsimp only
  sl_unfold_words
  rw [View.canon_cons_unit_zero (S := S1024x1024) zero2, View.readCov_unit_zero (S := S1024x1024) _ zero2]
  simp only [View.readAt_eq_ld, harg3.read_unread, harg5.read_unread, View.ld_unit_zero (S := S1024x2816) zero2]

theorem acc_B (hc0 : ¬cond0_0 i) (hc1 : cond0_1 i) (hc2 : ¬cond0_2 i) (hc3 : ¬cond0_3 i) :
    sout0_B_0 c i arg3 harg3 arg4 harg4 arg5 harg5 arg6 harg6 arg7 harg7 hc0 hc1 hc2 hc3 x0 x1 x2 s = k0_pay2 s x0 x2 := by
  unfold sout0_B_0
  rw [View.read_writes_eq_canon _ _ _ (scover0_B_0 c i arg3 harg3 arg4 harg4 arg5 harg5 arg6 harg6 arg7 harg7 hc0 hc1 hc2 hc3 x0 x1 x2 s)]
  unfold kernelRun0_B
  dsimp only
  sl_unfold_words
  rw [View.canon_unit_zero (S := S1024x1024) zero2]
  simp only [View.readAt_eq_ld, harg3.read_unread, harg5.read_unread, harg7.read_unread, View.ld_unit_zero (S := S1024x2816) zero2, View.ld_unit_zero (S := S1024x1024) zero2]

theorem acc_C (hc0 : ¬cond0_0 i) (hc1 : ¬cond0_1 i) (hc2 : cond0_2 i) (hc3 : ¬cond0_3 i) :
    sout0_C_0 c i arg3 harg3 arg4 harg4 arg5 harg5 arg6 harg6 arg7 harg7 hc0 hc1 hc2 hc3 x0 x1 x2 s = k0_pay3 s x1 x2 := by
  unfold sout0_C_0
  rw [View.read_writes_eq_canon _ _ _ (scover0_C_0 c i arg3 harg3 arg4 harg4 arg5 harg5 arg6 harg6 arg7 harg7 hc0 hc1 hc2 hc3 x0 x1 x2 s)]
  unfold kernelRun0_C
  dsimp only
  sl_unfold_words
  rw [View.canon_unit_zero (S := S1024x1024) zero2]
  simp only [View.readAt_eq_ld, harg4.read_unread, harg5.read_unread, harg7.read_unread, View.ld_unit_zero (S := S1024x2816) zero2, View.ld_unit_zero (S := S1024x1024) zero2]

theorem acc_D (hc0 : ¬cond0_0 i) (hc1 : ¬cond0_1 i) (hc2 : cond0_2 i) (hc3 : cond0_3 i) :
    sout0_D_0 c i arg3 harg3 arg4 harg4 arg5 harg5 arg6 harg6 arg7 harg7 hc0 hc1 hc2 hc3 x0 x1 x2 s = k0_pay3 s x1 x2 := by
  unfold sout0_D_0
  rw [View.read_writes_eq_canon _ _ _ (scover0_D_0 c i arg3 harg3 arg4 harg4 arg5 harg5 arg6 harg6 arg7 harg7 hc0 hc1 hc2 hc3 x0 x1 x2 s)]
  unfold kernelRun0_D
  dsimp only
  sl_unfold_words
  rw [View.canon_unit_zero (S := S1024x1024) zero2]
  simp only [View.readAt_eq_ld, harg4.read_unread, harg5.read_unread, harg7.read_unread, View.ld_unit_zero (S := S1024x2816) zero2, View.ld_unit_zero (S := S1024x1024) zero2]

theorem out_D (hc0 : ¬cond0_0 i) (hc1 : ¬cond0_1 i) (hc2 : cond0_2 i) (hc3 : cond0_3 i) :
    out0_D_3 c i arg3 harg3 arg4 harg4 arg5 harg5 arg6 harg6 arg7 harg7 hc0 hc1 hc2 hc3 x0 x1 x2 s = k0_pay3 s x1 x2 := by
  unfold out0_D_3
  rw [View.read_writes_eq_canon _ _ _ (cover0_D_3 c i arg3 harg3 arg4 harg4 arg5 harg5 arg6 harg6 arg7 harg7 hc0 hc1 hc2 hc3 x0 x1 x2 s)]
  unfold kernelRun0_D
  dsimp only
  sl_unfold_words
  rw [View.canon_unit_zero (S := S1024x1024) zero2, View.readCov_unit_zero (S := S1024x1024) _ zero2]
  simp only [View.readAt_eq_ld, harg4.read_unread, harg5.read_unread, harg7.read_unread, View.ld_unit_zero (S := S1024x2816) zero2, View.ld_unit_zero (S := S1024x1024) zero2]

end Cert.Kernel3Ideal.Gen

end
-- ==== Proof.Values3.lean ====
module

public import proofs.«01_k».proof.Proof.Cases3
public import proofs.«01_k».proof.Proof.Sums
public import proofs.«01_k».proof.Proof.Gen.Reference3Ideal.Run
public import Idealize.ShloMosaic.Lib.Pipeline.ValueKit

@[expose] public section

set_option maxRecDepth 16384

noncomputable section

/-! The product of the gradient of the up projection's two halves with its weights: the kernel's result and the
reference's. -/

namespace Cert.Kernel3Ideal.Gen

open Idealize.ShloMosaic Idealize.ShloMosaic.TcCoe Idealize.ShloMosaic.Tactic Idealize.ShloMosaic.StableHlo Idealize.SL.Sem
open Cert.Prod

theorem idx : ∀ t : Fin cfg0.N, win0_0.index t = ![t.val / 8, min (t.val % 4) 1] ∧ win0_1.index t = ![t.val / 8, t.val % 4 - 2]
    ∧ win0_2.index t = ![t.val / 4 % 2, t.val % 4] ∧ win0_3.index t = ![t.val / 8, t.val / 4 % 2] :=
  (by decide +kernel : ∀ t : Fin grid0.N, win0_0.index t = ![t.val / 8, min (t.val % 4) 1] ∧ win0_1.index t = ![t.val / 8, t.val % 4 - 2]
    ∧ win0_2.index t = ![t.val / 4 % 2, t.val % 4] ∧ win0_3.index t = ![t.val / 8, t.val / 4 % 2])

theorem point_lt (t : Fin cfg0.N) : t.val < 64 := t.isLt.trans_eq (by decide +kernel)

variable (m : (ℓ : Loc nD τ sig) → Buf (Elt Ideal) ℓ) (ρ : Dev nD → PrngReg) (c : Dev nD)

/-- The argument arrays. -/
abbrev aG : FVec Ideal S8192x5632 .bf16 := m ((c.tc : Thread nD τ).loc main_arg0)
abbrev aV : FVec Ideal S8192x5632 .bf16 := m ((c.tc : Thread nD τ).loc main_arg1)
abbrev aW : FVec Ideal S2048x11264 .bf16 := m ((c.tc : Thread nD τ).loc main_arg2)

theorem iblk_0 (t : Fin cfg0.N) (h : t.val % 4 ≤ 1) (b : Fin 1024) (e : Fin 2816) :
    iblk m c 0 t (ix2 b e) = beside (aG m c) (aV m c) (1024 * (t.val / 8) + b) (2816 * (t.val % 4) + e) := by
  have := point_lt t
  unfold beside
  rw [if_pos (by omega), ← entry_ix (aG m c) ⟨1024 * (t.val / 8) + b, by omega⟩ ⟨2816 * (t.val % 4) + e, by omega⟩ _ _ rfl rfl]
  blk_ext [iblk, V_main_arg0, idx t]
theorem iblk_1 (t : Fin cfg0.N) (h : 2 ≤ t.val % 4) (b : Fin 1024) (e : Fin 2816) :
    iblk m c 1 t (ix2 b e) = beside (aG m c) (aV m c) (1024 * (t.val / 8) + b) (2816 * (t.val % 4) + e) := by
  have := point_lt t
  unfold beside
  rw [if_neg (by omega), ← entry_ix (aV m c) ⟨1024 * (t.val / 8) + b, by omega⟩ ⟨2816 * (t.val % 4 - 2) + e, by omega⟩ _ _ rfl (by simp only; omega)]
  blk_ext [iblk, V_main_arg1, idx t]
theorem iblk_2 (t : Fin cfg0.N) (b : Fin 1024) (e : Fin 2816) :
    iblk m c 2 t (ix2 b e) = entry (aW m c) (1024 * (t.val / 4 % 2) + b) (2816 * (t.val % 4) + e) := by
  have := point_lt t
  rw [← entry_ix (aW m c) ⟨1024 * (t.val / 4 % 2) + b, by omega⟩ ⟨2816 * (t.val % 4) + e, by omega⟩ _ _ rfl rfl]
  blk_ext [iblk, V_main_arg2, idx t]

theorem zero_word : Idealize.ShloMosaic.Ideal.ofBits .f32 0x00000000#32 = 0 := by simp [Idealize.ShloMosaic.Ideal.ofBits, Idealize.ShloMosaic.Ideal.ieee]

theorem pay1_val (a b : Fin 1024) : k0_pay1 (F := Ideal) (ix2 a b) = 0 := by
  pointwise [k0_pay1]
theorem pay2_val (s : FVec Ideal S1024x1024 .f32) (x y : FVec Ideal S1024x2816 .bf16) (a b : Fin 1024) :
    k0_pay2 (F := Ideal) s x y (ix2 a b) = s (ix2 a b) + ∑ e : Fin 2816, x (ix2 a e) * y (ix2 b e) := by
  pointwise [k0_pay2]
theorem pay3_val (s : FVec Ideal S1024x1024 .f32) (x y : FVec Ideal S1024x2816 .bf16) (a b : Fin 1024) :
    k0_pay3 (F := Ideal) s x y (ix2 a b) = s (ix2 a b) + ∑ e : Fin 2816, x (ix2 a e) * y (ix2 b e) := by
  pointwise [k0_pay3]

/-- A row of the two halves times a row of the weights, over the first columns. -/
def part (n r a : ℕ) : EReal := ∑ e ∈ Finset.range n, beside (aG m c) (aV m c) r e * entry (aW m c) a e

theorem part_next (n k r a : ℕ) (hk : k = n + 1) : part m c (2816 * n) r a
    + ∑ e : Fin 2816, beside (aG m c) (aV m c) r (2816 * n + e) * entry (aW m c) a (2816 * n + e) = part m c (2816 * k) r a := by
  subst hk
  exact sum_next 2816 n fun e => beside (aG m c) (aV m c) r e * entry (aW m c) a e

theorem part_zero (r a : ℕ) : part m c (2816 * 0) r a = 0 := by
  unfold part
  rw [Nat.mul_zero, Finset.range_zero, Finset.sum_empty]

/-- A step in the first half. -/
theorem step_fst (t : Fin cfg0.N) (h : t.val % 4 ≤ 1) (s : FVec Ideal S1024x1024 .f32) (a b : Fin 1024)
    (hs : s (ix2 a b) = part m c (2816 * (t.val % 4)) (1024 * (t.val / 8) + a) (1024 * (t.val / 4 % 2) + b)) :
    k0_pay2 (F := Ideal) s (iblk m c 0 t) (iblk m c 2 t) (ix2 a b)
      = part m c (2816 * (t.val % 4 + 1)) (1024 * (t.val / 8) + a) (1024 * (t.val / 4 % 2) + b) := by
  rw [pay2_val, hs, ← part_next m c _ _ _ _ rfl]
  exact congrArg _ (Finset.sum_congr rfl fun e _ => by rw [iblk_0 m c t h, iblk_2 m c t])

/-- A step in the second half. -/
theorem step_snd (t : Fin cfg0.N) (h : 2 ≤ t.val % 4) (s : FVec Ideal S1024x1024 .f32) (a b : Fin 1024)
    (hs : s (ix2 a b) = part m c (2816 * (t.val % 4)) (1024 * (t.val / 8) + a) (1024 * (t.val / 4 % 2) + b)) :
    k0_pay3 (F := Ideal) s (iblk m c 1 t) (iblk m c 2 t) (ix2 a b)
      = part m c (2816 * (t.val % 4 + 1)) (1024 * (t.val / 8) + a) (1024 * (t.val / 4 % 2) + b) := by
  rw [pay3_val, hs, ← part_next m c _ _ _ _ rfl]
  exact congrArg _ (Finset.sum_congr rfl fun e _ => by rw [iblk_1 m c t h, iblk_2 m c t])

theorem acc_first (t : Fin cfg0.N) (h : t.val % 4 = 0) (a b : Fin 1024) : (outsAt0 m c t.val t.isLt).2 (ix2 a b)
    = part m c (2816 * (t.val % 4 + 1)) (1024 * (t.val / 8) + a) (1024 * (t.val / 4 % 2) + b) := by
  rw [outsAt0_A m c t h (by omega) (by omega) (by omega)]
  dsimp only
  rw [acc_A]
  refine step_fst m c t (by omega) _ a b ?_
  rw [pay1_val, h, part_zero]

/-- What the accumulator holds after every grid point. -/
theorem acc : ∀ (n : ℕ) (hn : n < cfg0.N) (a b : Fin 1024),
    (outsAt0 m c n hn).2 (ix2 a b) = part m c (2816 * (n % 4 + 1)) (1024 * (n / 8) + a) (1024 * (n / 4 % 2) + b) := by
  intro n
  induction n with
  | zero => exact fun hn => acc_first m c ⟨0, hn⟩ rfl
  | succ n ih =>
    intro hn a b
    by_cases h0 : (n + 1) % 4 = 0
    · exact acc_first m c ⟨n + 1, hn⟩ h0 a b
    have hp := ih (Nat.lt_of_succ_lt hn) a b
    rw [show n % 4 + 1 = (n + 1) % 4 by omega, show n / 8 = (n + 1) / 8 by omega, show n / 4 = (n + 1) / 4 by omega] at hp
    by_cases h1 : (n + 1) % 4 ≤ 1
    · rw [outsAt0_B m c ⟨n + 1, hn⟩ h0 h1 (by simp only; omega) (by simp only; omega)]
      dsimp only
      rw [acc_B]
      exact step_fst m c ⟨n + 1, hn⟩ h1 _ a b hp
    by_cases h3 : (n + 1) % 4 = 3
    · rw [outsAt0_D m c ⟨n + 1, hn⟩ h0 h1 (by simp only; omega) h3]
      dsimp only
      rw [acc_D]
      exact step_snd m c ⟨n + 1, hn⟩ (by simp only; omega) _ a b hp
    · rw [outsAt0_C m c ⟨n + 1, hn⟩ h0 h1 (by simp only; omega) h3]
      dsimp only
      rw [acc_C]
      exact step_snd m c ⟨n + 1, hn⟩ (by simp only; omega) _ a b hp

/-- The result's block after the last grid point of a block. -/
theorem out_val (t : Fin cfg0.N) (h : t.val % 4 = 3) (a b : Fin 1024) :
    (outsAt0 m c t.val t.isLt).1 (ix2 a b) = part m c 11264 (1024 * (t.val / 8) + a) (1024 * (t.val / 4 % 2) + b) := by
  have hp := acc m c t.val t.isLt a b
  rw [outsAt0_D m c t (by omega) (by omega) (by omega) h] at hp ⊢
  dsimp only at hp ⊢
  rw [acc_D] at hp
  rw [out_D, hp, h]

/-- The result. -/
abbrev res : FVec Ideal S8192x2048 .f32 := fun y => part m c 11264 (y 0).val (y 1).val

theorem final : (dats m 0 c).arrAt 3 cfg0.N = res m c := by
  refine (dats m 0 c).arrAt_eq_of_covers 3 _ (by decide +kernel) fun t hfl y => ?_
  have h3 : t.val % 4 = 3 := (flush0_3 t).mp hfl
  blk_simp
  rw [after0_3]
  change S1024x1024.Idx at y
  idx_vars y
  rw [out_val m c t h3]
  unfold res
  blk_simp [idx t]
  rw [Nat.mul_comm 1024 (t.val / 8), Nat.mul_comm 1024 (t.val / 4 % 2)]

/-- The kernel's run: its result and its arguments. -/
theorem run_values : θ_run defs (onTc (τ := τ) (main (F := Ideal))) ⟨m, fun _ => 0, ρ⟩ fun r => ∀ c : Dev nD,
    r.2.mem ((c.tc : Thread nD τ).loc main_v0) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 3).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.Kernel3Ideal.Gen

namespace Cert.Reference3Ideal.Value

open Cert.Reference3Ideal Cert.Reference3Ideal.Gen Idealize.ShloMosaic Idealize.ShloMosaic.TcCoe Idealize.ShloMosaic.StableHlo
open Cert.Prod

/-- The reference's result at an entry. -/
theorem ref_val (g v : FVec Ideal S8192x5632 .bf16) (w : FVec Ideal S2048x11264 .bf16) (r : Fin 8192) (a : Fin 2048) :
    Host.dotGeneral (F := Ideal) dot_S8192x11264_S2048x11264_S8192x2048_1_1_0_0_n_n none (concatenate S8192x11264 1 [⟨S8192x5632, (extf .f32 g bitsLt_bf16_f32)⟩, ⟨S8192x5632, (extf .f32 v bitsLt_bf16_f32)⟩] concatenates_S8192x5632_S8192x5632_S8192x11264_d1) (extf .f32 w bitsLt_bf16_f32) (ix2 r a)
      = ∑ e ∈ Finset.range 11264, beside g v r e * entry w a e := by
  refine Eq.trans ?_ (sum_beside g v r fun e => entry w a e).symm
  pointwise
  refine congrArg₂ _ (Finset.sum_congr rfl fun e _ => ?_) (Finset.sum_congr rfl fun e _ => ?_)
  · rw [← entry_ix g r e _ _ rfl rfl, ← entry_ix w a ⟨e.val, by omega⟩ _ _ rfl rfl]
  · rw [← entry_ix v r e _ _ rfl rfl, ← entry_ix w a ⟨5632 + e.val, by omega⟩ _ _ rfl rfl]

end Cert.Reference3Ideal.Value

end
-- ==== Proof.Values4.lean ====
module

public import proofs.«01_k».proof.Proof.Sums
public import proofs.«01_k».proof.Proof.Gen.Kernel4Ideal.Frame
public import proofs.«01_k».proof.Proof.Gen.Reference4Ideal.Run
public import Idealize.ShloMosaic.Lib.Pipeline.Value
public import Idealize.ShloMosaic.Lib.Pipeline.ValueKit
public import Idealize.ShloMosaic.Lib.Tactic

@[expose] public section

set_option maxRecDepth 16384

noncomputable section

/-! The up projection: the kernel's result and the reference's. -/

namespace Cert.Kernel4Ideal.Gen

open Idealize.ShloMosaic Idealize.ShloMosaic.TcCoe Idealize.ShloMosaic.Tactic Idealize.ShloMosaic.StableHlo Idealize.SL.Sem
open Cert.Prod

theorem zero2 : (![0, 0] : Fin 2 → ℕ) = fun _ => 0 := funext fun a => by fin_cases a <;> rfl

/-- What a grid point leaves in its block of the result. -/
theorem out_block (x0 : Vec Ideal S1024x2048 .bf16) (x1 : Vec Ideal S2048x2816 .bf16) : out0_2 x0 x1 = k0_pay1 x0 x1 := by
  unfold out0_2
  rw [View.canon_unit_zero (S := S1024x2816) zero2, View.ld_unit_zero (S := S1024x2048) zero2, View.ld_unit_zero (S := S2048x2816) zero2]

theorem idx : ∀ t : Fin cfg0.N, win0_0.index t = ![t.val / 4, 0] ∧ win0_1.index t = ![0, t.val % 4] ∧ win0_2.index t = ![t.val / 4, t.val % 4] :=
  (by decide +kernel : ∀ t : Fin grid0.N, win0_0.index t = ![t.val / 4, 0] ∧ win0_1.index t = ![0, t.val % 4] ∧ win0_2.index t = ![t.val / 4, t.val % 4])

theorem point_lt (t : Fin cfg0.N) : t.val < 32 := t.isLt.trans_eq (by decide +kernel)

variable (m : (ℓ : Loc nD τ sig) → Buf (Elt Ideal) ℓ) (ρ : Dev nD → PrngReg) (c : Dev nD)

/-- The argument arrays. -/
abbrev aX : FVec Ideal S8192x2048 .bf16 := m ((c.tc : Thread nD τ).loc main_arg0)
abbrev aY : FVec Ideal S2048x11264 .bf16 := m ((c.tc : Thread nD τ).loc main_arg1)

theorem iblk_0 (t : Fin cfg0.N) (a : Fin 1024) (e : Fin 2048) :
    iblk m c 0 t (ix2 a e) = entry (aX m c) (1024 * (t.val / 4) + a) (e) := by
  have := point_lt t
  rw [← entry_ix (aX m c) ⟨1024 * (t.val / 4) + a, by omega⟩ e _ _ rfl rfl]
  blk_ext [iblk, V_main_arg0, idx t]
theorem iblk_1 (t : Fin cfg0.N) (b : Fin 2816) (e : Fin 2048) :
    iblk m c 1 t (ix2 e b) = entry (aY m c) (e) (2816 * (t.val % 4) + b) := by
  have := point_lt t
  rw [← entry_ix (aY m c) e ⟨2816 * (t.val % 4) + b, by omega⟩ _ _ rfl rfl]
  blk_ext [iblk, V_main_arg1, idx t]

theorem pay1_val (x : FVec Ideal S1024x2048 .bf16) (y : FVec Ideal S2048x2816 .bf16) (a : Fin 1024) (b : Fin 2816) :
    k0_pay1 (F := Ideal) x y (ix2 a b) = ∑ e : Fin 2048, x (ix2 a e) * y (ix2 e b) := by
  pointwise [k0_pay1]

/-- A sum of the product, over the first terms. -/
def part (n r l : ℕ) : EReal := ∑ e ∈ Finset.range n, entry (aX m c) r e * entry (aY m c) e l

/-- The result's block after a grid point. -/
theorem out_val (t : Fin cfg0.N) (a : Fin 1024) (b : Fin 2816) :
    (out0_2 (iblk m c 0 t) (iblk m c 1 t) : Vec Ideal S1024x2816 .bf16) (ix2 a b) = part m c 2048 (1024 * (t.val / 4) + a) (2816 * (t.val % 4) + b) := by
  rw [out_block, pay1_val]
  refine Eq.trans ?_ (Fin.sum_univ_eq_sum_range (fun e => entry (aX m c) (1024 * (t.val / 4) + a) e * entry (aY m c) e (2816 * (t.val % 4) + b)) 2048)
  exact Finset.sum_congr rfl fun e _ => by rw [iblk_0 m c t, iblk_1 m c t]

/-- The result. -/
abbrev res : FVec Ideal S8192x11264 .bf16 := fun y => part m c 2048 (y 0).val (y 1).val

theorem final : (dats m 0 c).arrAt 2 cfg0.N = res m c := by
  refine (dats m 0 c).arrAt_eq_of_covers 2 _ (by decide +kernel) fun t hfl y => ?_
  blk_simp
  rw [after0_2]
  change S1024x2816.Idx at y
  idx_vars y
  rw [out_val m c t]
  unfold res
  blk_simp [idx t]
  rw [Nat.mul_comm 1024 (t.val / 4), Nat.mul_comm 2816 (t.val % 4)]

/-- The kernel's run: its result and its arguments. -/
theorem run_values : θ_run defs (onTc (τ := τ) (main (F := Ideal))) ⟨m, fun _ => 0, ρ⟩ fun r => ∀ c : Dev nD,
    r.2.mem ((c.tc : Thread nD τ).loc main_v0) = res m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Kernel4Ideal.Gen

namespace Cert.Reference4Ideal.Value

open Cert.Reference4Ideal Cert.Reference4Ideal.Gen Idealize.ShloMosaic Idealize.ShloMosaic.TcCoe Idealize.ShloMosaic.StableHlo
open Cert.Prod

/-- The reference's result at an entry. -/
theorem ref_val (x : FVec Ideal S8192x2048 .bf16) (y : FVec Ideal S2048x11264 .bf16) (r : Fin 8192) (l : Fin 11264) :
    (truncf .bf16 (Host.dotGeneral (F := Ideal) dot_S8192x2048_S2048x11264_S8192x11264_1_0_0_1_n_n none (extf .f32 x bitsLt_bf16_f32) (extf .f32 y bitsLt_bf16_f32)) bitsLt_bf16_f32 : FVec Ideal S8192x11264 .bf16) (ix2 r l)
      = ∑ e ∈ Finset.range 2048, entry x r e * entry y e l := by
  refine Eq.trans ?_ (Fin.sum_univ_eq_sum_range (fun e => entry x r e * entry y e l) 2048)
  pointwise
  refine Finset.sum_congr rfl fun e _ => ?_
  rw [entry_ix x r e _ _ rfl rfl, entry_ix y e l _ _ rfl rfl]

end Cert.Reference4Ideal.Value

end
-- ==== Proof.Values5.lean ====
module

public import proofs.«01_k».proof.Proof.Sums
public import proofs.«01_k».proof.Proof.Gen.Kernel5Ideal.Frame
public import proofs.«01_k».proof.Proof.Gen.Reference5Ideal.Run
public import Idealize.ShloMosaic.Lib.Pipeline.Value
public import Idealize.ShloMosaic.Lib.Pipeline.ValueKit
public import Idealize.ShloMosaic.Lib.Tactic

@[expose] public section

set_option maxRecDepth 16384

noncomputable section

/-! The down projection: the kernel's result and the reference's. -/

namespace Cert.Kernel5Ideal.Gen

open Idealize.ShloMosaic Idealize.ShloMosaic.TcCoe Idealize.ShloMosaic.Tactic Idealize.ShloMosaic.StableHlo Idealize.SL.Sem
open Cert.Prod

theorem zero2 : (![0, 0] : Fin 2 → ℕ) = fun _ => 0 := funext fun a => by fin_cases a <;> rfl

/-- What a grid point leaves in its block of the result. -/
theorem out_block (x0 : Vec Ideal S1024x5632 .bf16) (x1 : Vec Ideal S5632x512 .bf16) : out0_2 x0 x1 = k0_pay1 x0 x1 := by
  unfold out0_2
  rw [View.canon_unit_zero (S := S1024x512) zero2, View.ld_unit_zero (S := S1024x5632) zero2, View.ld_unit_zero (S := S5632x512) zero2]

theorem idx : ∀ t : Fin cfg0.N, win0_0.index t = ![t.val / 4, 0] ∧ win0_1.index t = ![0, t.val % 4] ∧ win0_2.index t = ![t.val / 4, t.val % 4] :=
  (by decide +kernel : ∀ t : Fin grid0.N, win0_0.index t = ![t.val / 4, 0] ∧ win0_1.index t = ![0, t.val % 4] ∧ win0_2.index t = ![t.val / 4, t.val % 4])

theorem point_lt (t : Fin cfg0.N) : t.val < 32 := t.isLt.trans_eq (by decide +kernel)

variable (m : (ℓ : Loc nD τ sig) → Buf (Elt Ideal) ℓ) (ρ : Dev nD → PrngReg) (c : Dev nD)

/-- The argument arrays. -/
abbrev aX : FVec Ideal S8192x5632 .bf16 := m ((c.tc : Thread nD τ).loc main_arg0)
abbrev aY : FVec Ideal S5632x2048 .bf16 := m ((c.tc : Thread nD τ).loc main_arg1)

theorem iblk_0 (t : Fin cfg0.N) (a : Fin 1024) (e : Fin 5632) :
    iblk m c 0 t (ix2 a e) = entry (aX m c) (1024 * (t.val / 4) + a) (e) := by
  have := point_lt t
  rw [← entry_ix (aX m c) ⟨1024 * (t.val / 4) + a, by omega⟩ e _ _ rfl rfl]
  blk_ext [iblk, V_main_arg0, idx t]
theorem iblk_1 (t : Fin cfg0.N) (b : Fin 512) (e : Fin 5632) :
    iblk m c 1 t (ix2 e b) = entry (aY m c) (e) (512 * (t.val % 4) + b) := by
  have := point_lt t
  rw [← entry_ix (aY m c) e ⟨512 * (t.val % 4) + b, by omega⟩ _ _ rfl rfl]
  blk_ext [iblk, V_main_arg1, idx t]

theorem pay1_val (x : FVec Ideal S1024x5632 .bf16) (y : FVec Ideal S5632x512 .bf16) (a : Fin 1024) (b : Fin 512) :
    k0_pay1 (F := Ideal) x y (ix2 a b) = ∑ e : Fin 5632, x (ix2 a e) * y (ix2 e b) := by
  pointwise [k0_pay1]

/-- A sum of the product, over the first terms. -/
def part (n r l : ℕ) : EReal := ∑ e ∈ Finset.range n, entry (aX m c) r e * entry (aY m c) e l

/-- The result's block after a grid point. -/
theorem out_val (t : Fin cfg0.N) (a : Fin 1024) (b : Fin 512) :
    (out0_2 (iblk m c 0 t) (iblk m c 1 t) : Vec Ideal S1024x512 .f32) (ix2 a b) = part m c 5632 (1024 * (t.val / 4) + a) (512 * (t.val % 4) + b) := by
  rw [out_block, pay1_val]
  refine Eq.trans ?_ (Fin.sum_univ_eq_sum_range (fun e => entry (aX m c) (1024 * (t.val / 4) + a) e * entry (aY m c) e (512 * (t.val % 4) + b)) 5632)
  exact Finset.sum_congr rfl fun e _ => by rw [iblk_0 m c t, iblk_1 m c t]

/-- The result. -/
abbrev res : FVec Ideal S8192x2048 .f32 := fun y => part m c 5632 (y 0).val (y 1).val

theorem final : (dats m 0 c).arrAt 2 cfg0.N = res m c := by
  refine (dats m 0 c).arrAt_eq_of_covers 2 _ (by decide +kernel) fun t hfl y => ?_
  blk_simp
  rw [after0_2]
  change S1024x512.Idx at y
  idx_vars y
  rw [out_val m c t]
  unfold res
  blk_simp [idx t]
  rw [Nat.mul_comm 1024 (t.val / 4), Nat.mul_comm 512 (t.val % 4)]

/-- The kernel's run: its result and its arguments. -/
theorem run_values : θ_run defs (onTc (τ := τ) (main (F := Ideal))) ⟨m, fun _ => 0, ρ⟩ fun r => ∀ c : Dev nD,
    r.2.mem ((c.tc : Thread nD τ).loc main_v0) = res m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Kernel5Ideal.Gen

namespace Cert.Reference5Ideal.Value

open Cert.Reference5Ideal Cert.Reference5Ideal.Gen Idealize.ShloMosaic Idealize.ShloMosaic.TcCoe Idealize.ShloMosaic.StableHlo
open Cert.Prod

/-- The reference's result at an entry. -/
theorem ref_val (x : FVec Ideal S8192x5632 .bf16) (y : FVec Ideal S5632x2048 .bf16) (r : Fin 8192) (l : Fin 2048) :
    (Host.dotGeneral (F := Ideal) dot_S8192x5632_S5632x2048_S8192x2048_1_0_0_1_n_n none (extf .f32 x bitsLt_bf16_f32) (extf .f32 y bitsLt_bf16_f32) : FVec Ideal S8192x2048 .f32) (ix2 r l)
      = ∑ e ∈ Finset.range 5632, entry x r e * entry y e l := by
  refine Eq.trans ?_ (Fin.sum_univ_eq_sum_range (fun e => entry x r e * entry y e l) 5632)
  pointwise
  refine Finset.sum_congr rfl fun e _ => ?_
  rw [entry_ix x r e _ _ rfl rfl, entry_ix y e l _ _ rfl rfl]

end Cert.Reference5Ideal.Value

end
-- ==== Proof.Values6.lean ====
module

public import proofs.«01_k».proof.Proof.Sums
public import proofs.«01_k».proof.Proof.Gen.Kernel6Ideal.Frame
public import proofs.«01_k».proof.Proof.Gen.Reference6Ideal.Run
public import Idealize.ShloMosaic.Lib.Pipeline.Value
public import Idealize.ShloMosaic.Lib.Pipeline.ValueKit
public import Idealize.ShloMosaic.Lib.Tactic

@[expose] public section

set_option maxRecDepth 16384

noncomputable section

/-! The gradient of the down projection's weights: the kernel's result and the reference's. -/

namespace Cert.Kernel6Ideal.Gen

open Idealize.ShloMosaic Idealize.ShloMosaic.TcCoe Idealize.ShloMosaic.Tactic Idealize.ShloMosaic.StableHlo Idealize.SL.Sem
open Cert.Prod

theorem zero2 : (![0, 0] : Fin 2 → ℕ) = fun _ => 0 := funext fun a => by fin_cases a <;> rfl

section

variable {F : FTy → Type} [FloatOps F] (c : Dev nD) (i : grid0.Coords) {arg3 : Memref sig .tc .vmem S2048x1408 .bf16} {arg4 : Memref sig .tc .vmem S2048x1024 .bf16}
  (harg3 : arg3.IsWhole) (harg4 : arg4.IsWhole) {arg5 : Memref sig .tc .vmem S1408x1024 .bf16} {arg6 : Memref sig .tc .vmem S1408x1024 .f32}
  (harg5 : arg5.IsWhole) (harg6 : arg6.IsWhole) (x0 : Vec F S2048x1408 .bf16) (x1 : Vec F S2048x1024 .bf16) (s : Vec F S1408x1024 .f32)

/-! What a grid point leaves in the accumulator and in its block of the result. -/

theorem acc_A (hc0 : cond0_0 i) (hc1 : ¬cond0_1 i) :
    sout0_A_0 c i arg3 harg3 arg4 harg4 arg5 harg5 arg6 harg6 hc0 hc1 x0 x1 = k0_pay2 (k0_pay1 (F := F)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1408x1024) zero2, View.readCov_unit_zero (S := S1408x1024) _ zero2]
  simp only [View.readAt_eq_ld, harg3.read_unread, harg4.read_unread, View.ld_unit_zero (S := S2048x1408) zero2, View.ld_unit_zero (S := S2048x1024) zero2]

theorem acc_B (hc0 : ¬cond0_0 i) (hc1 : ¬cond0_1 i) :
    sout0_B_0 c i arg3 harg3 arg4 harg4 arg5 harg5 arg6 harg6 hc0 hc1 x0 x1 s = k0_pay2 s x0 x1 := by
  unfold sout0_B_0
  rw [View.read_writes_eq_canon _ _ _ (scover0_B_0 c i arg3 harg3 arg4 harg4 arg5 harg5 arg6 harg6 hc0 hc1 x0 x1 s)]
  unfold kernelRun0_B
  dsimp only
  sl_unfold_words
  rw [View.canon_unit_zero (S := S1408x1024) zero2]
  simp only [View.readAt_eq_ld, harg3.read_unread, harg4.read_unread, harg6.read_unread, View.ld_unit_zero (S := S2048x1408) zero2, View.ld_unit_zero (S := S2048x1024) zero2, View.ld_unit_zero (S := S1408x1024) zero2]

theorem acc_C (hc0 : ¬cond0_0 i) (hc1 : cond0_1 i) :
    sout0_C_0 c i arg3 harg3 arg4 harg4 arg5 harg5 arg6 harg6 hc0 hc1 x0 x1 s = k0_pay2 s x0 x1 := by
  unfold sout0_C_0
  rw [View.read_writes_eq_canon _ _ _ (scover0_C_0 c i arg3 harg3 arg4 harg4 arg5 harg5 arg6 harg6 hc0 hc1 x0 x1 s)]
  unfold kernelRun0_C
  dsimp only
  sl_unfold_words
  rw [View.canon_unit_zero (S := S1408x1024) zero2]
  simp only [View.readAt_eq_ld, harg3.read_unread, harg4.read_unread, harg6.read_unread, View.ld_unit_zero (S := S2048x1408) zero2, View.ld_unit_zero (S := S2048x1024) zero2, View.ld_unit_zero (S := S1408x1024) zero2]

theorem out_C (hc0 : ¬cond0_0 i) (hc1 : cond0_1 i) :
    out0_C_2 c i arg3 harg3 arg4 harg4 arg5 harg5 arg6 harg6 hc0 hc1 x0 x1 s = k0_pay3 (k0_pay2 s x0 x1) := by
  unfold out0_C_2
  rw [View.read_writes_eq_canon _ _ _ (cover0_C_2 c i arg3 harg3 arg4 harg4 arg5 harg5 arg6 harg6 hc0 hc1 x0 x1 s)]
  unfold kernelRun0_C
  dsimp only
  sl_unfold_words
  rw [View.canon_unit_zero (S := S1408x1024) zero2, View.readCov_unit_zero (S := S1408x1024) _ zero2]
  simp only [View.readAt_eq_ld, harg3.read_unread, harg4.read_unread, harg6.read_unread, View.ld_unit_zero (S := S2048x1408) zero2, View.ld_unit_zero (S := S2048x1024) zero2, View.ld_unit_zero (S := S1408x1024) zero2]

end

theorem idx : ∀ t : Fin cfg0.N, win0_0.index t = ![t.val % 4, t.val / 8] ∧ win0_1.index t = ![t.val % 4, t.val / 4 % 2] ∧ win0_2.index t = ![t.val / 8, t.val / 4 % 2] :=
  (by decide +kernel : ∀ t : Fin grid0.N, win0_0.index t = ![t.val % 4, t.val / 8] ∧ win0_1.index t = ![t.val % 4, t.val / 4 % 2] ∧ win0_2.index t = ![t.val / 8, t.val / 4 % 2])

theorem point_lt (t : Fin cfg0.N) : t.val < 32 := t.isLt.trans_eq (by decide +kernel)

variable (m : (ℓ : Loc nD τ sig) → Buf (Elt Ideal) ℓ) (ρ : Dev nD → PrngReg) (c : Dev nD)

/-- The argument arrays. -/
abbrev aX : FVec Ideal S8192x5632 .bf16 := m ((c.tc : Thread nD τ).loc main_arg0)
abbrev aY : FVec Ideal S8192x2048 .bf16 := m ((c.tc : Thread nD τ).loc main_arg1)

theorem iblk_0 (t : Fin cfg0.N) (a : Fin 1408) (e : Fin 2048) :
    iblk m c 0 t (ix2 e a) = entry (aX m c) (2048 * (t.val % 4) + e) (1408 * (t.val / 8) + a) := by
  have := point_lt t
  rw [← entry_ix (aX m c) ⟨2048 * (t.val % 4) + e, by omega⟩ ⟨1408 * (t.val / 8) + a, by omega⟩ _ _ rfl rfl]
  blk_ext [iblk, V_main_arg0, idx t]
theorem iblk_1 (t : Fin cfg0.N) (b : Fin 1024) (e : Fin 2048) :
    iblk m c 1 t (ix2 e b) = entry (aY m c) (2048 * (t.val % 4) + e) (1024 * (t.val / 4 % 2) + b) := by
  have := point_lt t
  rw [← entry_ix (aY m c) ⟨2048 * (t.val % 4) + e, by omega⟩ ⟨1024 * (t.val / 4 % 2) + b, by omega⟩ _ _ rfl rfl]
  blk_ext [iblk, V_main_arg1, idx t]

theorem pay1_val (a : Fin 1408) (b : Fin 1024) : k0_pay1 (F := Ideal) (ix2 a b) = 0 := by
  pointwise [k0_pay1]
theorem pay2_val (s : FVec Ideal S1408x1024 .f32) (x : FVec Ideal S2048x1408 .bf16) (y : FVec Ideal S2048x1024 .bf16) (a : Fin 1408) (b : Fin 1024) :
    k0_pay2 (F := Ideal) s x y (ix2 a b) = s (ix2 a b) + ∑ e : Fin 2048, x (ix2 e a) * y (ix2 e b) := by
  pointwise [k0_pay2]
theorem pay3_val (s : FVec Ideal S1408x1024 .f32) (a : Fin 1408) (b : Fin 1024) : k0_pay3 (F := Ideal) s (ix2 a b) = s (ix2 a b) := by
  pointwise [k0_pay3]

/-- A sum of the product, over the first terms. -/
def part (n r l : ℕ) : EReal := ∑ e ∈ Finset.range n, entry (aX m c) e r * entry (aY m c) e l

theorem part_next (n r l : ℕ) : part m c (2048 * n) r l
    + ∑ e : Fin 2048, entry (aX m c) (2048 * n + e) r * entry (aY m c) (2048 * n + e) l = part m c (2048 * (n + 1)) r l :=
  sum_next 2048 n fun e => entry (aX m c) e r * entry (aY m c) e l

theorem part_zero (r l : ℕ) : part m c (2048 * 0) r l = 0 := by
  unfold part
  rw [Nat.mul_zero, Finset.range_zero, Finset.sum_empty]

/-- A step. -/
theorem step (t : Fin cfg0.N) (s : FVec Ideal S1408x1024 .f32) (a : Fin 1408) (b : Fin 1024)
    (hs : s (ix2 a b) = part m c (2048 * (t.val % 4)) (1408 * (t.val / 8) + a) (1024 * (t.val / 4 % 2) + b)) :
    k0_pay2 (F := Ideal) s (iblk m c 0 t) (iblk m c 1 t) (ix2 a b) = part m c (2048 * (t.val % 4 + 1)) (1408 * (t.val / 8) + a) (1024 * (t.val / 4 % 2) + b) := by
  rw [pay2_val, hs, ← part_next m c]
  exact congrArg _ (Finset.sum_congr rfl fun e _ => by rw [iblk_0 m c t, iblk_1 m c t])

theorem acc_first (t : Fin cfg0.N) (h : t.val % 4 = 0) (a : Fin 1408) (b : Fin 1024) :
    (outsAt0 m c t.val t.isLt).2 (ix2 a b) = part m c (2048 * (t.val % 4 + 1)) (1408 * (t.val / 8) + a) (1024 * (t.val / 4 % 2) + b) := by
  rw [outsAt0_A m c t h (by omega)]
  dsimp only
  rw [acc_A]
  refine step m c t _ a b ?_
  rw [pay1_val, h, part_zero]

/-- What the accumulator holds after every grid point. -/
theorem acc : ∀ (n : ℕ) (hn : n < cfg0.N) (a : Fin 1408) (b : Fin 1024),
    (outsAt0 m c n hn).2 (ix2 a b) = part m c (2048 * (n % 4 + 1)) (1408 * (n / 8) + a) (1024 * (n / 4 % 2) + b) := by
  intro n
  induction n with
  | zero => exact fun hn => acc_first m c ⟨0, hn⟩ rfl
  | succ n ih =>
    intro hn a b
    by_cases h0 : (n + 1) % 4 = 0
    · exact acc_first m c ⟨n + 1, hn⟩ h0 a b
    have hp := ih (Nat.lt_of_succ_lt hn) a b
    rw [show n % 4 + 1 = (n + 1) % 4 by omega, show n / 8 = (n + 1) / 8 by omega, show n / 4 = (n + 1) / 4 by omega] at hp
    by_cases h1 : (n + 1) % 4 = 3
    · rw [outsAt0_C m c ⟨n + 1, hn⟩ h0 h1]
      dsimp only
      rw [acc_C]
      exact step m c ⟨n + 1, hn⟩ _ a b hp
    · rw [outsAt0_B m c ⟨n + 1, hn⟩ h0 h1]
      dsimp only
      rw [acc_B]
      exact step m c ⟨n + 1, hn⟩ _ a b hp

/-- The result's block after the last grid point of a block. -/
theorem out_val (t : Fin cfg0.N) (h : t.val % 4 = 3) (a : Fin 1408) (b : Fin 1024) :
    (outsAt0 m c t.val t.isLt).1 (ix2 a b) = part m c 8192 (1408 * (t.val / 8) + a) (1024 * (t.val / 4 % 2) + b) := by
  have hp := acc m c t.val t.isLt a b
  rw [outsAt0_C m c t (by omega) h] at hp ⊢
  dsimp only at hp ⊢
  rw [acc_C] at hp
  rw [out_C, pay3_val, hp, h]

/-- The result. -/
abbrev res : FVec Ideal S5632x2048 .bf16 := fun y => part m c 8192 (y 0).val (y 1).val

theorem final : (dats m 0 c).arrAt 2 cfg0.N = res m c := by
  refine (dats m 0 c).arrAt_eq_of_covers 2 _ (by decide +kernel) fun t hfl y => ?_
  have hk : t.val % 4 = 3 := (flush0_2 t).mp hfl
  blk_simp
  rw [after0_2]
  change S1408x1024.Idx at y
  idx_vars y
  rw [out_val m c t hk]
  unfold res
  blk_simp [idx t]
  rw [Nat.mul_comm 1408 (t.val / 8), Nat.mul_comm 1024 (t.val / 4 % 2)]

/-- The kernel's run: its result and its arguments. -/
theorem run_values : θ_run defs (onTc (τ := τ) (main (F := Ideal))) ⟨m, fun _ => 0, ρ⟩ fun r => ∀ c : Dev nD,
    r.2.mem ((c.tc : Thread nD τ).loc main_v0) = res m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Kernel6Ideal.Gen

namespace Cert.Reference6Ideal.Value

open Cert.Reference6Ideal Cert.Reference6Ideal.Gen Idealize.ShloMosaic Idealize.ShloMosaic.TcCoe Idealize.ShloMosaic.StableHlo
open Cert.Prod

/-- The reference's result at an entry. -/
theorem ref_val (x : FVec Ideal S8192x5632 .bf16) (y : FVec Ideal S8192x2048 .bf16) (r : Fin 5632) (l : Fin 2048) :
    (truncf .bf16 (transpose S5632x2048 [1, 0] (Host.dotGeneral (F := Ideal) dot_S8192x2048_S8192x5632_S2048x5632_0_0_1_1_n_n none (extf .f32 y bitsLt_bf16_f32) (extf .f32 x bitsLt_bf16_f32)) transposes_S2048x5632_S5632x2048_1_0) bitsLt_bf16_f32 : FVec Ideal S5632x2048 .bf16) (ix2 r l)
      = ∑ e ∈ Finset.range 8192, entry x e r * entry y e l := by
  refine Eq.trans ?_ (Fin.sum_univ_eq_sum_range (fun e => entry x e r * entry y e l) 8192)
  pointwise
  refine Finset.sum_congr rfl fun e _ => ?_
  rw [EReal.mul_comm, entry_ix x e r _ _ rfl rfl, entry_ix y e l _ _ rfl rfl]

end Cert.Reference6Ideal.Value

end
-- ==== Proof.Values7.lean ====
module

public import proofs.«01_k».proof.Proof.Sums
public import proofs.«01_k».proof.Proof.Gen.Kernel7Ideal.Frame
public import proofs.«01_k».proof.Proof.Gen.Reference7Ideal.Run
public import Idealize.ShloMosaic.Lib.Pipeline.Value
public import Idealize.ShloMosaic.Lib.Pipeline.ValueKit
public import Idealize.ShloMosaic.Lib.Tactic

@[expose] public section

set_option maxRecDepth 16384

noncomputable section

/-! The gradient of the down projection's input: the kernel's result and the reference's. -/

namespace Cert.Kernel7Ideal.Gen

open Idealize.ShloMosaic Idealize.ShloMosaic.TcCoe Idealize.ShloMosaic.Tactic Idealize.ShloMosaic.StableHlo Idealize.SL.Sem
open Cert.Prod

theorem zero2 : (![0, 0] : Fin 2 → ℕ) = fun _ => 0 := funext fun a => by fin_cases a <;> rfl

/-- What a grid point leaves in its block of the result. -/
theorem out_block (x0 : Vec Ideal S1024x2048 .bf16) (x1 : Vec Ideal S2816x2048 .bf16) : out0_2 x0 x1 = k0_pay1 x0 x1 := by
  unfold out0_2
  rw [View.canon_unit_zero (S := S1024x2816) zero2, View.ld_unit_zero (S := S1024x2048) zero2, View.ld_unit_zero (S := S2816x2048) zero2]

theorem idx : ∀ t : Fin cfg0.N, win0_0.index t = ![t.val / 2, 0] ∧ win0_1.index t = ![t.val % 2, 0] ∧ win0_2.index t = ![t.val / 2, t.val % 2] :=
  (by decide +kernel : ∀ t : Fin grid0.N, win0_0.index t = ![t.val / 2, 0] ∧ win0_1.index t = ![t.val % 2, 0] ∧ win0_2.index t = ![t.val / 2, t.val % 2])

theorem point_lt (t : Fin cfg0.N) : t.val < 16 := t.isLt.trans_eq (by decide +kernel)

variable (m : (ℓ : Loc nD τ sig) → Buf (Elt Ideal) ℓ) (ρ : Dev nD → PrngReg) (c : Dev nD)

/-- The argument arrays. -/
abbrev aX : FVec Ideal S8192x2048 .bf16 := m ((c.tc : Thread nD τ).loc main_arg0)
abbrev aY : FVec Ideal S5632x2048 .bf16 := m ((c.tc : Thread nD τ).loc main_arg1)

theorem iblk_0 (t : Fin cfg0.N) (a : Fin 1024) (e : Fin 2048) :
    iblk m c 0 t (ix2 a e) = entry (aX m c) (1024 * (t.val / 2) + a) (e) := by
  have := point_lt t
  rw [← entry_ix (aX m c) ⟨1024 * (t.val / 2) + a, by omega⟩ e _ _ rfl rfl]
  blk_ext [iblk, V_main_arg0, idx t]
theorem iblk_1 (t : Fin cfg0.N) (b : Fin 2816) (e : Fin 2048) :
    iblk m c 1 t (ix2 b e) = entry (aY m c) (2816 * (t.val % 2) + b) (e) := by
  have := point_lt t
  rw [← entry_ix (aY m c) ⟨2816 * (t.val % 2) + b, by omega⟩ e _ _ rfl rfl]
  blk_ext [iblk, V_main_arg1, idx t]

theorem pay1_val (x : FVec Ideal S1024x2048 .bf16) (y : FVec Ideal S2816x2048 .bf16) (a : Fin 1024) (b : Fin 2816) :
    k0_pay1 (F := Ideal) x y (ix2 a b) = ∑ e : Fin 2048, x (ix2 a e) * y (ix2 b e) := by
  pointwise [k0_pay1]

/-- A sum of the product, over the first terms. -/
def part (n r l : ℕ) : EReal := ∑ e ∈ Finset.range n, entry (aX m c) r e * entry (aY m c) l e

/-- The result's block after a grid point. -/
theorem out_val (t : Fin cfg0.N) (a : Fin 1024) (b : Fin 2816) :
    (out0_2 (iblk m c 0 t) (iblk m c 1 t) : Vec Ideal S1024x2816 .bf16) (ix2 a b) = part m c 2048 (1024 * (t.val / 2) + a) (2816 * (t.val % 2) + b) := by
  rw [out_block, pay1_val]
  refine Eq.trans ?_ (Fin.sum_univ_eq_sum_range (fun e => entry (aX m c) (1024 * (t.val / 2) + a) e * entry (aY m c) (2816 * (t.val % 2) + b) e) 2048)
  exact Finset.sum_congr rfl fun e _ => by rw [iblk_0 m c t, iblk_1 m c t]

/-- The result. -/
abbrev res : FVec Ideal S8192x5632 .bf16 := fun y => part m c 2048 (y 0).val (y 1).val

theorem final : (dats m 0 c).arrAt 2 cfg0.N = res m c := by
  refine (dats m 0 c).arrAt_eq_of_covers 2 _ (by decide +kernel) fun t hfl y => ?_
  blk_simp
  rw [after0_2]
  change S1024x2816.Idx at y
  idx_vars y
  rw [out_val m c t]
  unfold res
  blk_simp [idx t]
  rw [Nat.mul_comm 1024 (t.val / 2), Nat.mul_comm 2816 (t.val % 2)]

/-- The kernel's run: its result and its arguments. -/
theorem run_values : θ_run defs (onTc (τ := τ) (main (F := Ideal))) ⟨m, fun _ => 0, ρ⟩ fun r => ∀ c : Dev nD,
    r.2.mem ((c.tc : Thread nD τ).loc main_v0) = res m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Kernel7Ideal.Gen

namespace Cert.Reference7Ideal.Value

open Cert.Reference7Ideal Cert.Reference7Ideal.Gen Idealize.ShloMosaic Idealize.ShloMosaic.TcCoe Idealize.ShloMosaic.StableHlo
open Cert.Prod

/-- The reference's result at an entry. -/
theorem ref_val (x : FVec Ideal S8192x2048 .bf16) (y : FVec Ideal S5632x2048 .bf16) (r : Fin 8192) (l : Fin 5632) :
    (truncf .bf16 (Host.dotGeneral (F := Ideal) dot_S8192x2048_S5632x2048_S8192x5632_1_1_0_0_n_n none (extf .f32 x bitsLt_bf16_f32) (extf .f32 y bitsLt_bf16_f32)) bitsLt_bf16_f32 : FVec Ideal S8192x5632 .bf16) (ix2 r l)
      = ∑ e ∈ Finset.range 2048, entry x r e * entry y l e := by
  refine Eq.trans ?_ (Fin.sum_univ_eq_sum_range (fun e => entry x r e * entry y l e) 2048)
  pointwise
  refine Finset.sum_congr rfl fun e _ => ?_
  rw [entry_ix x r e _ _ rfl rfl, entry_ix y l e _ _ rfl rfl]

end Cert.Reference7Ideal.Value

end
-- ==== Proof.Values8.lean ====
module

public import proofs.«01_k».proof.Proof.Sums
public import proofs.«01_k».proof.Proof.Gen.Kernel8Ideal.Frame
public import proofs.«01_k».proof.Proof.Gen.Reference8Ideal.Run
public import Idealize.ShloMosaic.Lib.Pipeline.Value
public import Idealize.ShloMosaic.Lib.Pipeline.ValueKit
public import Idealize.ShloMosaic.Lib.Tactic

@[expose] public section

set_option maxRecDepth 16384

noncomputable section

/-! The gradient of the input projection's weights: the kernel's result and the reference's. -/

namespace Cert.Kernel8Ideal.Gen

open Idealize.ShloMosaic Idealize.ShloMosaic.TcCoe Idealize.ShloMosaic.Tactic Idealize.ShloMosaic.StableHlo Idealize.SL.Sem
open Cert.Prod

theorem zero2 : (![0, 0] : Fin 2 → ℕ) = fun _ => 0 := funext fun a => by fin_cases a <;> rfl

section

variable {F : FTy → Type} [FloatOps F] (c : Dev nD) (i : grid0.Coords) {arg3 : Memref sig .tc .vmem S2048x1024 .bf16} {arg4 : Memref sig .tc .vmem S2048x1920 .bf16}
  (harg3 : arg3.IsWhole) (harg4 : arg4.IsWhole) {arg5 : Memref sig .tc .vmem S1024x1920 .bf16} {arg6 : Memref sig .tc .vmem S1024x1920 .f32}
  (harg5 : arg5.IsWhole) (harg6 : arg6.IsWhole) (x0 : Vec F S2048x1024 .bf16) (x1 : Vec F S2048x1920 .bf16) (s : Vec F S1024x1920 .f32)

/-! What a grid point leaves in the accumulator and in its block of the result. -/

theorem acc_A (hc0 : cond0_0 i) (hc1 : ¬cond0_1 i) :
    sout0_A_0 c i arg3 harg3 arg4 harg4 arg5 harg5 arg6 harg6 hc0 hc1 x0 x1 = k0_pay2 (k0_pay1 (F := F)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x1920) zero2, View.readCov_unit_zero (S := S1024x1920) _ zero2]
  simp only [View.readAt_eq_ld, harg3.read_unread, harg4.read_unread, View.ld_unit_zero (S := S2048x1024) zero2, View.ld_unit_zero (S := S2048x1920) zero2]

theorem acc_B (hc0 : ¬cond0_0 i) (hc1 : ¬cond0_1 i) :
    sout0_B_0 c i arg3 harg3 arg4 harg4 arg5 harg5 arg6 harg6 hc0 hc1 x0 x1 s = k0_pay2 s x0 x1 := by
  unfold sout0_B_0
  rw [View.read_writes_eq_canon _ _ _ (scover0_B_0 c i arg3 harg3 arg4 harg4 arg5 harg5 arg6 harg6 hc0 hc1 x0 x1 s)]
  unfold kernelRun0_B
  dsimp only
  sl_unfold_words
  rw [View.canon_unit_zero (S := S1024x1920) zero2]
  simp only [View.readAt_eq_ld, harg3.read_unread, harg4.read_unread, harg6.read_unread, View.ld_unit_zero (S := S2048x1024) zero2, View.ld_unit_zero (S := S2048x1920) zero2, View.ld_unit_zero (S := S1024x1920) zero2]

theorem acc_C (hc0 : ¬cond0_0 i) (hc1 : cond0_1 i) :
    sout0_C_0 c i arg3 harg3 arg4 harg4 arg5 harg5 arg6 harg6 hc0 hc1 x0 x1 s = k0_pay2 s x0 x1 := by
  unfold sout0_C_0
  rw [View.read_writes_eq_canon _ _ _ (scover0_C_0 c i arg3 harg3 arg4 harg4 arg5 harg5 arg6 harg6 hc0 hc1 x0 x1 s)]
  unfold kernelRun0_C
  dsimp only
  sl_unfold_words
  rw [View.canon_unit_zero (S := S1024x1920) zero2]
  simp only [View.readAt_eq_ld, harg3.read_unread, harg4.read_unread, harg6.read_unread, View.ld_unit_zero (S := S2048x1024) zero2, View.ld_unit_zero (S := S2048x1920) zero2, View.ld_unit_zero (S := S1024x1920) zero2]

theorem out_C (hc0 : ¬cond0_0 i) (hc1 : cond0_1 i) :
    out0_C_2 c i arg3 harg3 arg4 harg4 arg5 harg5 arg6 harg6 hc0 hc1 x0 x1 s = k0_pay3 (k0_pay2 s x0 x1) := by
  unfold out0_C_2
  rw [View.read_writes_eq_canon _ _ _ (cover0_C_2 c i arg3 harg3 arg4 harg4 arg5 harg5 arg6 harg6 hc0 hc1 x0 x1 s)]
  unfold kernelRun0_C
  dsimp only
  sl_unfold_words
  rw [View.canon_unit_zero (S := S1024x1920) zero2, View.readCov_unit_zero (S := S1024x1920) _ zero2]
  simp only [View.readAt_eq_ld, harg3.read_unread, harg4.read_unread, harg6.read_unread, View.ld_unit_zero (S := S2048x1024) zero2, View.ld_unit_zero (S := S2048x1920) zero2, View.ld_unit_zero (S := S1024x1920) zero2]

end

theorem idx : ∀ t : Fin cfg0.N, win0_0.index t = ![t.val % 4, t.val / 12] ∧ win0_1.index t = ![t.val % 4, t.val / 4 % 3] ∧ win0_2.index t = ![t.val / 12, t.val / 4 % 3] :=
  (by decide +kernel : ∀ t : Fin grid0.N, win0_0.index t = ![t.val % 4, t.val / 12] ∧ win0_1.index t = ![t.val % 4, t.val / 4 % 3] ∧ win0_2.index t = ![t.val / 12, t.val / 4 % 3])

theorem point_lt (t : Fin cfg0.N) : t.val < 24 := t.isLt.trans_eq (by decide +kernel)

variable (m : (ℓ : Loc nD τ sig) → Buf (Elt Ideal) ℓ) (ρ : Dev nD → PrngReg) (c : Dev nD)

/-- The argument arrays. -/
abbrev aX : FVec Ideal S8192x2048 .bf16 := m ((c.tc : Thread nD τ).loc main_arg0)
abbrev aY : FVec Ideal S8192x5760 .bf16 := m ((c.tc : Thread nD τ).loc main_arg1)

theorem iblk_0 (t : Fin cfg0.N) (a : Fin 1024) (e : Fin 2048) :
    iblk m c 0 t (ix2 e a) = entry (aX m c) (2048 * (t.val % 4) + e) (1024 * (t.val / 12) + a) := by
  have := point_lt t
  rw [← entry_ix (aX m c) ⟨2048 * (t.val % 4) + e, by omega⟩ ⟨1024 * (t.val / 12) + a, by omega⟩ _ _ rfl rfl]
  blk_ext [iblk, V_main_arg0, idx t]
theorem iblk_1 (t : Fin cfg0.N) (b : Fin 1920) (e : Fin 2048) :
    iblk m c 1 t (ix2 e b) = entry (aY m c) (2048 * (t.val % 4) + e) (1920 * (t.val / 4 % 3) + b) := by
  have := point_lt t
  rw [← entry_ix (aY m c) ⟨2048 * (t.val % 4) + e, by omega⟩ ⟨1920 * (t.val / 4 % 3) + b, by omega⟩ _ _ rfl rfl]
  blk_ext [iblk, V_main_arg1, idx t]

theorem pay1_val (a : Fin 1024) (b : Fin 1920) : k0_pay1 (F := Ideal) (ix2 a b) = 0 := by
  pointwise [k0_pay1]
theorem pay2_val (s : FVec Ideal S1024x1920 .f32) (x : FVec Ideal S2048x1024 .bf16) (y : FVec Ideal S2048x1920 .bf16) (a : Fin 1024) (b : Fin 1920) :
    k0_pay2 (F := Ideal) s x y (ix2 a b) = s (ix2 a b) + ∑ e : Fin 2048, x (ix2 e a) * y (ix2 e b) := by
  pointwise [k0_pay2]
theorem pay3_val (s : FVec Ideal S1024x1920 .f32) (a : Fin 1024) (b : Fin 1920) : k0_pay3 (F := Ideal) s (ix2 a b) = s (ix2 a b) := by
  pointwise [k0_pay3]

/-- A sum of the product, over the first terms. -/
def part (n r l : ℕ) : EReal := ∑ e ∈ Finset.range n, entry (aX m c) e r * entry (aY m c) e l

theorem part_next (n r l : ℕ) : part m c (2048 * n) r l
    + ∑ e : Fin 2048, entry (aX m c) (2048 * n + e) r * entry (aY m c) (2048 * n + e) l = part m c (2048 * (n + 1)) r l :=
  sum_next 2048 n fun e => entry (aX m c) e r * entry (aY m c) e l

theorem part_zero (r l : ℕ) : part m c (2048 * 0) r l = 0 := by
  unfold part
  rw [Nat.mul_zero, Finset.range_zero, Finset.sum_empty]

/-- A step. -/
theorem step (t : Fin cfg0.N) (s : FVec Ideal S1024x1920 .f32) (a : Fin 1024) (b : Fin 1920)
    (hs : s (ix2 a b) = part m c (2048 * (t.val % 4)) (1024 * (t.val / 12) + a) (1920 * (t.val / 4 % 3) + b)) :
    k0_pay2 (F := Ideal) s (iblk m c 0 t) (iblk m c 1 t) (ix2 a b) = part m c (2048 * (t.val % 4 + 1)) (1024 * (t.val / 12) + a) (1920 * (t.val / 4 % 3) + b) := by
  rw [pay2_val, hs, ← part_next m c]
  exact congrArg _ (Finset.sum_congr rfl fun e _ => by rw [iblk_0 m c t, iblk_1 m c t])

theorem acc_first (t : Fin cfg0.N) (h : t.val % 4 = 0) (a : Fin 1024) (b : Fin 1920) :
    (outsAt0 m c t.val t.isLt).2 (ix2 a b) = part m c (2048 * (t.val % 4 + 1)) (1024 * (t.val / 12) + a) (1920 * (t.val / 4 % 3) + b) := by
  rw [outsAt0_A m c t h (by omega)]
  dsimp only
  rw [acc_A]
  refine step m c t _ a b ?_
  rw [pay1_val, h, part_zero]

/-- What the accumulator holds after every grid point. -/
theorem acc : ∀ (n : ℕ) (hn : n < cfg0.N) (a : Fin 1024) (b : Fin 1920),
    (outsAt0 m c n hn).2 (ix2 a b) = part m c (2048 * (n % 4 + 1)) (1024 * (n / 12) + a) (1920 * (n / 4 % 3) + b) := by
  intro n
  induction n with
  | zero => exact fun hn => acc_first m c ⟨0, hn⟩ rfl
  | succ n ih =>
    intro hn a b
    by_cases h0 : (n + 1) % 4 = 0
    · exact acc_first m c ⟨n + 1, hn⟩ h0 a b
    have hp := ih (Nat.lt_of_succ_lt hn) a b
    rw [show n % 4 + 1 = (n + 1) % 4 by omega, show n / 12 = (n + 1) / 12 by omega, show n / 4 = (n + 1) / 4 by omega] at hp
    by_cases h1 : (n + 1) % 4 = 3
    · rw [outsAt0_C m c ⟨n + 1, hn⟩ h0 h1]
      dsimp only
      rw [acc_C]
      exact step m c ⟨n + 1, hn⟩ _ a b hp
    · rw [outsAt0_B m c ⟨n + 1, hn⟩ h0 h1]
      dsimp only
      rw [acc_B]
      exact step m c ⟨n + 1, hn⟩ _ a b hp

/-- The result's block after the last grid point of a block. -/
theorem out_val (t : Fin cfg0.N) (h : t.val % 4 = 3) (a : Fin 1024) (b : Fin 1920) :
    (outsAt0 m c t.val t.isLt).1 (ix2 a b) = part m c 8192 (1024 * (t.val / 12) + a) (1920 * (t.val / 4 % 3) + b) := by
  have hp := acc m c t.val t.isLt a b
  rw [outsAt0_C m c t (by omega) h] at hp ⊢
  dsimp only at hp ⊢
  rw [acc_C] at hp
  rw [out_C, pay3_val, hp, h]

/-- The result. -/
abbrev res : FVec Ideal S2048x5760 .bf16 := fun y => part m c 8192 (y 0).val (y 1).val

theorem final : (dats m 0 c).arrAt 2 cfg0.N = res m c := by
  refine (dats m 0 c).arrAt_eq_of_covers 2 _ (by decide +kernel) fun t hfl y => ?_
  have hk : t.val % 4 = 3 := (flush0_2 t).mp hfl
  blk_simp
  rw [after0_2]
  change S1024x1920.Idx at y
  idx_vars y
  rw [out_val m c t hk]
  unfold res
  blk_simp [idx t]
  rw [Nat.mul_comm 1024 (t.val / 12), Nat.mul_comm 1920 (t.val / 4 % 3)]

/-- The kernel's run: its result and its arguments. -/
theorem run_values : θ_run defs (onTc (τ := τ) (main (F := Ideal))) ⟨m, fun _ => 0, ρ⟩ fun r => ∀ c : Dev nD,
    r.2.mem ((c.tc : Thread nD τ).loc main_v0) = res m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Kernel8Ideal.Gen

namespace Cert.Reference8Ideal.Value

open Cert.Reference8Ideal Cert.Reference8Ideal.Gen Idealize.ShloMosaic Idealize.ShloMosaic.TcCoe Idealize.ShloMosaic.StableHlo
open Cert.Prod

/-- The reference's result at an entry. -/
theorem ref_val (x : FVec Ideal S8192x2048 .bf16) (y : FVec Ideal S8192x5760 .bf16) (r : Fin 2048) (l : Fin 5760) :
    (truncf .bf16 (transpose S2048x5760 [1, 0] (Host.dotGeneral (F := Ideal) dot_S8192x5760_S8192x2048_S5760x2048_0_0_1_1_n_n none (extf .f32 y bitsLt_bf16_f32) (extf .f32 x bitsLt_bf16_f32)) transposes_S5760x2048_S2048x5760_1_0) bitsLt_bf16_f32 : FVec Ideal S2048x5760 .bf16) (ix2 r l)
      = ∑ e ∈ Finset.range 8192, entry x e r * entry y e l := by
  refine Eq.trans ?_ (Fin.sum_univ_eq_sum_range (fun e => entry x e r * entry y e l) 8192)
  pointwise
  refine Finset.sum_congr rfl fun e _ => ?_
  rw [EReal.mul_comm, entry_ix x e r _ _ rfl rfl, entry_ix y e l _ _ rfl rfl]

end Cert.Reference8Ideal.Value

end
-- ==== Proof.Values9.lean ====
module

public import proofs.«01_k».proof.Proof.Sums
public import proofs.«01_k».proof.Proof.Gen.Kernel9Ideal.Frame
public import proofs.«01_k».proof.Proof.Gen.Reference9Ideal.Run
public import Idealize.ShloMosaic.Lib.Pipeline.Value
public import Idealize.ShloMosaic.Lib.Pipeline.ValueKit
public import Idealize.ShloMosaic.Lib.Tactic

@[expose] public section

set_option maxRecDepth 16384

noncomputable section

/-! The gradient of the input projection's input: the kernel's result and the reference's. -/

namespace Cert.Kernel9Ideal.Gen

open Idealize.ShloMosaic Idealize.ShloMosaic.TcCoe Idealize.ShloMosaic.Tactic Idealize.ShloMosaic.StableHlo Idealize.SL.Sem
open Cert.Prod

theorem zero2 : (![0, 0] : Fin 2 → ℕ) = fun _ => 0 := funext fun a => by fin_cases a <;> rfl

section

variable {F : FTy → Type} [FloatOps F] (c : Dev nD) (i : grid0.Coords) {arg3 : Memref sig .tc .vmem S1024x1920 .bf16} {arg4 : Memref sig .tc .vmem S2048x1920 .bf16}
  (harg3 : arg3.IsWhole) (harg4 : arg4.IsWhole) {arg5 : Memref sig .tc .vmem S1024x2048 .f32} {arg6 : Memref sig .tc .vmem S1024x2048 .f32}
  (harg5 : arg5.IsWhole) (harg6 : arg6.IsWhole) (x0 : Vec F S1024x1920 .bf16) (x1 : Vec F S2048x1920 .bf16) (s : Vec F S1024x2048 .f32)

/-! What a grid point leaves in the accumulator and in its block of the result. -/

theorem acc_A (hc0 : cond0_0 i) (hc1 : ¬cond0_1 i) :
    sout0_A_0 c i arg3 harg3 arg4 harg4 arg5 harg5 arg6 harg6 hc0 hc1 x0 x1 = k0_pay2 (k0_pay1 (F := F)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x2048) zero2, View.readCov_unit_zero (S := S1024x2048) _ zero2]
  simp only [View.readAt_eq_ld, harg3.read_unread, harg4.read_unread, View.ld_unit_zero (S := S1024x1920) zero2, View.ld_unit_zero (S := S2048x1920) zero2]

theorem acc_B (hc0 : ¬cond0_0 i) (hc1 : ¬cond0_1 i) :
    sout0_B_0 c i arg3 harg3 arg4 harg4 arg5 harg5 arg6 harg6 hc0 hc1 x0 x1 s = k0_pay2 s x0 x1 := by
  unfold sout0_B_0
  rw [View.read_writes_eq_canon _ _ _ (scover0_B_0 c i arg3 harg3 arg4 harg4 arg5 harg5 arg6 harg6 hc0 hc1 x0 x1 s)]
  unfold kernelRun0_B
  dsimp only
  sl_unfold_words
  rw [View.canon_unit_zero (S := S1024x2048) zero2]
  simp only [View.readAt_eq_ld, harg3.read_unread, harg4.read_unread, harg6.read_unread, View.ld_unit_zero (S := S1024x1920) zero2, View.ld_unit_zero (S := S2048x1920) zero2, View.ld_unit_zero (S := S1024x2048) zero2]

theorem acc_C (hc0 : ¬cond0_0 i) (hc1 : cond0_1 i) :
    sout0_C_0 c i arg3 harg3 arg4 harg4 arg5 harg5 arg6 harg6 hc0 hc1 x0 x1 s = k0_pay2 s x0 x1 := by
  unfold sout0_C_0
  rw [View.read_writes_eq_canon _ _ _ (scover0_C_0 c i arg3 harg3 arg4 harg4 arg5 harg5 arg6 harg6 hc0 hc1 x0 x1 s)]
  unfold kernelRun0_C
  dsimp only
  sl_unfold_words
  rw [View.canon_unit_zero (S := S1024x2048) zero2]
  simp only [View.readAt_eq_ld, harg3.read_unread, harg4.read_unread, harg6.read_unread, View.ld_unit_zero (S := S1024x1920) zero2, View.ld_unit_zero (S := S2048x1920) zero2, View.ld_unit_zero (S := S1024x2048) zero2]

theorem out_C (hc0 : ¬cond0_0 i) (hc1 : cond0_1 i) :
    out0_C_2 c i arg3 harg3 arg4 harg4 arg5 harg5 arg6 harg6 hc0 hc1 x0 x1 s = k0_pay2 s x0 x1 := by
  unfold out0_C_2
  rw [View.read_writes_eq_canon _ _ _ (cover0_C_2 c i arg3 harg3 arg4 harg4 arg5 harg5 arg6 harg6 hc0 hc1 x0 x1 s)]
  unfold kernelRun0_C
  dsimp only
  sl_unfold_words
  rw [View.canon_unit_zero (S := S1024x2048) zero2, View.readCov_unit_zero (S := S1024x2048) _ zero2]
  simp only [View.readAt_eq_ld, harg3.read_unread, harg4.read_unread, harg6.read_unread, View.ld_unit_zero (S := S1024x1920) zero2, View.ld_unit_zero (S := S2048x1920) zero2, View.ld_unit_zero (S := S1024x2048) zero2]

end

theorem idx : ∀ t : Fin cfg0.N, win0_0.index t = ![t.val / 3, t.val % 3] ∧ win0_1.index t = ![0, t.val % 3] ∧ win0_2.index t = ![t.val / 3, 0] :=
  (by decide +kernel : ∀ t : Fin grid0.N, win0_0.index t = ![t.val / 3, t.val % 3] ∧ win0_1.index t = ![0, t.val % 3] ∧ win0_2.index t = ![t.val / 3, 0])

theorem point_lt (t : Fin cfg0.N) : t.val < 24 := t.isLt.trans_eq (by decide +kernel)

variable (m : (ℓ : Loc nD τ sig) → Buf (Elt Ideal) ℓ) (ρ : Dev nD → PrngReg) (c : Dev nD)

/-- The argument arrays. -/
abbrev aX : FVec Ideal S8192x5760 .bf16 := m ((c.tc : Thread nD τ).loc main_arg0)
abbrev aY : FVec Ideal S2048x5760 .bf16 := m ((c.tc : Thread nD τ).loc main_arg1)

theorem iblk_0 (t : Fin cfg0.N) (a : Fin 1024) (e : Fin 1920) :
    iblk m c 0 t (ix2 a e) = entry (aX m c) (1024 * (t.val / 3) + a) (1920 * (t.val % 3) + e) := by
  have := point_lt t
  rw [← entry_ix (aX m c) ⟨1024 * (t.val / 3) + a, by omega⟩ ⟨1920 * (t.val % 3) + e, by omega⟩ _ _ rfl rfl]
  blk_ext [iblk, V_main_arg0, idx t]
theorem iblk_1 (t : Fin cfg0.N) (b : Fin 2048) (e : Fin 1920) :
    iblk m c 1 t (ix2 b e) = entry (aY m c) (b) (1920 * (t.val % 3) + e) := by
  have := point_lt t
  rw [← entry_ix (aY m c) b ⟨1920 * (t.val % 3) + e, by omega⟩ _ _ rfl rfl]
  blk_ext [iblk, V_main_arg1, idx t]

theorem pay1_val (a : Fin 1024) (b : Fin 2048) : k0_pay1 (F := Ideal) (ix2 a b) = 0 := by
  pointwise [k0_pay1]
theorem pay2_val (s : FVec Ideal S1024x2048 .f32) (x : FVec Ideal S1024x1920 .bf16) (y : FVec Ideal S2048x1920 .bf16) (a : Fin 1024) (b : Fin 2048) :
    k0_pay2 (F := Ideal) s x y (ix2 a b) = s (ix2 a b) + ∑ e : Fin 1920, x (ix2 a e) * y (ix2 b e) := by
  pointwise [k0_pay2]

/-- A sum of the product, over the first terms. -/
def part (n r l : ℕ) : EReal := ∑ e ∈ Finset.range n, entry (aX m c) r e * entry (aY m c) l e

theorem part_next (n r l : ℕ) : part m c (1920 * n) r l
    + ∑ e : Fin 1920, entry (aX m c) r (1920 * n + e) * entry (aY m c) l (1920 * n + e) = part m c (1920 * (n + 1)) r l :=
  sum_next 1920 n fun e => entry (aX m c) r e * entry (aY m c) l e

theorem part_zero (r l : ℕ) : part m c (1920 * 0) r l = 0 := by
  unfold part
  rw [Nat.mul_zero, Finset.range_zero, Finset.sum_empty]

/-- A step. -/
theorem step (t : Fin cfg0.N) (s : FVec Ideal S1024x2048 .f32) (a : Fin 1024) (b : Fin 2048)
    (hs : s (ix2 a b) = part m c (1920 * (t.val % 3)) (1024 * (t.val / 3) + a) (b)) :
    k0_pay2 (F := Ideal) s (iblk m c 0 t) (iblk m c 1 t) (ix2 a b) = part m c (1920 * (t.val % 3 + 1)) (1024 * (t.val / 3) + a) (b) := by
  rw [pay2_val, hs, ← part_next m c]
  exact congrArg _ (Finset.sum_congr rfl fun e _ => by rw [iblk_0 m c t, iblk_1 m c t])

theorem acc_first (t : Fin cfg0.N) (h : t.val % 3 = 0) (a : Fin 1024) (b : Fin 2048) :
    (outsAt0 m c t.val t.isLt).2 (ix2 a b) = part m c (1920 * (t.val % 3 + 1)) (1024 * (t.val / 3) + a) (b) := by
  rw [outsAt0_A m c t h (by omega)]
  dsimp only
  rw [acc_A]
  refine step m c t _ a b ?_
  rw [pay1_val, h, part_zero]

/-- What the accumulator holds after every grid point. -/
theorem acc : ∀ (n : ℕ) (hn : n < cfg0.N) (a : Fin 1024) (b : Fin 2048),
    (outsAt0 m c n hn).2 (ix2 a b) = part m c (1920 * (n % 3 + 1)) (1024 * (n / 3) + a) (b) := by
  intro n
  induction n with
  | zero => exact fun hn => acc_first m c ⟨0, hn⟩ rfl
  | succ n ih =>
    intro hn a b
    by_cases h0 : (n + 1) % 3 = 0
    · exact acc_first m c ⟨n + 1, hn⟩ h0 a b
    have hp := ih (Nat.lt_of_succ_lt hn) a b
    rw [show n % 3 + 1 = (n + 1) % 3 by omega, show n / 3 = (n + 1) / 3 by omega] at hp
    by_cases h1 : (n + 1) % 3 = 2
    · rw [outsAt0_C m c ⟨n + 1, hn⟩ h0 h1]
      dsimp only
      rw [acc_C]
      exact step m c ⟨n + 1, hn⟩ _ a b hp
    · rw [outsAt0_B m c ⟨n + 1, hn⟩ h0 h1]
      dsimp only
      rw [acc_B]
      exact step m c ⟨n + 1, hn⟩ _ a b hp

/-- The result's block after the last grid point of a block. -/
theorem out_val (t : Fin cfg0.N) (h : t.val % 3 = 2) (a : Fin 1024) (b : Fin 2048) :
    (outsAt0 m c t.val t.isLt).1 (ix2 a b) = part m c 5760 (1024 * (t.val / 3) + a) (b) := by
  have hp := acc m c t.val t.isLt a b
  rw [outsAt0_C m c t (by omega) h] at hp ⊢
  dsimp only at hp ⊢
  rw [acc_C] at hp
  rw [out_C, hp, h]

/-- The result. -/
abbrev res : FVec Ideal S8192x2048 .f32 := fun y => part m c 5760 (y 0).val (y 1).val

theorem final : (dats m 0 c).arrAt 2 cfg0.N = res m c := by
  refine (dats m 0 c).arrAt_eq_of_covers 2 _ (by decide +kernel) fun t hfl y => ?_
  have hk : t.val % 3 = 2 := (flush0_2 t).mp hfl
  blk_simp
  rw [after0_2]
  change S1024x2048.Idx at y
  idx_vars y
  rw [out_val m c t hk]
  unfold res
  blk_simp [idx t]
  rw [Nat.mul_comm 1024 (t.val / 3)]

/-- The kernel's run: its result and its arguments. -/
theorem run_values : θ_run defs (onTc (τ := τ) (main (F := Ideal))) ⟨m, fun _ => 0, ρ⟩ fun r => ∀ c : Dev nD,
    r.2.mem ((c.tc : Thread nD τ).loc main_v0) = res m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Kernel9Ideal.Gen

namespace Cert.Reference9Ideal.Value

open Cert.Reference9Ideal Cert.Reference9Ideal.Gen Idealize.ShloMosaic Idealize.ShloMosaic.TcCoe Idealize.ShloMosaic.StableHlo
open Cert.Prod

/-- The reference's result at an entry. -/
theorem ref_val (x : FVec Ideal S8192x5760 .bf16) (y : FVec Ideal S2048x5760 .bf16) (r : Fin 8192) (l : Fin 2048) :
    (Host.dotGeneral (F := Ideal) dot_S8192x5760_S2048x5760_S8192x2048_1_1_0_0_n_n none (extf .f32 x bitsLt_bf16_f32) (extf .f32 y bitsLt_bf16_f32) : FVec Ideal S8192x2048 .f32) (ix2 r l)
      = ∑ e ∈ Finset.range 5760, entry x r e * entry y l e := by
  refine Eq.trans ?_ (Fin.sum_univ_eq_sum_range (fun e => entry x r e * entry y l e) 5760)
  pointwise
  refine Finset.sum_congr rfl fun e _ => ?_
  rw [entry_ix x r e _ _ rfl rfl, entry_ix y l e _ _ rfl rfl]

end Cert.Reference9Ideal.Value

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.FrameK
public import proofs.«01_k».proof.Proof.Values
public import proofs.«01_k».proof.Proof.Finite
public import proofs.«01_k».proof.Proof.Gen.Kernel2.Frame
public import proofs.«01_k».proof.Proof.Gen.Reference2Ideal.Run
public import proofs.«01_k».proof.Proof.Values2
public import proofs.«01_k».proof.Proof.Gen.Kernel3.Frame
public import proofs.«01_k».proof.Proof.Gen.Reference3Ideal.Run
public import proofs.«01_k».proof.Proof.Values3
public import proofs.«01_k».proof.Proof.Gen.Kernel4.Frame
public import proofs.«01_k».proof.Proof.Gen.Reference4Ideal.Run
public import proofs.«01_k».proof.Proof.Values4
public import proofs.«01_k».proof.Proof.Gen.Kernel5.Frame
public import proofs.«01_k».proof.Proof.Gen.Reference5Ideal.Run
public import proofs.«01_k».proof.Proof.Values5
public import proofs.«01_k».proof.Proof.Gen.Kernel6.Frame
public import proofs.«01_k».proof.Proof.Gen.Reference6Ideal.Run
public import proofs.«01_k».proof.Proof.Values6
public import proofs.«01_k».proof.Proof.Gen.Kernel7.Frame
public import proofs.«01_k».proof.Proof.Gen.Reference7Ideal.Run
public import proofs.«01_k».proof.Proof.Values7
public import proofs.«01_k».proof.Proof.Gen.Kernel8.Frame
public import proofs.«01_k».proof.Proof.Gen.Reference8Ideal.Run
public import proofs.«01_k».proof.Proof.Values8
public import proofs.«01_k».proof.Proof.Gen.Kernel9.Frame
public import proofs.«01_k».proof.Proof.Gen.Reference9Ideal.Run
public import proofs.«01_k».proof.Proof.Values9
public import Idealize.ShloMosaic.Lib.Quiescent

@[expose] public section

set_option maxRecDepth 16384

noncomputable section

namespace Cert.Proof

open Idealize.ShloMosaic Idealize.SL.Sem

/-- The reference runs, and its arguments end as they began. It has no semaphore. -/
theorem reference_frame : Cert.quiescent_ReferenceIdeal (hReferenceIdeal := Cert.ReferenceIdeal.Gen.facts) := fun m ρ _ =>
  (θ_run _ _ _).mono (fun _ h => ⟨fun c => (h c).2.2.2.2.2, sem_eq_zero_of_no_sems rfl _⟩) (Cert.ReferenceIdeal.Value.run (F := Ideal) m ρ)

/-- Each named constant is the rounding of its real number. -/
theorem constants_named : Cert.preserves_Kernel_KernelIdeal :=
  ⟨IdealRules.named_const.statement Cert.KernelIdeal.κ "scale_log2e" .f32 0x3E0293EE#32 _ rfl,
    IdealRules.named_const.statement Cert.KernelIdeal.κ "scale" .f32 0x3DB504F3#32 _ rfl⟩

/-- At finite arguments both programs end with the gradients of the queries, keys, values and decay. -/
theorem values : Cert.algebraic_KernelIdeal_ReferenceIdeal_pre_finite (hKernelIdeal := Cert.KernelIdeal.Gen.facts)
    (hReferenceIdeal := Cert.ReferenceIdeal.Gen.facts) (hPre_finite := Cert.Pre_finite.Gen.facts) := fun m ρ m' ρ' pre args => by
  have real := fun c => Cert.Pre_finite.Gen.finite (pre c)
  exact ⟨_, _, _, _, _, Cert.KernelIdeal.Gen.run_values m ρ real, Cert.ReferenceIdeal.At.run_values m' ρ' real args⟩

/-! The products: each program runs and keeps its arguments, and both programs of a pair end with the same array. -/

theorem reference2_frame : Cert.quiescent_Reference2Ideal (hReference2Ideal := Cert.Reference2Ideal.Gen.facts) := fun m ρ _ =>
  (θ_run _ _ _).mono (fun r h => ⟨fun c => (h c).2, sem_eq_zero_of_no_sems rfl _⟩) (Cert.Reference2Ideal.Value.run (F := Ideal) m ρ)

theorem values2 : Cert.algebraic_Kernel2Ideal_Reference2Ideal (hKernel2Ideal := Cert.Kernel2Ideal.Gen.facts)
    (hReference2Ideal := Cert.Reference2Ideal.Gen.facts) := by
  intro m ρ m' ρ' _ hagree
  refine ⟨_, Cert.Kernel2Ideal.Gen.run_values m ρ, ?_⟩
  refine (θ_run Cert.Reference2Ideal.defs _ _).mono (fun _ h c => ⟨?_, (h c).2⟩) (Cert.Reference2Ideal.Value.run (F := Ideal) m' ρ')
  rw [(h c).1]
  funext y
  change Cert.Reference2Ideal.S8x2048x1408.Idx at y
  idx_vars y
  refine (Cert.Reference2Ideal.Value.ref_val _ _ _ y0 y1 y2).trans ?_
  obtain ⟨h0, h1, h2⟩ := hagree c
  rw [h0, h1, h2]
  rfl

theorem reference3_frame : Cert.quiescent_Reference3Ideal (hReference3Ideal := Cert.Reference3Ideal.Gen.facts) := fun m ρ _ =>
  (θ_run _ _ _).mono (fun r h => ⟨fun c => (h c).2, sem_eq_zero_of_no_sems rfl _⟩) (Cert.Reference3Ideal.Value.run (F := Ideal) m ρ)

theorem values3 : Cert.algebraic_Kernel3Ideal_Reference3Ideal (hKernel3Ideal := Cert.Kernel3Ideal.Gen.facts)
    (hReference3Ideal := Cert.Reference3Ideal.Gen.facts) := by
  intro m ρ m' ρ' _ hagree
  refine ⟨_, Cert.Kernel3Ideal.Gen.run_values m ρ, ?_⟩
  refine (θ_run Cert.Reference3Ideal.defs _ _).mono (fun _ h c => ⟨?_, (h c).2⟩) (Cert.Reference3Ideal.Value.run (F := Ideal) m' ρ')
  rw [(h c).1]
  funext y
  change Cert.Reference3Ideal.S8192x2048.Idx at y
  idx_vars y
  refine (Cert.Reference3Ideal.Value.ref_val _ _ _ y0 y1).trans ?_
  obtain ⟨h0, h1, h2⟩ := hagree c
  rw [h0, h1, h2]
  rfl

theorem reference4_frame : Cert.quiescent_Reference4Ideal (hReference4Ideal := Cert.Reference4Ideal.Gen.facts) := fun m ρ _ =>
  (θ_run _ _ _).mono (fun r h => ⟨fun c => (h c).2, sem_eq_zero_of_no_sems rfl _⟩) (Cert.Reference4Ideal.Value.run (F := Ideal) m ρ)

theorem values4 : Cert.algebraic_Kernel4Ideal_Reference4Ideal (hKernel4Ideal := Cert.Kernel4Ideal.Gen.facts)
    (hReference4Ideal := Cert.Reference4Ideal.Gen.facts) := by
  intro m ρ m' ρ' _ hagree
  refine ⟨_, Cert.Kernel4Ideal.Gen.run_values m ρ, ?_⟩
  refine (θ_run Cert.Reference4Ideal.defs _ _).mono (fun _ h c => ⟨?_, (h c).2⟩) (Cert.Reference4Ideal.Value.run (F := Ideal) m' ρ')
  rw [(h c).1]
  funext y
  change Cert.Reference4Ideal.S8192x11264.Idx at y
  idx_vars y
  refine (Cert.Reference4Ideal.Value.ref_val _ _ y0 y1).trans ?_
  obtain ⟨h0, h1⟩ := hagree c
  rw [h0, h1]
  rfl

theorem reference5_frame : Cert.quiescent_Reference5Ideal (hReference5Ideal := Cert.Reference5Ideal.Gen.facts) := fun m ρ _ =>
  (θ_run _ _ _).mono (fun r h => ⟨fun c => (h c).2, sem_eq_zero_of_no_sems rfl _⟩) (Cert.Reference5Ideal.Value.run (F := Ideal) m ρ)

theorem values5 : Cert.algebraic_Kernel5Ideal_Reference5Ideal (hKernel5Ideal := Cert.Kernel5Ideal.Gen.facts)
    (hReference5Ideal := Cert.Reference5Ideal.Gen.facts) := by
  intro m ρ m' ρ' _ hagree
  refine ⟨_, Cert.Kernel5Ideal.Gen.run_values m ρ, ?_⟩
  refine (θ_run Cert.Reference5Ideal.defs _ _).mono (fun _ h c => ⟨?_, (h c).2⟩) (Cert.Reference5Ideal.Value.run (F := Ideal) m' ρ')
  rw [(h c).1]
  funext y
  change Cert.Reference5Ideal.S8192x2048.Idx at y
  idx_vars y
  refine (Cert.Reference5Ideal.Value.ref_val _ _ y0 y1).trans ?_
  obtain ⟨h0, h1⟩ := hagree c
  rw [h0, h1]
  rfl

theorem reference6_frame : Cert.quiescent_Reference6Ideal (hReference6Ideal := Cert.Reference6Ideal.Gen.facts) := fun m ρ _ =>
  (θ_run _ _ _).mono (fun r h => ⟨fun c => (h c).2, sem_eq_zero_of_no_sems rfl _⟩) (Cert.Reference6Ideal.Value.run (F := Ideal) m ρ)

theorem values6 : Cert.algebraic_Kernel6Ideal_Reference6Ideal (hKernel6Ideal := Cert.Kernel6Ideal.Gen.facts)
    (hReference6Ideal := Cert.Reference6Ideal.Gen.facts) := by
  intro m ρ m' ρ' _ hagree
  refine ⟨_, Cert.Kernel6Ideal.Gen.run_values m ρ, ?_⟩
  refine (θ_run Cert.Reference6Ideal.defs _ _).mono (fun _ h c => ⟨?_, (h c).2⟩) (Cert.Reference6Ideal.Value.run (F := Ideal) m' ρ')
  rw [(h c).1]
  funext y
  change Cert.Reference6Ideal.S5632x2048.Idx at y
  idx_vars y
  refine (Cert.Reference6Ideal.Value.ref_val _ _ y0 y1).trans ?_
  obtain ⟨h0, h1⟩ := hagree c
  rw [h0, h1]
  rfl

theorem reference7_frame : Cert.quiescent_Reference7Ideal (hReference7Ideal := Cert.Reference7Ideal.Gen.facts) := fun m ρ _ =>
  (θ_run _ _ _).mono (fun r h => ⟨fun c => (h c).2, sem_eq_zero_of_no_sems rfl _⟩) (Cert.Reference7Ideal.Value.run (F := Ideal) m ρ)

theorem values7 : Cert.algebraic_Kernel7Ideal_Reference7Ideal (hKernel7Ideal := Cert.Kernel7Ideal.Gen.facts)
    (hReference7Ideal := Cert.Reference7Ideal.Gen.facts) := by
  intro m ρ m' ρ' _ hagree
  refine ⟨_, Cert.Kernel7Ideal.Gen.run_values m ρ, ?_⟩
  refine (θ_run Cert.Reference7Ideal.defs _ _).mono (fun _ h c => ⟨?_, (h c).2⟩) (Cert.Reference7Ideal.Value.run (F := Ideal) m' ρ')
  rw [(h c).1]
  funext y
  change Cert.Reference7Ideal.S8192x5632.Idx at y
  idx_vars y
  refine (Cert.Reference7Ideal.Value.ref_val _ _ y0 y1).trans ?_
  obtain ⟨h0, h1⟩ := hagree c
  rw [h0, h1]
  rfl

theorem reference8_frame : Cert.quiescent_Reference8Ideal (hReference8Ideal := Cert.Reference8Ideal.Gen.facts) := fun m ρ _ =>
  (θ_run _ _ _).mono (fun r h => ⟨fun c => (h c).2, sem_eq_zero_of_no_sems rfl _⟩) (Cert.Reference8Ideal.Value.run (F := Ideal) m ρ)

theorem values8 : Cert.algebraic_Kernel8Ideal_Reference8Ideal (hKernel8Ideal := Cert.Kernel8Ideal.Gen.facts)
    (hReference8Ideal := Cert.Reference8Ideal.Gen.facts) := by
  intro m ρ m' ρ' _ hagree
  refine ⟨_, Cert.Kernel8Ideal.Gen.run_values m ρ, ?_⟩
  refine (θ_run Cert.Reference8Ideal.defs _ _).mono (fun _ h c => ⟨?_, (h c).2⟩) (Cert.Reference8Ideal.Value.run (F := Ideal) m' ρ')
  rw [(h c).1]
  funext y
  change Cert.Reference8Ideal.S2048x5760.Idx at y
  idx_vars y
  refine (Cert.Reference8Ideal.Value.ref_val _ _ y0 y1).trans ?_
  obtain ⟨h0, h1⟩ := hagree c
  rw [h0, h1]
  rfl

theorem reference9_frame : Cert.quiescent_Reference9Ideal (hReference9Ideal := Cert.Reference9Ideal.Gen.facts) := fun m ρ _ =>
  (θ_run _ _ _).mono (fun r h => ⟨fun c => (h c).2, sem_eq_zero_of_no_sems rfl _⟩) (Cert.Reference9Ideal.Value.run (F := Ideal) m ρ)

theorem values9 : Cert.algebraic_Kernel9Ideal_Reference9Ideal (hKernel9Ideal := Cert.Kernel9Ideal.Gen.facts)
    (hReference9Ideal := Cert.Reference9Ideal.Gen.facts) := by
  intro m ρ m' ρ' _ hagree
  refine ⟨_, Cert.Kernel9Ideal.Gen.run_values m ρ, ?_⟩
  refine (θ_run Cert.Reference9Ideal.defs _ _).mono (fun _ h c => ⟨?_, (h c).2⟩) (Cert.Reference9Ideal.Value.run (F := Ideal) m' ρ')
  rw [(h c).1]
  funext y
  change Cert.Reference9Ideal.S8192x2048.Idx at y
  idx_vars y
  refine (Cert.Reference9Ideal.Value.ref_val _ _ y0 y1).trans ?_
  obtain ⟨h0, h1⟩ := hagree c
  rw [h0, h1]
  rfl

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts,
  Cert.Reference5Ideal.Gen.facts, Cert.Kernel6.Gen.facts, Cert.Kernel6Ideal.Gen.facts, Cert.Reference6Ideal.Gen.facts,
  Cert.Kernel7.Gen.facts, Cert.Kernel7Ideal.Gen.facts, Cert.Reference7Ideal.Gen.facts, Cert.Kernel8.Gen.facts, Cert.Kernel8Ideal.Gen.facts,
  Cert.Reference8Ideal.Gen.facts, Cert.Kernel9.Gen.facts, Cert.Kernel9Ideal.Gen.facts, Cert.Reference9Ideal.Gen.facts,
  Cert.Pre_finite.Gen.facts, fun m ρ _ => Cert.Kernel.Gen.frame m ρ, fun m ρ _ => Cert.KernelIdeal.Gen.frame m ρ,
  fun m ρ _ => Cert.KernelIdeal.Gen.frame m ρ, reference_frame, fun m ρ _ => reference_frame m ρ trivial,
  fun m ρ _ => Cert.Kernel2.Gen.frame m ρ, fun m ρ _ => Cert.Kernel2Ideal.Gen.frame m ρ, reference2_frame,
  fun m ρ _ => Cert.Kernel3.Gen.frame m ρ, fun m ρ _ => Cert.Kernel3Ideal.Gen.frame m ρ, reference3_frame,
  fun m ρ _ => Cert.Kernel4.Gen.frame m ρ, fun m ρ _ => Cert.Kernel4Ideal.Gen.frame m ρ, reference4_frame,
  fun m ρ _ => Cert.Kernel5.Gen.frame m ρ, fun m ρ _ => Cert.Kernel5Ideal.Gen.frame m ρ, reference5_frame,
  fun m ρ _ => Cert.Kernel6.Gen.frame m ρ, fun m ρ _ => Cert.Kernel6Ideal.Gen.frame m ρ, reference6_frame,
  fun m ρ _ => Cert.Kernel7.Gen.frame m ρ, fun m ρ _ => Cert.Kernel7Ideal.Gen.frame m ρ, reference7_frame,
  fun m ρ _ => Cert.Kernel8.Gen.frame m ρ, fun m ρ _ => Cert.Kernel8Ideal.Gen.frame m ρ, reference8_frame,
  fun m ρ _ => Cert.Kernel9.Gen.frame m ρ, fun m ρ _ => Cert.Kernel9Ideal.Gen.frame m ρ, reference9_frame, constants_named, values,
  trivial, values2, trivial, values3, trivial, values4, trivial, values5, trivial, values6, trivial, values7, trivial, values8, trivial,
  values9⟩

end Cert.Proof

end
